-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_on_columns_written [hKernel5Ideal : Cert.Kernel5Ideal.Facts] [hReference5Ideal : Cert.Reference5Ideal.Facts] [hOn_columns_written : Cert.On_columns_written.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          (∀ i : (⟨2, ![33280, 11008]⟩ : Shape).Idx, (Cert.On_columns_written.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) i = 1#1 → r.2.mem ((c.tc : Thread Cert.Kernel5Ideal.nD Cert.Kernel5Ideal.τ).loc Cert.Kernel5Ideal.main_v6) i = v0 c i)
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          (∀ i : (⟨2, ![33280, 11008]⟩ : Shape).Idx, (Cert.On_columns_written.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) i = 1#1 → r.2.mem ((c.tc : Thread Cert.Reference5Ideal.nD Cert.Reference5Ideal.τ).loc Cert.Reference5Ideal.main_v32) i = v0 c i)
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_v33) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v30)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v30) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hOn_columns_written : Cert.On_columns_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_on_columns_written (hKernel5Ideal := hKernel5Ideal) (hReference5Ideal := hReference5Ideal) (hOn_columns_written := hOn_columns_written)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== On_columns_written.lean ====
abbrev S52x336x4096 : Shape := ⟨3, ![52, 336, 4096]⟩
abbrev S4096x22016 : Shape := ⟨2, ![4096, 22016]⟩
abbrev S3x22016 : Shape := ⟨2, ![3, 22016]⟩
abbrev S33280x11008 : Shape := ⟨2, ![33280, 11008]⟩
abbrev S_ : Shape := ⟨0, ![]⟩

class Facts : Prop where
  bcast_S_S33280x11008 : S_.BroadcastsInDim S33280x11008 (![] : Fin 0 → Fin S33280x11008.rank)

variable [Facts]

def fn {F : FTy → Type} [FloatOps F] (main_arg0 : IVec S52x336x4096 32) (main_arg1 : FVec F S4096x22016 .f32) (main_arg2 : FVec F S3x22016 .f32) : IVec S33280x11008 1 :=
  let main_v0 : IVec S33280x11008 32 := iotaInDim S33280x11008 32 1
  let main_c : IVec S_ 32 := constantI S_ 32 10752#32
  let main_v1 : IVec S33280x11008 32 := broadcastInDim S33280x11008 ![] bcast_S_S33280x11008 main_c
  let main_v2 : IVec S33280x11008 1 := cmpi .slt main_v0 main_v1
  main_v2
-- ==== Pre_finite.lean ====
abbrev S33280x12288 : Shape := ⟨2, ![33280, 12288]⟩
abbrev S32x15x31 : Shape := ⟨3, ![32, 15, 31]⟩
abbrev S_ : Shape := ⟨0, ![]⟩

class Facts : Prop where
  bcast_S_S33280x12288 : S_.BroadcastsInDim S33280x12288 (![] : Fin 0 → Fin S33280x12288.rank)
  bcast_S_S32x15x31 : S_.BroadcastsInDim S32x15x31 (![] : Fin 0 → Fin S32x15x31.rank)

variable [Facts]

def fn {F : FTy → Type} [FloatOps F] (main_arg0 : FVec F S33280x12288 .bf16) (main_arg1 : FVec F S32x15x31 .f32) : IVec S33280x12288 1 × IVec S32x15x31 1 :=
  let main_v0 : FVec F S33280x12288 .bf16 := Host.absf main_arg0
  let main_cst : FVec F S_ .bf16 := constant S_ .bf16 0x7F80#16
  let main_v1 : FVec F S33280x12288 .bf16 := broadcastInDim S33280x12288 ![] bcast_S_S33280x12288 main_cst
  let main_v2 : IVec S33280x12288 1 := cmpf .olt main_v0 main_v1
  let main_v3 : FVec F S32x15x31 .f32 := Host.absf main_arg1
  let main_cst_0 : FVec F S_ .f32 := constant S_ .f32 0x7F800000#32
  let main_v4 : FVec F S32x15x31 .f32 := broadcastInDim S32x15x31 ![] bcast_S_S32x15x31 main_cst_0
  let main_v5 : IVec S32x15x31 1 := cmpf .olt main_v3 main_v4
  (main_v2, main_v5)
-- ==== Kernel.lean ====
abbrev S33280x12288 : Shape := ⟨2, ![33280, 12288]⟩
abbrev S32x15x31 : Shape := ⟨3, ![32, 15, 31]⟩
abbrev S64x64 : Shape := ⟨2, ![64, 64]⟩
abbrev S3x4x3x4 : Shape := ⟨4, ![3, 4, 3, 4]⟩
abbrev S_ : Shape := ⟨0, ![]⟩
abbrev S64x64x1 : Shape := ⟨3, ![64, 64, 1]⟩
abbrev S32x15x64x64 : Shape := ⟨4, ![32, 15, 64, 64]⟩
abbrev S3x4x3x4x1 : Shape := ⟨5, ![3, 4, 3, 4, 1]⟩
abbrev S32x3x4x3x4x64x64 : Shape := ⟨7, ![32, 3, 4, 3, 4, 64, 64]⟩
abbrev S3x4x3x4x1x1 : Shape := ⟨6, ![3, 4, 3, 4, 1, 1]⟩
abbrev S1x1x1x1x64x64 : Shape := ⟨6, ![1, 1, 1, 1, 64, 64]⟩
abbrev S3x4x3x4x64x64 : Shape := ⟨6, ![3, 4, 3, 4, 64, 64]⟩
abbrev S1x3x4x3x4x64x64 : Shape := ⟨7, ![1, 3, 4, 3, 4, 64, 64]⟩
abbrev S3x32x4x64x3x4x64 : Shape := ⟨7, ![3, 32, 4, 64, 3, 4, 64]⟩
abbrev S3x32x256x768 : Shape := ⟨4, ![3, 32, 256, 768]⟩
abbrev S16384x4096 : Shape := ⟨2, ![16384, 4096]⟩
abbrev S256x512 : Shape := ⟨2, ![256, 512]⟩
abbrev S16x512 : Shape := ⟨2, ![16, 512]⟩
abbrev S1x4x256x768 : Shape := ⟨4, ![1, 4, 256, 768]⟩
abbrev S256x128 : Shape := ⟨2, ![256, 128]⟩
abbrev S256x256 : Shape := ⟨2, ![256, 256]⟩
abbrev S1x1x256x256 : Shape := ⟨4, ![1, 1, 256, 256]⟩
abbrev S16x128 : Shape := ⟨2, ![16, 128]⟩
abbrev S256x16 : Shape := ⟨2, ![256, 16]⟩
abbrev S256 : Shape := ⟨1, ![256]⟩
abbrev S256x1 : Shape := ⟨2, ![256, 1]⟩

abbrev nBuf : Space → Nat
  | .hbm => 34
  | .vmem => 22
  | .smem => 0
  | _ => 0

abbrev bufTy : (tb : Table) → Fin (tcTables nBuf tb) → BufTy
  | .hbm, ⟨0, _⟩ => ⟨S33280x12288, .bf16⟩
  | .hbm, ⟨1, _⟩ => ⟨S32x15x31, .f32⟩
  | .hbm, ⟨2, _⟩ => ⟨S64x64, .i32⟩
  | .hbm, ⟨3, _⟩ => ⟨S64x64, .i1⟩
  | .hbm, ⟨4, _⟩ => ⟨S3x4x3x4, .i32⟩
  | .hbm, ⟨5, _⟩ => ⟨S3x4x3x4, .i1⟩
  | .hbm, ⟨6, _⟩ => ⟨S3x4x3x4, .i1⟩
  | .hbm, ⟨7, _⟩ => ⟨S64x64, .i1⟩
  | .hbm, ⟨8, _⟩ => ⟨S_, .i32⟩
  | .hbm, ⟨9, _⟩ => ⟨S64x64, .i32⟩
  | .hbm, ⟨10, _⟩ => ⟨S64x64, .i32⟩
  | .hbm, ⟨11, _⟩ => ⟨S64x64, .i32⟩
  | .hbm, ⟨12, _⟩ => ⟨S64x64x1, .i32⟩
  | .hbm, ⟨13, _⟩ => ⟨S32x15x64x64, .f32⟩
  | .hbm, ⟨14, _⟩ => ⟨S_, .i32⟩
  | .hbm, ⟨15, _⟩ => ⟨S3x4x3x4, .i32⟩
  | .hbm, ⟨16, _⟩ => ⟨S3x4x3x4, .i32⟩
  | .hbm, ⟨17, _⟩ => ⟨S3x4x3x4, .i32⟩
  | .hbm, ⟨18, _⟩ => ⟨S3x4x3x4x1, .i32⟩
  | .hbm, ⟨19, _⟩ => ⟨S32x3x4x3x4x64x64, .f32⟩
  | .hbm, ⟨20, _⟩ => ⟨S3x4x3x4x1x1, .i1⟩
  | .hbm, ⟨21, _⟩ => ⟨S1x1x1x1x64x64, .i1⟩
  | .hbm, ⟨22, _⟩ => ⟨S3x4x3x4x64x64, .i1⟩
  | .hbm, ⟨23, _⟩ => ⟨S3x4x3x4x64x64, .i1⟩
  | .hbm, ⟨24, _⟩ => ⟨S3x4x3x4x64x64, .i1⟩
  | .hbm, ⟨25, _⟩ => ⟨S1x3x4x3x4x64x64, .i1⟩
  | .hbm, ⟨26, _⟩ => ⟨S_, .f32⟩
  | .hbm, ⟨27, _⟩ => ⟨S_, .f32⟩
  | .hbm, ⟨28, _⟩ => ⟨S32x3x4x3x4x64x64, .i1⟩
  | .hbm, ⟨29, _⟩ => ⟨S32x3x4x3x4x64x64, .f32⟩
  | .hbm, ⟨30, _⟩ => ⟨S32x3x4x3x4x64x64, .f32⟩
  | .hbm, ⟨31, _⟩ => ⟨S3x32x4x64x3x4x64, .f32⟩
  | .hbm, ⟨32, _⟩ => ⟨S3x32x256x768, .f32⟩
  | .hbm, ⟨33, _⟩ => ⟨S16384x4096, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S16x512, .bf16⟩
  | .local _ .vmem, ⟨15, _⟩ => ⟨S16x512, .bf16⟩
  | .local _ .vmem, ⟨16, _⟩ => ⟨S16x512, .bf16⟩
  | .local _ .vmem, ⟨17, _⟩ => ⟨S16x512, .bf16⟩
  | .local _ .vmem, ⟨18, _⟩ => ⟨S1x4x256x768, .f32⟩
  | .local _ .vmem, ⟨19, _⟩ => ⟨S1x4x256x768, .f32⟩
  | .local _ .vmem, ⟨20, _⟩ => ⟨S256x512, .bf16⟩
  | .local _ .vmem, ⟨21, _⟩ => ⟨S256x512, .bf16⟩
  | _, _ => ⟨S33280x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_6 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![8, 8, 8], ![false, false, false]⟩

def k0_mult1 (i : grid0.Coords) : BitVec 32 :=
  let c32_i32 : BitVec 32 := 32#32
  let arg1 : BitVec 32 := BitVec.ofNat 32 (i 1).val
  let c2080_i32 : BitVec 32 := 2080#32
  let v0 : BitVec 32 := Scalar.muli arg1 c2080_i32
  let v1 : BitVec 32 := Scalar.addi c32_i32 v0
  let c7_i32 : BitVec 32 := 7#32
  let c0_i32_0 : BitVec 32 := 0#32
  let arg2 : BitVec 32 := BitVec.ofNat 32 (i 2).val
  let c0_i32 : BitVec 32 := 0#32
  let v2 : BitVec 32 := Scalar.addi arg2 c0_i32
  let v3 : BitVec 32 := Scalar.maxsi c0_i32_0 v2
  let v4 : BitVec 32 := Scalar.minsi c7_i32 v3
  let c256_i32 : BitVec 32 := 256#32
  let v5 : BitVec 32 := Scalar.muli v4 c256_i32
  let v6 : BitVec 32 := Scalar.addi v1 v5
  v6
def k0_mult2 (i : grid0.Coords) : BitVec 32 :=
  let c0_i32_1 : BitVec 32 := 0#32
  let arg0 : BitVec 32 := BitVec.ofNat 32 (i 0).val
  let c512_i32 : BitVec 32 := 512#32
  let v7 : BitVec 32 := Scalar.muli arg0 c512_i32
  let v8 : BitVec 32 := Scalar.addi c0_i32_1 v7
  v8
def k0_mult3 (i : grid0.Coords) : BitVec 32 :=
  let c32_i32 : BitVec 32 := 32#32
  let arg1 : BitVec 32 := BitVec.ofNat 32 (i 1).val
  let c2080_i32 : BitVec 32 := 2080#32
  let v0 : BitVec 32 := Scalar.muli arg1 c2080_i32
  let v1 : BitVec 32 := Scalar.addi c32_i32 v0
  let c7_i32 : BitVec 32 := 7#32
  let c0_i32 : BitVec 32 := 0#32
  let arg2 : BitVec 32 := BitVec.ofNat 32 (i 2).val
  let c_m1_i32 : BitVec 32 := 4294967295#32
  let v2 : BitVec 32 := Scalar.addi arg2 c_m1_i32
  let v3 : BitVec 32 := Scalar.maxsi c0_i32 v2
  let v4 : BitVec 32 := Scalar.minsi c7_i32 v3
  let c256_i32 : BitVec 32 := 256#32
  let v5 : BitVec 32 := Scalar.muli v4 c256_i32
  let v6 : BitVec 32 := Scalar.addi v1 v5
  v6
def k0_mult4 (i : grid0.Coords) : BitVec 32 :=
  let c4096_i32 : BitVec 32 := 4096#32
  let arg0 : BitVec 32 := BitVec.ofNat 32 (i 0).val
  let c512_i32 : BitVec 32 := 512#32
  let v7 : BitVec 32 := Scalar.muli arg0 c512_i32
  let v8 : BitVec 32 := Scalar.addi c4096_i32 v7
  v8
def k0_mult5 (i : grid0.Coords) : BitVec 32 :=
  let c32_i32 : BitVec 32 := 32#32
  let arg1 : BitVec 32 := BitVec.ofNat 32 (i 1).val
  let c2080_i32 : BitVec 32 := 2080#32
  let v0 : BitVec 32 := Scalar.muli arg1 c2080_i32
  let v1 : BitVec 32 := Scalar.addi c32_i32 v0
  let c7_i32 : BitVec 32 := 7#32
  let c0_i32_0 : BitVec 32 := 0#32
  let arg2 : BitVec 32 := BitVec.ofNat 32 (i 2).val
  let c0_i32 : BitVec 32 := 0#32
  let v2 : BitVec 32 := Scalar.addi arg2 c0_i32
  let v3 : BitVec 32 := Scalar.maxsi c0_i32_0 v2
  let v4 : BitVec 32 := Scalar.minsi c7_i32 v3
  let c256_i32 : BitVec 32 := 256#32
  let v5 : BitVec 32 := Scalar.muli v4 c256_i32
  let v6 : BitVec 32 := Scalar.addi v1 v5
  v6
def k0_mult6 (i : grid0.Coords) : BitVec 32 :=
  let c4096_i32 : BitVec 32 := 4096#32
  let arg0 : BitVec 32 := BitVec.ofNat 32 (i 0).val
  let c512_i32 : BitVec 32 := 512#32
  let v7 : BitVec 32 := Scalar.muli arg0 c512_i32
  let v8 : BitVec 32 := Scalar.addi c4096_i32 v7
  v8
def k0_mult7 (i : grid0.Coords) : BitVec 32 :=
  let c32_i32 : BitVec 32 := 32#32
  let arg1 : BitVec 32 := BitVec.ofNat 32 (i 1).val
  let c2080_i32 : BitVec 32 := 2080#32
  let v0 : BitVec 32 := Scalar.muli arg1 c2080_i32
  let v1 : BitVec 32 := Scalar.addi c32_i32 v0
  let c7_i32 : BitVec 32 := 7#32
  let c0_i32 : BitVec 32 := 0#32
  let arg2 : BitVec 32 := BitVec.ofNat 32 (i 2).val
  let c1_i32 : BitVec 32 := 1#32
  let v2 : BitVec 32 := Scalar.addi arg2 c1_i32
  let v3 : BitVec 32 := Scalar.maxsi c0_i32 v2
  let v4 : BitVec 32 := Scalar.minsi c7_i32 v3
  let c256_i32 : BitVec 32 := 256#32
  let v5 : BitVec 32 := Scalar.muli v4 c256_i32
  let v6 : BitVec 32 := Scalar.addi v1 v5
  v6
def k0_mult8 (i : grid0.Coords) : BitVec 32 :=
  let c4096_i32 : BitVec 32 := 4096#32
  let arg0 : BitVec 32 := BitVec.ofNat 32 (i 0).val
  let c512_i32 : BitVec 32 := 512#32
  let v7 : BitVec 32 := Scalar.muli arg0 c512_i32
  let v8 : BitVec 32 := Scalar.addi c4096_i32 v7
  v8
def k0_mult9 (i : grid0.Coords) : BitVec 32 :=
  let c32_i32 : BitVec 32 := 32#32
  let arg1 : BitVec 32 := BitVec.ofNat 32 (i 1).val
  let c2080_i32 : BitVec 32 := 2080#32
  let v0 : BitVec 32 := Scalar.muli arg1 c2080_i32
  let v1 : BitVec 32 := Scalar.addi c32_i32 v0
  let c7_i32 : BitVec 32 := 7#32
  let c0_i32 : BitVec 32 := 0#32
  let arg2 : BitVec 32 := BitVec.ofNat 32 (i 2).val
  let c_m1_i32 : BitVec 32 := 4294967295#32
  let v2 : BitVec 32 := Scalar.addi arg2 c_m1_i32
  let v3 : BitVec 32 := Scalar.maxsi c0_i32 v2
  let v4 : BitVec 32 := Scalar.minsi c7_i32 v3
  let c256_i32 : BitVec 32 := 256#32
  let v5 : BitVec 32 := Scalar.muli v4 c256_i32
  let v6 : BitVec 32 := Scalar.addi v1 v5
  v6
def k0_mult10 (i : grid0.Coords) : BitVec 32 :=
  let c8192_i32 : BitVec 32 := 8192#32
  let arg0 : BitVec 32 := BitVec.ofNat 32 (i 0).val
  let c512_i32 : BitVec 32 := 512#32
  let v7 : BitVec 32 := Scalar.muli arg0 c512_i32
  let v8 : BitVec 32 := Scalar.addi c8192_i32 v7
  v8
def k0_mult11 (i : grid0.Coords) : BitVec 32 :=
  let c32_i32 : BitVec 32 := 32#32
  let arg1 : BitVec 32 := BitVec.ofNat 32 (i 1).val
  let c2080_i32 : BitVec 32 := 2080#32
  let v0 : BitVec 32 := Scalar.muli arg1 c2080_i32
  let v1 : BitVec 32 := Scalar.addi c32_i32 v0
  let c7_i32 : BitVec 32 := 7#32
  let c0_i32_0 : BitVec 32 := 0#32
  let arg2 : BitVec 32 := BitVec.ofNat 32 (i 2).val
  let c0_i32 : BitVec 32 := 0#32
  let v2 : BitVec 32 := Scalar.addi arg2 c0_i32
  let v3 : BitVec 32 := Scalar.maxsi c0_i32_0 v2
  let v4 : BitVec 32 := Scalar.minsi c7_i32 v3
  let c256_i32 : BitVec 32 := 256#32
  let v5 : BitVec 32 := Scalar.muli v4 c256_i32
  let v6 : BitVec 32 := Scalar.addi v1 v5
  v6
def k0_mult12 (i : grid0.Coords) : BitVec 32 :=
  let c8192_i32 : BitVec 32 := 8192#32
  let arg0 : BitVec 32 := BitVec.ofNat 32 (i 0).val
  let c512_i32 : BitVec 32 := 512#32
  let v7 : BitVec 32 := Scalar.muli arg0 c512_i32
  let v8 : BitVec 32 := Scalar.addi c8192_i32 v7
  v8
def k0_mult13 (i : grid0.Coords) : BitVec 32 :=
  let c32_i32 : BitVec 32 := 32#32
  let arg1 : BitVec 32 := BitVec.ofNat 32 (i 1).val
  let c2080_i32 : BitVec 32 := 2080#32
  let v0 : BitVec 32 := Scalar.muli arg1 c2080_i32
  let v1 : BitVec 32 := Scalar.addi c32_i32 v0
  let c7_i32 : BitVec 32 := 7#32
  let c0_i32 : BitVec 32 := 0#32
  let arg2 : BitVec 32 := BitVec.ofNat 32 (i 2).val
  let c1_i32 : BitVec 32 := 1#32
  let v2 : BitVec 32 := Scalar.addi arg2 c1_i32
  let v3 : BitVec 32 := Scalar.maxsi c0_i32 v2
  let v4 : BitVec 32 := Scalar.minsi c7_i32 v3
  let c256_i32 : BitVec 32 := 256#32
  let v5 : BitVec 32 := Scalar.muli v4 c256_i32
  let v6 : BitVec 32 := Scalar.addi v1 v5
  v6
def k0_mult14 (i : grid0.Coords) : BitVec 32 :=
  let c8192_i32 : BitVec 32 := 8192#32
  let arg0 : BitVec 32 := BitVec.ofNat 32 (i 0).val
  let c512_i32 : BitVec 32 := 512#32
  let v7 : BitVec 32 := Scalar.muli arg0 c512_i32
  let v8 : BitVec 32 := Scalar.addi c8192_i32 v7
  v8
def k0_mult15 (i : grid0.Coords) : BitVec 32 :=
  let c16_i32 : BitVec 32 := 16#32
  let arg1 : BitVec 32 := BitVec.ofNat 32 (i 1).val
  let c2080_i32 : BitVec 32 := 2080#32
  let v0 : BitVec 32 := Scalar.muli arg1 c2080_i32
  let v1 : BitVec 32 := Scalar.addi c16_i32 v0
  v1
def k0_mult16 (i : grid0.Coords) : BitVec 32 :=
  let c4096_i32 : BitVec 32 := 4096#32
  let arg0 : BitVec 32 := BitVec.ofNat 32 (i 0).val
  let c512_i32 : BitVec 32 := 512#32
  let v2 : BitVec 32 := Scalar.muli arg0 c512_i32
  let v3 : BitVec 32 := Scalar.addi c4096_i32 v2
  v3
def k0_mult17 (i : grid0.Coords) : BitVec 32 :=
  let c16_i32 : BitVec 32 := 16#32
  let arg1 : BitVec 32 := BitVec.ofNat 32 (i 1).val
  let c2080_i32 : BitVec 32 := 2080#32
  let v0 : BitVec 32 := Scalar.muli arg1 c2080_i32
  let v1 : BitVec 32 := Scalar.addi c16_i32 v0
  v1
def k0_mult18 (i : grid0.Coords) : BitVec 32 :=
  let c8192_i32 : BitVec 32 := 8192#32
  let arg0 : BitVec 32 := BitVec.ofNat 32 (i 0).val
  let c512_i32 : BitVec 32 := 512#32
  let v2 : BitVec 32 := Scalar.muli arg0 c512_i32
  let v3 : BitVec 32 := Scalar.addi c8192_i32 v2
  v3
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2080_i32 : BitVec 32 := 2080#32
  let v0 : BitVec 32 := Scalar.muli arg1 c2080_i32
  let c32_i32 : BitVec 32 := 32#32
  let v1 : BitVec 32 := Scalar.addi c32_i32 v0
  let c0_i32 : BitVec 32 := 0#32
  let v2 : BitVec 32 := Scalar.addi arg2 c0_i32
  let c0_i32_0 : BitVec 32 := 0#32
  let c7_i32 : BitVec 32 := 7#32
  let v3 : BitVec 32 := Scalar.maxsi c0_i32_0 v2
  let v4 : BitVec 32 := Scalar.minsi c7_i32 v3
  let c256_i32 : BitVec 32 := 256#32
  let v5 : BitVec 32 := Scalar.muli v4 c256_i32
  let v6 : BitVec 32 := Scalar.addi v1 v5
  let c512_i32 : BitVec 32 := 512#32
  let v7 : BitVec 32 := Scalar.muli arg0 c512_i32
  let c0_i32_1 : BitVec 32 := 0#32
  let v8 : BitVec 32 := Scalar.addi c0_i32_1 v7
  let v9 : BitVec 32 := v6
  let v10 : BitVec 32 := v8
  let c0_i32_2 : BitVec 32 := 0#32
  ![v9.toNat, v10.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2080_i32 : BitVec 32 := 2080#32
  let v0 : BitVec 32 := Scalar.muli arg1 c2080_i32
  let c32_i32 : BitVec 32 := 32#32
  let v1 : BitVec 32 := Scalar.addi c32_i32 v0
  let c_m1_i32 : BitVec 32 := 4294967295#32
  let v2 : BitVec 32 := Scalar.addi arg2 c_m1_i32
  let c0_i32 : BitVec 32 := 0#32
  let c7_i32 : BitVec 32 := 7#32
  let v3 : BitVec 32 := Scalar.maxsi c0_i32 v2
  let v4 : BitVec 32 := Scalar.minsi c7_i32 v3
  let c256_i32 : BitVec 32 := 256#32
  let v5 : BitVec 32 := Scalar.muli v4 c256_i32
  let v6 : BitVec 32 := Scalar.addi v1 v5
  let c512_i32 : BitVec 32 := 512#32
  let v7 : BitVec 32 := Scalar.muli arg0 c512_i32
  let c4096_i32 : BitVec 32 := 4096#32
  let v8 : BitVec 32 := Scalar.addi c4096_i32 v7
  let v9 : BitVec 32 := v6
  let v10 : BitVec 32 := v8
  let c0_i32_0 : BitVec 32 := 0#32
  ![v9.toNat, v10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2080_i32 : BitVec 32 := 2080#32
  let v0 : BitVec 32 := Scalar.muli arg1 c2080_i32
  let c32_i32 : BitVec 32 := 32#32
  let v1 : BitVec 32 := Scalar.addi c32_i32 v0
  let c0_i32 : BitVec 32 := 0#32
  let v2 : BitVec 32 := Scalar.addi arg2 c0_i32
  let c0_i32_0 : BitVec 32 := 0#32
  let c7_i32 : BitVec 32 := 7#32
  let v3 : BitVec 32 := Scalar.maxsi c0_i32_0 v2
  let v4 : BitVec 32 := Scalar.minsi c7_i32 v3
  let c256_i32 : BitVec 32 := 256#32
  let v5 : BitVec 32 := Scalar.muli v4 c256_i32
  let v6 : BitVec 32 := Scalar.addi v1 v5
  let c512_i32 : BitVec 32 := 512#32
  let v7 : BitVec 32 := Scalar.muli arg0 c512_i32
  let c4096_i32 : BitVec 32 := 4096#32
  let v8 : BitVec 32 := Scalar.addi c4096_i32 v7
  let v9 : BitVec 32 := v6
  let v10 : BitVec 32 := v8
  let c0_i32_1 : BitVec 32 := 0#32
  ![v9.toNat, v10.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2080_i32 : BitVec 32 := 2080#32
  let v0 : BitVec 32 := Scalar.muli arg1 c2080_i32
  let c32_i32 : BitVec 32 := 32#32
  let v1 : BitVec 32 := Scalar.addi c32_i32 v0
  let c1_i32 : BitVec 32 := 1#32
  let v2 : BitVec 32 := Scalar.addi arg2 c1_i32
  let c0_i32 : BitVec 32 := 0#32
  let c7_i32 : BitVec 32 := 7#32
  let v3 : BitVec 32 := Scalar.maxsi c0_i32 v2
  let v4 : BitVec 32 := Scalar.minsi c7_i32 v3
  let c256_i32 : BitVec 32 := 256#32
  let v5 : BitVec 32 := Scalar.muli v4 c256_i32
  let v6 : BitVec 32 := Scalar.addi v1 v5
  let c512_i32 : BitVec 32 := 512#32
  let v7 : BitVec 32 := Scalar.muli arg0 c512_i32
  let c4096_i32 : BitVec 32 := 4096#32
  let v8 : BitVec 32 := Scalar.addi c4096_i32 v7
  let v9 : BitVec 32 := v6
  let v10 : BitVec 32 := v8
  let c0_i32_0 : BitVec 32 := 0#32
  ![v9.toNat, v10.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2080_i32 : BitVec 32 := 2080#32
  let v0 : BitVec 32 := Scalar.muli arg1 c2080_i32
  let c32_i32 : BitVec 32 := 32#32
  let v1 : BitVec 32 := Scalar.addi c32_i32 v0
  let c_m1_i32 : BitVec 32 := 4294967295#32
  let v2 : BitVec 32 := Scalar.addi arg2 c_m1_i32
  let c0_i32 : BitVec 32 := 0#32
  let c7_i32 : BitVec 32 := 7#32
  let v3 : BitVec 32 := Scalar.maxsi c0_i32 v2
  let v4 : BitVec 32 := Scalar.minsi c7_i32 v3
  let c256_i32 : BitVec 32 := 256#32
  let v5 : BitVec 32 := Scalar.muli v4 c256_i32
  let v6 : BitVec 32 := Scalar.addi v1 v5
  let c512_i32 : BitVec 32 := 512#32
  let v7 : BitVec 32 := Scalar.muli arg0 c512_i32
  let c8192_i32 : BitVec 32 := 8192#32
  let v8 : BitVec 32 := Scalar.addi c8192_i32 v7
  let v9 : BitVec 32 := v6
  let v10 : BitVec 32 := v8
  let c0_i32_0 : BitVec 32 := 0#32
  ![v9.toNat, v10.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2080_i32 : BitVec 32 := 2080#32
  let v0 : BitVec 32 := Scalar.muli arg1 c2080_i32
  let c32_i32 : BitVec 32 := 32#32
  let v1 : BitVec 32 := Scalar.addi c32_i32 v0
  let c0_i32 : BitVec 32 := 0#32
  let v2 : BitVec 32 := Scalar.addi arg2 c0_i32
  let c0_i32_0 : BitVec 32 := 0#32
  let c7_i32 : BitVec 32 := 7#32
  let v3 : BitVec 32 := Scalar.maxsi c0_i32_0 v2
  let v4 : BitVec 32 := Scalar.minsi c7_i32 v3
  let c256_i32 : BitVec 32 := 256#32
  let v5 : BitVec 32 := Scalar.muli v4 c256_i32
  let v6 : BitVec 32 := Scalar.addi v1 v5
  let c512_i32 : BitVec 32 := 512#32
  let v7 : BitVec 32 := Scalar.muli arg0 c512_i32
  let c8192_i32 : BitVec 32 := 8192#32
  let v8 : BitVec 32 := Scalar.addi c8192_i32 v7
  let v9 : BitVec 32 := v6
  let v10 : BitVec 32 := v8
  let c0_i32_1 : BitVec 32 := 0#32
  ![v9.toNat, v10.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2080_i32 : BitVec 32 := 2080#32
  let v0 : BitVec 32 := Scalar.muli arg1 c2080_i32
  let c32_i32 : BitVec 32 := 32#32
  let v1 : BitVec 32 := Scalar.addi c32_i32 v0
  let c1_i32 : BitVec 32 := 1#32
  let v2 : BitVec 32 := Scalar.addi arg2 c1_i32
  let c0_i32 : BitVec 32 := 0#32
  let c7_i32 : BitVec 32 := 7#32
  let v3 : BitVec 32 := Scalar.maxsi c0_i32 v2
  let v4 : BitVec 32 := Scalar.minsi c7_i32 v3
  let c256_i32 : BitVec 32 := 256#32
  let v5 : BitVec 32 := Scalar.muli v4 c256_i32
  let v6 : BitVec 32 := Scalar.addi v1 v5
  let c512_i32 : BitVec 32 := 512#32
  let v7 : BitVec 32 := Scalar.muli arg0 c512_i32
  let c8192_i32 : BitVec 32 := 8192#32
  let v8 : BitVec 32 := Scalar.addi c8192_i32 v7
  let v9 : BitVec 32 := v6
  let v10 : BitVec 32 := v8
  let c0_i32_0 : BitVec 32 := 0#32
  ![v9.toNat, v10.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2080_i32 : BitVec 32 := 2080#32
  let v0 : BitVec 32 := Scalar.muli arg1 c2080_i32
  let c16_i32 : BitVec 32 := 16#32
  let v1 : BitVec 32 := Scalar.addi c16_i32 v0
  let c512_i32 : BitVec 32 := 512#32
  let v2 : BitVec 32 := Scalar.muli arg0 c512_i32
  let c4096_i32 : BitVec 32 := 4096#32
  let v3 : BitVec 32 := Scalar.addi c4096_i32 v2
  let v4 : BitVec 32 := v1
  let v5 : BitVec 32 := v3
  let c0_i32 : BitVec 32 := 0#32
  ![v4.toNat, v5.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2080_i32 : BitVec 32 := 2080#32
  let v0 : BitVec 32 := Scalar.muli arg1 c2080_i32
  let c16_i32 : BitVec 32 := 16#32
  let v1 : BitVec 32 := Scalar.addi c16_i32 v0
  let c512_i32 : BitVec 32 := 512#32
  let v2 : BitVec 32 := Scalar.muli arg0 c512_i32
  let c8192_i32 : BitVec 32 := 8192#32
  let v3 : BitVec 32 := Scalar.addi c8192_i32 v2
  let v4 : BitVec 32 := v1
  let v5 : BitVec 32 := v3
  let c0_i32 : BitVec 32 := 0#32
  ![v4.toNat, v5.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c7_i32 : BitVec 32 := 7#32
  let v1 : BitVec 1 := Scalar.cmpi .eq arg2 c7_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, arg0.toNat, c0_i32_1.toNat, c0_i32_2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  ![v1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x4x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S33280x12288 : Shape := ⟨2, ![33280, 12288]⟩
abbrev S32x15x31 : Shape := ⟨3, ![32, 15, 31]⟩
abbrev S16640x12288 : Shape := ⟨2, ![16640, 12288]⟩
abbrev S8x2080x3x32x128 : Shape := ⟨5, ![8, 2080, 3, 32, 128]⟩
abbrev S8x2064x3x32x128 : Shape := ⟨5, ![8, 2064, 3, 32, 128]⟩
abbrev S8x2064x1x32x128 : Shape := ⟨5, ![8, 2064, 1, 32, 128]⟩
abbrev S8x2064x32x128 : Shape := ⟨4, ![8, 2064, 32, 128]⟩
abbrev S8x16x32x128 : Shape := ⟨4, ![8, 16, 32, 128]⟩
abbrev S8x2048x32x128 : Shape := ⟨4, ![8, 2048, 32, 128]⟩
abbrev S8x32x64x32x128 : Shape := ⟨5, ![8, 32, 64, 32, 128]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S1x1x64 : Shape := ⟨3, ![1, 1, 64]⟩
abbrev S32x8x64 : Shape := ⟨3, ![32, 8, 64]⟩
abbrev S32x512 : Shape := ⟨2, ![32, 512]⟩
abbrev S32x512x1 : Shape := ⟨3, ![32, 512, 1]⟩
abbrev S8x32x512x32x128 : Shape := ⟨5, ![8, 32, 512, 32, 128]⟩
abbrev S32x32x8x31 : Shape := ⟨4, ![32, 32, 8, 31]⟩
abbrev S64x64x1 : Shape := ⟨3, ![64, 64, 1]⟩
abbrev S32x32x8x64x64 : Shape := ⟨5, ![32, 32, 8, 64, 64]⟩
abbrev S32x32x64x8x64 : Shape := ⟨5, ![32, 32, 64, 8, 64]⟩
abbrev S32x32x64x512 : Shape := ⟨4, ![32, 32, 64, 512]⟩
abbrev S64x1x64 : Shape := ⟨3, ![64, 1, 64]⟩
abbrev S64x8x64 : Shape := ⟨3, ![64, 8, 64]⟩
abbrev S64x512 : Shape := ⟨2, ![64, 512]⟩
abbrev S8x32x32x64x512 : Shape := ⟨5, ![8, 32, 32, 64, 512]⟩
abbrev S1x32x32x64x512 : Shape := ⟨5, ![1, 32, 32, 64, 512]⟩
abbrev S8x32x32x64x16 : Shape := ⟨5, ![8, 32, 32, 64, 16]⟩
abbrev S8x32x32x64x528 : Shape := ⟨5, ![8, 32, 32, 64, 528]⟩
abbrev S8x32x32x64 : Shape := ⟨4, ![8, 32, 32, 64]⟩
abbrev S8x32x32x64x1 : Shape := ⟨5, ![8, 32, 32, 64, 1]⟩
abbrev S8x32x128x32x64 : Shape := ⟨5, ![8, 32, 128, 32, 64]⟩
abbrev S8x32x32x128x64 : Shape := ⟨5, ![8, 32, 32, 128, 64]⟩
abbrev S16384x4096 : Shape := ⟨2, ![16384, 4096]⟩

abbrev nBuf : Space → Nat
  | .hbm => 176
  | .vmem => 0
  | .smem => 0
  | _ => 0

abbrev hbmTy0_0 (i : Nat) : BufTy := match i % 128 with
  | 0 => ⟨S33280x12288, .bf16⟩
  | 1 => ⟨S32x15x31, .f32⟩
  | 2 => ⟨S16640x12288, .bf16⟩
  | 3 => ⟨S8x2080x3x32x128, .bf16⟩
  | 4 => ⟨S8x2064x3x32x128, .bf16⟩
  | 5 => ⟨S8x2064x1x32x128, .bf16⟩
  | 6 => ⟨S8x2064x32x128, .bf16⟩
  | 7 => ⟨S8x2064x1x32x128, .bf16⟩
  | 8 => ⟨S8x2064x32x128, .bf16⟩
  | 9 => ⟨S8x2064x1x32x128, .bf16⟩
  | 10 => ⟨S8x2064x32x128, .bf16⟩
  | 11 => ⟨S8x16x32x128, .bf16⟩
  | 12 => ⟨S8x16x32x128, .bf16⟩
  | 13 => ⟨S8x2048x32x128, .bf16⟩
  | 14 => ⟨S8x32x64x32x128, .bf16⟩
  | 15 => ⟨S8x2048x32x128, .bf16⟩
  | 16 => ⟨S8x2048x32x128, .bf16⟩
  | 17 => ⟨S64, .i32⟩
  | 18 => ⟨S_, .i32⟩
  | 19 => ⟨S64, .i32⟩
  | 20 => ⟨S64, .i32⟩
  | 21 => ⟨S_, .i32⟩
  | 22 => ⟨S_, .i32⟩
  | 23 => ⟨S_, .i32⟩
  | 24 => ⟨S64, .i32⟩
  | 25 => ⟨S64, .i32⟩
  | 26 => ⟨S_, .i32⟩
  | 27 => ⟨S64, .i32⟩
  | 28 => ⟨S64, .i32⟩
  | 29 => ⟨S1x64, .i32⟩
  | 30 => ⟨S64x1, .i32⟩
  | 31 => ⟨S64x64, .i32⟩
  | 32 => ⟨S64x64, .i32⟩
  | 33 => ⟨S64x64, .i1⟩
  | 34 => ⟨S1x64, .i32⟩
  | 35 => ⟨S64x1, .i32⟩
  | 36 => ⟨S_, .i32⟩
  | 37 => ⟨S64x1, .i32⟩
  | 38 => ⟨S64x1, .i32⟩
  | 39 => ⟨S64x64, .i32⟩
  | 40 => ⟨S64x64, .i32⟩
  | 41 => ⟨S64x64, .i1⟩
  | 42 => ⟨S64x64, .i1⟩
  | 43 => ⟨S1x64, .i32⟩
  | 44 => ⟨S64x1, .i32⟩
  | 45 => ⟨S64x64, .i32⟩
  | 46 => ⟨S64x64, .i32⟩
  | 47 => ⟨S64x64, .i32⟩
  | 48 => ⟨S_, .i32⟩
  | 49 => ⟨S64x64, .i32⟩
  | 50 => ⟨S64x64, .i32⟩
  | 51 => ⟨S_, .i32⟩
  | 52 => ⟨S64x64, .i32⟩
  | 53 => ⟨S64x64, .i32⟩
  | 54 => ⟨S_, .i32⟩
  | 55 => ⟨S_, .i32⟩
  | 56 => ⟨S_, .i32⟩
  | 57 => ⟨S64x64, .i32⟩
  | 58 => ⟨S64x64, .i32⟩
  | 59 => ⟨S_, .i32⟩
  | 60 => ⟨S64x64, .i32⟩
  | 61 => ⟨S64x64, .i32⟩
  | 62 => ⟨S32, .i32⟩
  | 63 => ⟨S_, .i32⟩
  | 64 => ⟨S32, .i32⟩
  | 65 => ⟨S32, .i32⟩
  | 66 => ⟨S_, .i32⟩
  | 67 => ⟨S_, .i32⟩
  | 68 => ⟨S_, .i32⟩
  | 69 => ⟨S32, .i32⟩
  | 70 => ⟨S32, .i32⟩
  | 71 => ⟨S_, .i32⟩
  | 72 => ⟨S32, .i32⟩
  | 73 => ⟨S32, .i32⟩
  | 74 => ⟨S32x1, .i32⟩
  | 75 => ⟨S8, .i32⟩
  | 76 => ⟨S1x8, .i32⟩
  | 77 => ⟨S32x8, .i32⟩
  | 78 => ⟨S32x8, .i32⟩
  | 79 => ⟨S32x8, .i32⟩
  | 80 => ⟨S32x8x1, .i32⟩
  | 81 => ⟨S_, .i32⟩
  | 82 => ⟨S32x8x1, .i32⟩
  | 83 => ⟨S32x8x1, .i32⟩
  | 84 => ⟨S1x1x64, .i32⟩
  | 85 => ⟨S32x8x64, .i32⟩
  | 86 => ⟨S32x8x64, .i32⟩
  | 87 => ⟨S32x8x64, .i32⟩
  | 88 => ⟨S32x512, .i32⟩
  | 89 => ⟨S_, .i32⟩
  | 90 => ⟨S32x512, .i32⟩
  | 91 => ⟨S32x512, .i1⟩
  | 92 => ⟨S_, .i32⟩
  | 93 => ⟨S32x512, .i32⟩
  | 94 => ⟨S32x512, .i32⟩
  | 95 => ⟨S32x512, .i32⟩
  | 96 => ⟨S32x512x1, .i32⟩
  | 97 => ⟨S8x32x512x32x128, .bf16⟩
  | 98 => ⟨S_, .i32⟩
  | 99 => ⟨S32x512, .i32⟩
  | 100 => ⟨S32x512, .i1⟩
  | 101 => ⟨S_, .i32⟩
  | 102 => ⟨S32x512, .i32⟩
  | 103 => ⟨S32x512, .i32⟩
  | 104 => ⟨S32x512, .i32⟩
  | 105 => ⟨S32x512x1, .i32⟩
  | 106 => ⟨S8x32x512x32x128, .bf16⟩
  | 107 => ⟨S32x1, .i32⟩
  | 108 => ⟨S32x8, .i32⟩
  | 109 => ⟨S32x8, .i32⟩
  | 110 => ⟨S_, .i32⟩
  | 111 => ⟨S32x8, .i32⟩
  | 112 => ⟨S32x8, .i32⟩
  | 113 => ⟨S_, .i32⟩
  | 114 => ⟨S32x8, .i32⟩
  | 115 => ⟨S32x8, .i1⟩
  | 116 => ⟨S_, .i32⟩
  | 117 => ⟨S32x8, .i32⟩
  | 118 => ⟨S32x8, .i32⟩
  | 119 => ⟨S32x8, .i32⟩
  | 120 => ⟨S32x8x1, .i32⟩
  | 121 => ⟨S32x32x8x31, .f32⟩
  | 122 => ⟨S_, .i32⟩
  | 123 => ⟨S64x64, .i32⟩
  | 124 => ⟨S64x64, .i1⟩
  | 125 => ⟨S_, .i32⟩
  | 126 => ⟨S64x64, .i32⟩
  | 127 => ⟨S64x64, .i32⟩
  | _ => ⟨S33280x12288, .bf16⟩

abbrev hbmTy0_1 (i : Nat) : BufTy := match i % 128 with
  | 0 => ⟨S64x64, .i32⟩
  | 1 => ⟨S64x64x1, .i32⟩
  | 2 => ⟨S32x32x8x64x64, .f32⟩
  | 3 => ⟨S32x32x64x8x64, .f32⟩
  | 4 => ⟨S32x32x64x512, .f32⟩
  | 5 => ⟨S64x1x64, .i1⟩
  | 6 => ⟨S64x8x64, .i1⟩
  | 7 => ⟨S64x512, .i1⟩
  | 8 => ⟨S8x32x32x64x512, .f32⟩
  | 9 => ⟨S8x32x32x64x512, .bf16⟩
  | 10 => ⟨S8x32x32x64x512, .f32⟩
  | 11 => ⟨S1x32x32x64x512, .f32⟩
  | 12 => ⟨S8x32x32x64x512, .f32⟩
  | 13 => ⟨S8x32x32x64x512, .f32⟩
  | 14 => ⟨S_, .f32⟩
  | 15 => ⟨S_, .f32⟩
  | 16 => ⟨S8x32x32x64x512, .i1⟩
  | 17 => ⟨S8x32x32x64x512, .f32⟩
  | 18 => ⟨S8x32x32x64x512, .f32⟩
  | 19 => ⟨S8x32x32x64x16, .f32⟩
  | 20 => ⟨S8x32x32x64x16, .bf16⟩
  | 21 => ⟨S8x32x32x64x16, .f32⟩
  | 22 => ⟨S8x32x32x64x528, .f32⟩
  | 23 => ⟨S_, .f32⟩
  | 24 => ⟨S8x32x32x64, .f32⟩
  | 25 => ⟨S_, .f32⟩
  | 26 => ⟨S8x32x32x64, .f32⟩
  | 27 => ⟨S8x32x32x64, .f32⟩
  | 28 => ⟨S8x32x32x64x1, .f32⟩
  | 29 => ⟨S8x32x32x64x528, .f32⟩
  | 30 => ⟨S8x32x32x64x528, .f32⟩
  | 31 => ⟨S8x32x32x64x528, .f32⟩
  | 32 => ⟨S_, .f32⟩
  | 33 => ⟨S8x32x32x64, .f32⟩
  | 34 => ⟨S8x32x32x64x1, .f32⟩
  | 35 => ⟨S8x32x32x64x528, .f32⟩
  | 36 => ⟨S8x32x32x64x528, .f32⟩
  | 37 => ⟨S8x32x32x64x528, .bf16⟩
  | 38 => ⟨S8x32x32x64x16, .bf16⟩
  | 39 => ⟨S8x32x128x32x64, .f32⟩
  | 40 => ⟨S8x32x64x32x128, .f32⟩
  | 41 => ⟨S8x32x64x32x128, .bf16⟩
  | 42 => ⟨S8x32x32x64x512, .bf16⟩
  | 43 => ⟨S8x32x32x128x64, .f32⟩
  | 44 => ⟨S8x32x64x32x128, .f32⟩
  | 45 => ⟨S8x32x64x32x128, .bf16⟩
  | 46 => ⟨S8x32x64x32x128, .bf16⟩
  | 47 => ⟨S16384x4096, .bf16⟩
  | _ => ⟨S33280x12288, .bf16⟩

abbrev hbmTy (i : Nat) : BufTy := match i / 128 with
  | 0 => hbmTy0_0 i
  | 1 => hbmTy0_1 i
  | _ => ⟨S33280x12288, .bf16⟩

abbrev bufTy : (tb : Table) → Fin (tcTables nBuf tb) → BufTy
  | .hbm, ⟨i, _⟩ => hbmTy i
  | _, _ => ⟨S33280x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_v16 : Ref sig .tc := ⟨.hbm, 19, rfl⟩
abbrev main_v17 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_3 : Ref sig .tc := ⟨.hbm, 48, rfl⟩
abbrev main_v37 : Ref sig .tc := ⟨.hbm, 49, rfl⟩
abbrev main_v38 : Ref sig .tc := ⟨.hbm, 50, rfl⟩
abbrev main_c_4 : Ref sig .tc := ⟨.hbm, 51, rfl⟩
abbrev main_v39 : Ref sig .tc := ⟨.hbm, 52, rfl⟩
abbrev main_v40 : Ref sig .tc := ⟨.hbm, 53, rfl⟩
abbrev main_c_5 : Ref sig .tc := ⟨.hbm, 54, rfl⟩
abbrev main_c_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_c_9 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_11 : Ref sig .tc := ⟨.hbm, 89, rfl⟩
abbrev main_v60 : Ref sig .tc := ⟨.hbm, 90, rfl⟩
abbrev main_v61 : Ref sig .tc := ⟨.hbm, 91, rfl⟩
abbrev main_c_12 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_13 : Ref sig .tc := ⟨.hbm, 98, rfl⟩
abbrev main_v67 : Ref sig .tc := ⟨.hbm, 99, rfl⟩
abbrev main_v68 : Ref sig .tc := ⟨.hbm, 100, rfl⟩
abbrev main_c_14 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_15 : Ref sig .tc := ⟨.hbm, 110, rfl⟩
abbrev main_v77 : Ref sig .tc := ⟨.hbm, 111, rfl⟩
abbrev main_v78 : Ref sig .tc := ⟨.hbm, 112, rfl⟩
abbrev main_c_16 : Ref sig .tc := ⟨.hbm, 113, rfl⟩
abbrev main_v79 : Ref sig .tc := ⟨.hbm, 114, rfl⟩
abbrev main_v80 : Ref sig .tc := ⟨.hbm, 115, rfl⟩
abbrev main_c_17 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_18 : Ref sig .tc := ⟨.hbm, 122, rfl⟩
abbrev main_v86 : Ref sig .tc := ⟨.hbm, 123, rfl⟩
abbrev main_v87 : Ref sig .tc := ⟨.hbm, 124, rfl⟩
abbrev main_c_19 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst : Ref sig .tc := ⟨.hbm, 142, rfl⟩
abbrev main_call3_v0 : Ref sig .tc := ⟨.hbm, 143, rfl⟩
abbrev main_call3_v1 : Ref sig .tc := ⟨.hbm, 144, rfl⟩
abbrev main_call3_v2 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_20 : Ref sig .tc := ⟨.hbm, 151, rfl⟩
abbrev main_v109 : Ref sig .tc := ⟨.hbm, 152, rfl⟩
abbrev main_cst_21 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_22 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩

abbrev nD : Nat := 1
abbrev τ : Topo := Topo.v7x

variable {F : FTy → Type} [FloatOps F]
-- ==== Kernel2.lean ====
abbrev S33280x11008 : Shape := ⟨2, ![33280, 11008]⟩
abbrev S11008x4096 : Shape := ⟨2, ![11008, 4096]⟩
abbrev S33280x4096 : Shape := ⟨2, ![33280, 4096]⟩
abbrev S640x11008 : Shape := ⟨2, ![640, 11008]⟩
abbrev S11008x256 : Shape := ⟨2, ![11008, 256]⟩
abbrev S640x256 : Shape := ⟨2, ![640, 256]⟩

abbrev nBuf : Space → Nat
  | .hbm => 5
  | .vmem => 8
  | .smem => 0
  | _ => 0

abbrev bufTy : (tb : Table) → Fin (tcTables nBuf tb) → BufTy
  | .hbm, ⟨0, _⟩ => ⟨S33280x11008, .bf16⟩
  | .hbm, ⟨1, _⟩ => ⟨S11008x4096, .f32⟩
  | .hbm, ⟨2, _⟩ => ⟨S33280x4096, .f32⟩
  | .hbm, ⟨3, _⟩ => ⟨S11008x4096, .bf16⟩
  | .hbm, ⟨4, _⟩ => ⟨S33280x4096, .f32⟩
  | .local _ .vmem, ⟨0, _⟩ => ⟨S640x11008, .bf16⟩
  | .local _ .vmem, ⟨1, _⟩ => ⟨S640x11008, .bf16⟩
  | .local _ .vmem, ⟨2, _⟩ => ⟨S11008x256, .bf16⟩
  | .local _ .vmem, ⟨3, _⟩ => ⟨S11008x256, .bf16⟩
  | .local _ .vmem, ⟨4, _⟩ => ⟨S640x256, .f32⟩
  | .local _ .vmem, ⟨5, _⟩ => ⟨S640x256, .f32⟩
  | .local _ .vmem, ⟨6, _⟩ => ⟨S640x256, .f32⟩
  | .local _ .vmem, ⟨7, _⟩ => ⟨S640x256, .f32⟩
  | _, _ => ⟨S33280x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![52, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S33280x11008 : Shape := ⟨2, ![33280, 11008]⟩
abbrev S11008x4096 : Shape := ⟨2, ![11008, 4096]⟩
abbrev S33280x4096 : Shape := ⟨2, ![33280, 4096]⟩

abbrev nBuf : Space → Nat
  | .hbm => 6
  | .vmem => 0
  | .smem => 0
  | _ => 0

abbrev bufTy : (tb : Table) → Fin (tcTables nBuf tb) → BufTy
  | .hbm, ⟨0, _⟩ => ⟨S33280x11008, .bf16⟩
  | .hbm, ⟨1, _⟩ => ⟨S11008x4096, .f32⟩
  | .hbm, ⟨2, _⟩ => ⟨S33280x4096, .f32⟩
  | .hbm, ⟨3, _⟩ => ⟨S33280x11008, .f32⟩
  | .hbm, ⟨4, _⟩ => ⟨S33280x4096, .f32⟩
  | .hbm, ⟨5, _⟩ => ⟨S33280x4096, .f32⟩
  | _, _ => ⟨S33280x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel3.lean ====
abbrev S33280x4096 : Shape := ⟨2, ![33280, 4096]⟩
abbrev S4096x12288 : Shape := ⟨2, ![4096, 12288]⟩
abbrev S33280x12288 : Shape := ⟨2, ![33280, 12288]⟩
abbrev S640x4096 : Shape := ⟨2, ![640, 4096]⟩
abbrev S4096x1024 : Shape := ⟨2, ![4096, 1024]⟩
abbrev S640x1024 : Shape := ⟨2, ![640, 1024]⟩

abbrev nBuf : Space → Nat
  | .hbm => 4
  | .vmem => 6
  | .smem => 0
  | _ => 0

abbrev bufTy : (tb : Table) → Fin (tcTables nBuf tb) → BufTy
  | .hbm, ⟨0, _⟩ => ⟨S33280x4096, .bf16⟩
  | .hbm, ⟨1, _⟩ => ⟨S4096x12288, .f32⟩
  | .hbm, ⟨2, _⟩ => ⟨S4096x12288, .bf16⟩
  | .hbm, ⟨3, _⟩ => ⟨S33280x12288, .bf16⟩
  | .local _ .vmem, ⟨0, _⟩ => ⟨S640x4096, .bf16⟩
  | .local _ .vmem, ⟨1, _⟩ => ⟨S640x4096, .bf16⟩
  | .local _ .vmem, ⟨2, _⟩ => ⟨S4096x1024, .bf16⟩
  | .local _ .vmem, ⟨3, _⟩ => ⟨S4096x1024, .bf16⟩
  | .local _ .vmem, ⟨4, _⟩ => ⟨S640x1024, .bf16⟩
  | .local _ .vmem, ⟨5, _⟩ => ⟨S640x1024, .bf16⟩
  | _, _ => ⟨S33280x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 52], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S33280x4096 : Shape := ⟨2, ![33280, 4096]⟩
abbrev S4096x12288 : Shape := ⟨2, ![4096, 12288]⟩
abbrev S33280x12288 : Shape := ⟨2, ![33280, 12288]⟩
abbrev S33280x3x32x128 : Shape := ⟨4, ![33280, 3, 32, 128]⟩
abbrev S33280x1x32x128 : Shape := ⟨4, ![33280, 1, 32, 128]⟩
abbrev S33280x32x128 : Shape := ⟨3, ![33280, 32, 128]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S33280x4096, .bf16⟩
  | .hbm, ⟨1, _⟩ => ⟨S4096x12288, .f32⟩
  | .hbm, ⟨2, _⟩ => ⟨S33280x4096, .f32⟩
  | .hbm, ⟨3, _⟩ => ⟨S33280x12288, .f32⟩
  | .hbm, ⟨4, _⟩ => ⟨S33280x3x32x128, .f32⟩
  | .hbm, ⟨5, _⟩ => ⟨S33280x1x32x128, .f32⟩
  | .hbm, ⟨6, _⟩ => ⟨S33280x32x128, .f32⟩
  | .hbm, ⟨7, _⟩ => ⟨S_, .f32⟩
  | .hbm, ⟨8, _⟩ => ⟨S33280x32x128, .f32⟩
  | .hbm, ⟨9, _⟩ => ⟨S33280x32x128, .f32⟩
  | .hbm, ⟨10, _⟩ => ⟨S33280x1x32x128, .f32⟩
  | .hbm, ⟨11, _⟩ => ⟨S33280x32x128, .f32⟩
  | .hbm, ⟨12, _⟩ => ⟨S33280x1x32x128, .f32⟩
  | .hbm, ⟨13, _⟩ => ⟨S33280x32x128, .f32⟩
  | .hbm, ⟨14, _⟩ => ⟨S33280x1x32x128, .f32⟩
  | .hbm, ⟨15, _⟩ => ⟨S33280x1x32x128, .f32⟩
  | .hbm, ⟨16, _⟩ => ⟨S33280x1x32x128, .f32⟩
  | .hbm, ⟨17, _⟩ => ⟨S33280x3x32x128, .f32⟩
  | .hbm, ⟨18, _⟩ => ⟨S33280x12288, .f32⟩
  | .hbm, ⟨19, _⟩ => ⟨S33280x12288, .bf16⟩
  | _, _ => ⟨S33280x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Kernel4.lean ====
abbrev S33280x4096 : Shape := ⟨2, ![33280, 4096]⟩
abbrev S4096x4096 : Shape := ⟨2, ![4096, 4096]⟩
abbrev S640x4096 : Shape := ⟨2, ![640, 4096]⟩
abbrev S4096x1024 : Shape := ⟨2, ![4096, 1024]⟩
abbrev S640x1024 : Shape := ⟨2, ![640, 1024]⟩

abbrev nBuf : Space → Nat
  | .hbm => 5
  | .vmem => 8
  | .smem => 0
  | _ => 0

abbrev bufTy : (tb : Table) → Fin (tcTables nBuf tb) → BufTy
  | .hbm, ⟨0, _⟩ => ⟨S33280x4096, .bf16⟩
  | .hbm, ⟨1, _⟩ => ⟨S4096x4096, .f32⟩
  | .hbm, ⟨2, _⟩ => ⟨S33280x4096, .f32⟩
  | .hbm, ⟨3, _⟩ => ⟨S4096x4096, .bf16⟩
  | .hbm, ⟨4, _⟩ => ⟨S33280x4096, .f32⟩
  | .local _ .vmem, ⟨0, _⟩ => ⟨S640x4096, .bf16⟩
  | .local _ .vmem, ⟨1, _⟩ => ⟨S640x4096, .bf16⟩
  | .local _ .vmem, ⟨2, _⟩ => ⟨S4096x1024, .bf16⟩
  | .local _ .vmem, ⟨3, _⟩ => ⟨S4096x1024, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | _, _ => ⟨S33280x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 52], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S33280x4096 : Shape := ⟨2, ![33280, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S33280x4096, .bf16⟩
  | .hbm, ⟨1, _⟩ => ⟨S4096x4096, .f32⟩
  | .hbm, ⟨2, _⟩ => ⟨S33280x4096, .f32⟩
  | .hbm, ⟨3, _⟩ => ⟨S33280x4096, .f32⟩
  | .hbm, ⟨4, _⟩ => ⟨S33280x4096, .f32⟩
  | .hbm, ⟨5, _⟩ => ⟨S33280x4096, .f32⟩
  | _, _ => ⟨S33280x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S52x336x4096 : Shape := ⟨3, ![52, 336, 4096]⟩
abbrev S4096x22016 : Shape := ⟨2, ![4096, 22016]⟩
abbrev S3x22016 : Shape := ⟨2, ![3, 22016]⟩
abbrev S4096x11008 : Shape := ⟨2, ![4096, 11008]⟩
abbrev S3x11008 : Shape := ⟨2, ![3, 11008]⟩
abbrev S33280x11008 : Shape := ⟨2, ![33280, 11008]⟩
abbrev S1x336x4096 : Shape := ⟨3, ![1, 336, 4096]⟩
abbrev S4096x512 : Shape := ⟨2, ![4096, 512]⟩
abbrev S3x512 : Shape := ⟨2, ![3, 512]⟩
abbrev S640x512 : Shape := ⟨2, ![640, 512]⟩
abbrev S2x672x512 : Shape := ⟨3, ![2, 672, 512]⟩
abbrev S336x4096 : Shape := ⟨2, ![336, 4096]⟩
abbrev S672x4096 : Shape := ⟨2, ![672, 4096]⟩
abbrev S4096x256 : Shape := ⟨2, ![4096, 256]⟩
abbrev S672x256 : Shape := ⟨2, ![672, 256]⟩
abbrev S1x672x256 : Shape := ⟨3, ![1, 672, 256]⟩
abbrev S1x512 : Shape := ⟨2, ![1, 512]⟩
abbrev S1x32x512 : Shape := ⟨3, ![1, 32, 512]⟩
abbrev S32x512 : Shape := ⟨2, ![32, 512]⟩

abbrev nBuf : Space → Nat
  | .hbm => 10
  | .vmem => 14
  | .smem => 0
  | _ => 0

abbrev bufTy : (tb : Table) → Fin (tcTables nBuf tb) → BufTy
  | .hbm, ⟨0, _⟩ => ⟨S52x336x4096, .i32⟩
  | .hbm, ⟨1, _⟩ => ⟨S4096x22016, .f32⟩
  | .hbm, ⟨2, _⟩ => ⟨S3x22016, .f32⟩
  | .hbm, ⟨3, _⟩ => ⟨S4096x11008, .f32⟩
  | .hbm, ⟨4, _⟩ => ⟨S4096x11008, .bf16⟩
  | .hbm, ⟨5, _⟩ => ⟨S4096x11008, .f32⟩
  | .hbm, ⟨6, _⟩ => ⟨S4096x11008, .bf16⟩
  | .hbm, ⟨7, _⟩ => ⟨S3x11008, .f32⟩
  | .hbm, ⟨8, _⟩ => ⟨S3x11008, .f32⟩
  | .hbm, ⟨9, _⟩ => ⟨S33280x11008, .bf16⟩
  | .local _ .vmem, ⟨0, _⟩ => ⟨S1x336x4096, .i32⟩
  | .local _ .vmem, ⟨1, _⟩ => ⟨S1x336x4096, .i32⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S640x512, .bf16⟩
  | .local _ .vmem, ⟨11, _⟩ => ⟨S640x512, .bf16⟩
  | .local _ .vmem, ⟨12, _⟩ => ⟨S2x672x512, .f32⟩
  | .local _ .vmem, ⟨13, _⟩ => ⟨S2x672x512, .f32⟩
  | _, _ => ⟨S52x336x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![1093], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let c1091_i32 : BitVec 32 := 1091#32
  let v0 : BitVec 32 := Scalar.minsi arg0 c1091_i32
  let c52_i32 : BitVec 32 := 52#32
  let c0_i32 : BitVec 32 := 0#32
  let v1 : BitVec 1 := Scalar.cmpi .eq c52_i32 c0_i32
  let c1_i32 : BitVec 32 := 1#32
  let v2 : BitVec 32 := Scalar.select v1 c1_i32 c52_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  ![v10.toNat, c0_i32_3.toNat, c0_i32_4.toNat]

def cc0_transform_1 (i : grid0.Coords) : Fin 2 → Nat :=
  let arg0 : BitVec 32 := BitVec.ofNat 32 (i 0).val
  let c1091_i32 : BitVec 32 := 1091#32
  let v0 : BitVec 32 := Scalar.minsi arg0 c1091_i32
  let c52_i32 : BitVec 32 := 52#32
  let v1 : BitVec 32 := Scalar.divsi v0 c52_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c52_i32 c0_i32_1
  let v8 : BitVec 32 := Scalar.extui v7
  let c0_i32_2 : BitVec 32 := 0#32
  let v9 : BitVec 1 := Scalar.cmpi .slt c52_i32 c0_i32_2
  let v10 : BitVec 32 := Scalar.extui v9
  let v11 : BitVec 32 := Scalar.subi v8 v10
  let v12 : BitVec 1 := Scalar.cmpi .ne v6 v11
  let v13 : BitVec 32 := Scalar.remsi v0 c52_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi v17 c0_i32_4
  let c0_i32_5 : BitVec 32 := 0#32
  let v19 : BitVec 32 := Scalar.addi v18 c0_i32_5
  let c0_i32_6 : BitVec 32 := 0#32
  let c0_i32_7 : BitVec 32 := 0#32
  ![c0_i32_6.toNat, v19.toNat]

def cc0_transform_2 (i : grid0.Coords) : Fin 2 → Nat :=
  let arg0 : BitVec 32 := BitVec.ofNat 32 (i 0).val
  let c1091_i32 : BitVec 32 := 1091#32
  let v0 : BitVec 32 := Scalar.minsi arg0 c1091_i32
  let c52_i32 : BitVec 32 := 52#32
  let v1 : BitVec 32 := Scalar.divsi v0 c52_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c52_i32 c0_i32_1
  let v8 : BitVec 32 := Scalar.extui v7
  let c0_i32_2 : BitVec 32 := 0#32
  let v9 : BitVec 1 := Scalar.cmpi .slt c52_i32 c0_i32_2
  let v10 : BitVec 32 := Scalar.extui v9
  let v11 : BitVec 32 := Scalar.subi v8 v10
  let v12 : BitVec 1 := Scalar.cmpi .ne v6 v11
  let v13 : BitVec 32 := Scalar.remsi v0 c52_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi v17 c0_i32_4
  let c0_i32_5 : BitVec 32 := 0#32
  let v19 : BitVec 32 := Scalar.addi v18 c0_i32_5
  let c0_i32_6 : BitVec 32 := 0#32
  let c0_i32_7 : BitVec 32 := 0#32
  ![c0_i32_6.toNat, v19.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c52_i32 : BitVec 32 := 52#32
  let v2 : BitVec 32 := Scalar.divsi v1 c52_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c52_i32 c0_i32_2
  let v9 : BitVec 32 := Scalar.extui v8
  let c0_i32_3 : BitVec 32 := 0#32
  let v10 : BitVec 1 := Scalar.cmpi .slt c52_i32 c0_i32_3
  let v11 : BitVec 32 := Scalar.extui v10
  let v12 : BitVec 32 := Scalar.subi v9 v11
  let v13 : BitVec 1 := Scalar.cmpi .ne v7 v12
  let v14 : BitVec 32 := Scalar.remsi v1 c52_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let v19 : BitVec 32 := Scalar.addi v18 c0_i32_6
  let c0_i32_7 : BitVec 32 := 0#32
  let v20 : BitVec 32 := Scalar.addi v19 c0_i32_7
  let c0_i32_8 : BitVec 32 := 0#32
  let c0_i32_9 : BitVec 32 := 0#32
  ![c0_i32_8.toNat, v20.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c52_i32 : BitVec 32 := 52#32
  let v2 : BitVec 32 := Scalar.divsi v1 c52_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c52_i32 c0_i32_2
  let v9 : BitVec 32 := Scalar.extui v8
  let c0_i32_3 : BitVec 32 := 0#32
  let v10 : BitVec 1 := Scalar.cmpi .slt c52_i32 c0_i32_3
  let v11 : BitVec 32 := Scalar.extui v10
  let v12 : BitVec 32 := Scalar.subi v9 v11
  let v13 : BitVec 1 := Scalar.cmpi .ne v7 v12
  let v14 : BitVec 32 := Scalar.remsi v1 c52_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let v19 : BitVec 32 := Scalar.addi v18 c0_i32_6
  let c0_i32_7 : BitVec 32 := 0#32
  let v20 : BitVec 32 := Scalar.addi v19 c0_i32_7
  let c0_i32_8 : BitVec 32 := 0#32
  let c0_i32_9 : BitVec 32 := 0#32
  ![c0_i32_8.toNat, v20.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c52_i32 : BitVec 32 := 52#32
  let c0_i32_0 : BitVec 32 := 0#32
  let v2 : BitVec 1 := Scalar.cmpi .eq c52_i32 c0_i32_0
  let c1_i32_1 : BitVec 32 := 1#32
  let v3 : BitVec 32 := Scalar.select v2 c1_i32_1 c52_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c52_i32_7 : BitVec 32 := 52#32
  let v14 : BitVec 32 := Scalar.divsi v13 c52_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c52_i32_7 c0_i32_10
  let v21 : BitVec 32 := Scalar.extui v20
  let c0_i32_11 : BitVec 32 := 0#32
  let v22 : BitVec 1 := Scalar.cmpi .slt c52_i32_7 c0_i32_11
  let v23 : BitVec 32 := Scalar.extui v22
  let v24 : BitVec 32 := Scalar.subi v21 v23
  let v25 : BitVec 1 := Scalar.cmpi .ne v19 v24
  let v26 : BitVec 32 := Scalar.remsi v13 c52_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  let v31 : BitVec 32 := Scalar.addi v30 c0_i32_14
  let c0_i32_15 : BitVec 32 := 0#32
  ![v11.toNat, v31.toNat]

abbrev stage0_0 : Fin 2 → Memref sig .tc .vmem S1x336x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S52x336x4096 : Shape := ⟨3, ![52, 336, 4096]⟩
abbrev S4096x22016 : Shape := ⟨2, ![4096, 22016]⟩
abbrev S3x22016 : Shape := ⟨2, ![3, 22016]⟩
abbrev S52x336x4096x2 : Shape := ⟨4, ![52, 336, 4096, 2]⟩
abbrev S52x336x2x4096 : Shape := ⟨4, ![52, 336, 2, 4096]⟩
abbrev S52x672x4096 : Shape := ⟨3, ![52, 672, 4096]⟩
abbrev S52x672x22016 : Shape := ⟨3, ![52, 672, 22016]⟩
abbrev S_ : Shape := ⟨0, ![]⟩
abbrev S52x674x22016 : Shape := ⟨3, ![52, 674, 22016]⟩
abbrev S1x22016 : Shape := ⟨2, ![1, 22016]⟩
abbrev S22016 : Shape := ⟨1, ![22016]⟩
abbrev S1x1x22016 : Shape := ⟨3, ![1, 1, 22016]⟩
abbrev S52x672x11008 : Shape := ⟨3, ![52, 672, 11008]⟩
abbrev S52x640x11008 : Shape := ⟨3, ![52, 640, 11008]⟩
abbrev S33280x11008 : Shape := ⟨2, ![33280, 11008]⟩

abbrev nBuf : Space → Nat
  | .hbm => 46
  | .vmem => 0
  | .smem => 0
  | _ => 0

abbrev bufTy : (tb : Table) → Fin (tcTables nBuf tb) → BufTy
  | .hbm, ⟨0, _⟩ => ⟨S52x336x4096, .i32⟩
  | .hbm, ⟨1, _⟩ => ⟨S4096x22016, .f32⟩
  | .hbm, ⟨2, _⟩ => ⟨S3x22016, .f32⟩
  | .hbm, ⟨3, _⟩ => ⟨S52x336x4096x2, .bf16⟩
  | .hbm, ⟨4, _⟩ => ⟨S52x336x2x4096, .bf16⟩
  | .hbm, ⟨5, _⟩ => ⟨S52x672x4096, .bf16⟩
  | .hbm, ⟨6, _⟩ => ⟨S52x672x4096, .f32⟩
  | .hbm, ⟨7, _⟩ => ⟨S52x672x22016, .f32⟩
  | .hbm, ⟨8, _⟩ => ⟨S_, .i32⟩
  | .hbm, ⟨9, _⟩ => ⟨S_, .f32⟩
  | .hbm, ⟨10, _⟩ => ⟨S52x674x22016, .f32⟩
  | .hbm, ⟨11, _⟩ => ⟨S1x22016, .f32⟩
  | .hbm, ⟨12, _⟩ => ⟨S22016, .f32⟩
  | .hbm, ⟨13, _⟩ => ⟨S52x672x22016, .f32⟩
  | .hbm, ⟨14, _⟩ => ⟨S1x1x22016, .f32⟩
  | .hbm, ⟨15, _⟩ => ⟨S52x672x22016, .f32⟩
  | .hbm, ⟨16, _⟩ => ⟨S52x672x22016, .f32⟩
  | .hbm, ⟨17, _⟩ => ⟨S1x22016, .f32⟩
  | .hbm, ⟨18, _⟩ => ⟨S22016, .f32⟩
  | .hbm, ⟨19, _⟩ => ⟨S52x672x22016, .f32⟩
  | .hbm, ⟨20, _⟩ => ⟨S1x1x22016, .f32⟩
  | .hbm, ⟨21, _⟩ => ⟨S52x672x22016, .f32⟩
  | .hbm, ⟨22, _⟩ => ⟨S52x672x22016, .f32⟩
  | .hbm, ⟨23, _⟩ => ⟨S52x672x22016, .f32⟩
  | .hbm, ⟨24, _⟩ => ⟨S1x22016, .f32⟩
  | .hbm, ⟨25, _⟩ => ⟨S22016, .f32⟩
  | .hbm, ⟨26, _⟩ => ⟨S52x672x22016, .f32⟩
  | .hbm, ⟨27, _⟩ => ⟨S1x1x22016, .f32⟩
  | .hbm, ⟨28, _⟩ => ⟨S52x672x22016, .f32⟩
  | .hbm, ⟨29, _⟩ => ⟨S52x672x22016, .f32⟩
  | .hbm, ⟨30, _⟩ => ⟨S52x672x22016, .f32⟩
  | .hbm, ⟨31, _⟩ => ⟨S52x672x11008, .f32⟩
  | .hbm, ⟨32, _⟩ => ⟨S52x672x11008, .f32⟩
  | .hbm, ⟨33, _⟩ => ⟨S52x672x11008, .f32⟩
  | .hbm, ⟨34, _⟩ => ⟨S52x672x11008, .f32⟩
  | .hbm, ⟨35, _⟩ => ⟨S_, .f32⟩
  | .hbm, ⟨36, _⟩ => ⟨S52x672x11008, .f32⟩
  | .hbm, ⟨37, _⟩ => ⟨S52x672x11008, .f32⟩
  | .hbm, ⟨38, _⟩ => ⟨S_, .f32⟩
  | .hbm, ⟨39, _⟩ => ⟨S52x672x11008, .f32⟩
  | .hbm, ⟨40, _⟩ => ⟨S52x672x11008, .f32⟩
  | .hbm, ⟨41, _⟩ => ⟨S52x672x11008, .f32⟩
  | .hbm, ⟨42, _⟩ => ⟨S52x672x11008, .f32⟩
  | .hbm, ⟨43, _⟩ => ⟨S52x640x11008, .f32⟩
  | .hbm, ⟨44, _⟩ => ⟨S33280x11008, .f32⟩
  | .hbm, ⟨45, _⟩ => ⟨S33280x11008, .bf16⟩
  | _, _ => ⟨S52x336x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel6.lean ====
abbrev S52x336x4096 : Shape := ⟨3, ![52, 336, 4096]⟩
abbrev S4096x12288 : Shape := ⟨2, ![4096, 12288]⟩
abbrev S3x12288 : Shape := ⟨2, ![3, 12288]⟩
abbrev S33280x4096 : Shape := ⟨2, ![33280, 4096]⟩
abbrev S1x336x4096 : Shape := ⟨3, ![1, 336, 4096]⟩
abbrev S4096x512 : Shape := ⟨2, ![4096, 512]⟩
abbrev S3x512 : Shape := ⟨2, ![3, 512]⟩
abbrev S640x512 : Shape := ⟨2, ![640, 512]⟩
abbrev S3x672x512 : Shape := ⟨3, ![3, 672, 512]⟩
abbrev S336x4096 : Shape := ⟨2, ![336, 4096]⟩
abbrev S672x4096 : Shape := ⟨2, ![672, 4096]⟩
abbrev S4096x256 : Shape := ⟨2, ![4096, 256]⟩
abbrev S672x256 : Shape := ⟨2, ![672, 256]⟩
abbrev S1x672x256 : Shape := ⟨3, ![1, 672, 256]⟩
abbrev S1x512 : Shape := ⟨2, ![1, 512]⟩
abbrev S1x32x512 : Shape := ⟨3, ![1, 32, 512]⟩
abbrev S32x512 : Shape := ⟨2, ![32, 512]⟩

abbrev nBuf : Space → Nat
  | .hbm => 6
  | .vmem => 20
  | .smem => 0
  | _ => 0

abbrev bufTy : (tb : Table) → Fin (tcTables nBuf tb) → BufTy
  | .hbm, ⟨0, _⟩ => ⟨S52x336x4096, .i32⟩
  | .hbm, ⟨1, _⟩ => ⟨S4096x12288, .f32⟩
  | .hbm, ⟨2, _⟩ => ⟨S3x12288, .f32⟩
  | .hbm, ⟨3, _⟩ => ⟨S4096x12288, .bf16⟩
  | .hbm, ⟨4, _⟩ => ⟨S33280x4096, .f32⟩
  | .hbm, ⟨5, _⟩ => ⟨S33280x4096, .f32⟩
  | .local _ .vmem, ⟨0, _⟩ => ⟨S1x336x4096, .i32⟩
  | .local _ .vmem, ⟨1, _⟩ => ⟨S1x336x4096, .i32⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S3x512, .f32⟩
  | .local _ .vmem, ⟨14, _⟩ => ⟨S640x512, .f32⟩
  | .local _ .vmem, ⟨15, _⟩ => ⟨S640x512, .f32⟩
  | .local _ .vmem, ⟨16, _⟩ => ⟨S640x512, .f32⟩
  | .local _ .vmem, ⟨17, _⟩ => ⟨S640x512, .f32⟩
  | .local _ .vmem, ⟨18, _⟩ => ⟨S3x672x512, .f32⟩
  | .local _ .vmem, ⟨19, _⟩ => ⟨S3x672x512, .f32⟩
  | _, _ => ⟨S52x336x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![417], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let c415_i32 : BitVec 32 := 415#32
  let v0 : BitVec 32 := Scalar.minsi arg0 c415_i32
  let c52_i32 : BitVec 32 := 52#32
  let c0_i32 : BitVec 32 := 0#32
  let v1 : BitVec 1 := Scalar.cmpi .eq c52_i32 c0_i32
  let c1_i32 : BitVec 32 := 1#32
  let v2 : BitVec 32 := Scalar.select v1 c1_i32 c52_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  ![v10.toNat, c0_i32_3.toNat, c0_i32_4.toNat]

def cc0_transform_1 (i : grid0.Coords) : Fin 2 → Nat :=
  let arg0 : BitVec 32 := BitVec.ofNat 32 (i 0).val
  let c415_i32 : BitVec 32 := 415#32
  let v0 : BitVec 32 := Scalar.minsi arg0 c415_i32
  let c52_i32 : BitVec 32 := 52#32
  let v1 : BitVec 32 := Scalar.divsi v0 c52_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c52_i32 c0_i32_1
  let v8 : BitVec 32 := Scalar.extui v7
  let c0_i32_2 : BitVec 32 := 0#32
  let v9 : BitVec 1 := Scalar.cmpi .slt c52_i32 c0_i32_2
  let v10 : BitVec 32 := Scalar.extui v9
  let v11 : BitVec 32 := Scalar.subi v8 v10
  let v12 : BitVec 1 := Scalar.cmpi .ne v6 v11
  let v13 : BitVec 32 := Scalar.remsi v0 c52_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi v17 c0_i32_4
  let c0_i32_5 : BitVec 32 := 0#32
  let v19 : BitVec 32 := Scalar.addi v18 c0_i32_5
  let c0_i32_6 : BitVec 32 := 0#32
  let c0_i32_7 : BitVec 32 := 0#32
  ![c0_i32_6.toNat, v19.toNat]

def cc0_transform_2 (i : grid0.Coords) : Fin 2 → Nat :=
  let arg0 : BitVec 32 := BitVec.ofNat 32 (i 0).val
  let c415_i32 : BitVec 32 := 415#32
  let v0 : BitVec 32 := Scalar.minsi arg0 c415_i32
  let c52_i32 : BitVec 32 := 52#32
  let v1 : BitVec 32 := Scalar.divsi v0 c52_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c52_i32 c0_i32_1
  let v8 : BitVec 32 := Scalar.extui v7
  let c0_i32_2 : BitVec 32 := 0#32
  let v9 : BitVec 1 := Scalar.cmpi .slt c52_i32 c0_i32_2
  let v10 : BitVec 32 := Scalar.extui v9
  let v11 : BitVec 32 := Scalar.subi v8 v10
  let v12 : BitVec 1 := Scalar.cmpi .ne v6 v11
  let v13 : BitVec 32 := Scalar.remsi v0 c52_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi v17 c0_i32_4
  let c8_i32 : BitVec 32 := 8#32
  let v19 : BitVec 32 := Scalar.addi v18 c8_i32
  let c0_i32_5 : BitVec 32 := 0#32
  let c0_i32_6 : BitVec 32 := 0#32
  ![c0_i32_5.toNat, v19.toNat]

def cc0_transform_3 (i : grid0.Coords) : Fin 2 → Nat :=
  let arg0 : BitVec 32 := BitVec.ofNat 32 (i 0).val
  let c415_i32 : BitVec 32 := 415#32
  let v0 : BitVec 32 := Scalar.minsi arg0 c415_i32
  let c52_i32 : BitVec 32 := 52#32
  let v1 : BitVec 32 := Scalar.divsi v0 c52_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c52_i32 c0_i32_1
  let v8 : BitVec 32 := Scalar.extui v7
  let c0_i32_2 : BitVec 32 := 0#32
  let v9 : BitVec 1 := Scalar.cmpi .slt c52_i32 c0_i32_2
  let v10 : BitVec 32 := Scalar.extui v9
  let v11 : BitVec 32 := Scalar.subi v8 v10
  let v12 : BitVec 1 := Scalar.cmpi .ne v6 v11
  let v13 : BitVec 32 := Scalar.remsi v0 c52_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi v17 c0_i32_4
  let c16_i32 : BitVec 32 := 16#32
  let v19 : BitVec 32 := Scalar.addi v18 c16_i32
  let c0_i32_5 : BitVec 32 := 0#32
  let c0_i32_6 : BitVec 32 := 0#32
  ![c0_i32_5.toNat, v19.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c52_i32 : BitVec 32 := 52#32
  let v2 : BitVec 32 := Scalar.divsi v1 c52_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c52_i32 c0_i32_2
  let v9 : BitVec 32 := Scalar.extui v8
  let c0_i32_3 : BitVec 32 := 0#32
  let v10 : BitVec 1 := Scalar.cmpi .slt c52_i32 c0_i32_3
  let v11 : BitVec 32 := Scalar.extui v10
  let v12 : BitVec 32 := Scalar.subi v9 v11
  let v13 : BitVec 1 := Scalar.cmpi .ne v7 v12
  let v14 : BitVec 32 := Scalar.remsi v1 c52_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let v19 : BitVec 32 := Scalar.addi v18 c0_i32_6
  let c0_i32_7 : BitVec 32 := 0#32
  let v20 : BitVec 32 := Scalar.addi v19 c0_i32_7
  let c0_i32_8 : BitVec 32 := 0#32
  let c0_i32_9 : BitVec 32 := 0#32
  ![c0_i32_8.toNat, v20.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c52_i32 : BitVec 32 := 52#32
  let v2 : BitVec 32 := Scalar.divsi v1 c52_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c52_i32 c0_i32_2
  let v9 : BitVec 32 := Scalar.extui v8
  let c0_i32_3 : BitVec 32 := 0#32
  let v10 : BitVec 1 := Scalar.cmpi .slt c52_i32 c0_i32_3
  let v11 : BitVec 32 := Scalar.extui v10
  let v12 : BitVec 32 := Scalar.subi v9 v11
  let v13 : BitVec 1 := Scalar.cmpi .ne v7 v12
  let v14 : BitVec 32 := Scalar.remsi v1 c52_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let v19 : BitVec 32 := Scalar.addi v18 c0_i32_6
  let c8_i32 : BitVec 32 := 8#32
  let v20 : BitVec 32 := Scalar.addi v19 c8_i32
  let c0_i32_7 : BitVec 32 := 0#32
  let c0_i32_8 : BitVec 32 := 0#32
  ![c0_i32_7.toNat, v20.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c52_i32 : BitVec 32 := 52#32
  let v2 : BitVec 32 := Scalar.divsi v1 c52_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c52_i32 c0_i32_2
  let v9 : BitVec 32 := Scalar.extui v8
  let c0_i32_3 : BitVec 32 := 0#32
  let v10 : BitVec 1 := Scalar.cmpi .slt c52_i32 c0_i32_3
  let v11 : BitVec 32 := Scalar.extui v10
  let v12 : BitVec 32 := Scalar.subi v9 v11
  let v13 : BitVec 1 := Scalar.cmpi .ne v7 v12
  let v14 : BitVec 32 := Scalar.remsi v1 c52_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let v19 : BitVec 32 := Scalar.addi v18 c0_i32_6
  let c16_i32 : BitVec 32 := 16#32
  let v20 : BitVec 32 := Scalar.addi v19 c16_i32
  let c0_i32_7 : BitVec 32 := 0#32
  let c0_i32_8 : BitVec 32 := 0#32
  ![c0_i32_7.toNat, v20.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c52_i32 : BitVec 32 := 52#32
  let c0_i32_0 : BitVec 32 := 0#32
  let v2 : BitVec 1 := Scalar.cmpi .eq c52_i32 c0_i32_0
  let c1_i32_1 : BitVec 32 := 1#32
  let v3 : BitVec 32 := Scalar.select v2 c1_i32_1 c52_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c52_i32_7 : BitVec 32 := 52#32
  let v14 : BitVec 32 := Scalar.divsi v13 c52_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c52_i32_7 c0_i32_10
  let v21 : BitVec 32 := Scalar.extui v20
  let c0_i32_11 : BitVec 32 := 0#32
  let v22 : BitVec 1 := Scalar.cmpi .slt c52_i32_7 c0_i32_11
  let v23 : BitVec 32 := Scalar.extui v22
  let v24 : BitVec 32 := Scalar.subi v21 v23
  let v25 : BitVec 1 := Scalar.cmpi .ne v19 v24
  let v26 : BitVec 32 := Scalar.remsi v13 c52_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  let v31 : BitVec 32 := Scalar.addi v30 c0_i32_14
  let c0_i32_15 : BitVec 32 := 0#32
  ![v11.toNat, v31.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c52_i32 : BitVec 32 := 52#32
  let c0_i32_0 : BitVec 32 := 0#32
  let v2 : BitVec 1 := Scalar.cmpi .eq c52_i32 c0_i32_0
  let c1_i32_1 : BitVec 32 := 1#32
  let v3 : BitVec 32 := Scalar.select v2 c1_i32_1 c52_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c52_i32_7 : BitVec 32 := 52#32
  let v14 : BitVec 32 := Scalar.divsi v13 c52_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c52_i32_7 c0_i32_10
  let v21 : BitVec 32 := Scalar.extui v20
  let c0_i32_11 : BitVec 32 := 0#32
  let v22 : BitVec 1 := Scalar.cmpi .slt c52_i32_7 c0_i32_11
  let v23 : BitVec 32 := Scalar.extui v22
  let v24 : BitVec 32 := Scalar.subi v21 v23
  let v25 : BitVec 1 := Scalar.cmpi .ne v19 v24
  let v26 : BitVec 32 := Scalar.remsi v13 c52_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  let v31 : BitVec 32 := Scalar.addi v30 c0_i32_14
  let c0_i32_15 : BitVec 32 := 0#32
  ![v11.toNat, v31.toNat]

abbrev stage0_0 : Fin 2 → Memref sig .tc .vmem S1x336x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S52x336x4096 : Shape := ⟨3, ![52, 336, 4096]⟩
abbrev S4096x12288 : Shape := ⟨2, ![4096, 12288]⟩
abbrev S3x12288 : Shape := ⟨2, ![3, 12288]⟩
abbrev S52x336x4096x2 : Shape := ⟨4, ![52, 336, 4096, 2]⟩
abbrev S52x336x2x4096 : Shape := ⟨4, ![52, 336, 2, 4096]⟩
abbrev S52x672x4096 : Shape := ⟨3, ![52, 672, 4096]⟩
abbrev S52x672x12288 : Shape := ⟨3, ![52, 672, 12288]⟩
abbrev S_ : Shape := ⟨0, ![]⟩
abbrev S52x674x12288 : Shape := ⟨3, ![52, 674, 12288]⟩
abbrev S1x12288 : Shape := ⟨2, ![1, 12288]⟩
abbrev S12288 : Shape := ⟨1, ![12288]⟩
abbrev S1x1x12288 : Shape := ⟨3, ![1, 1, 12288]⟩
abbrev S52x640x4096 : Shape := ⟨3, ![52, 640, 4096]⟩
abbrev S33280x4096 : Shape := ⟨2, ![33280, 4096]⟩

abbrev nBuf : Space → Nat
  | .hbm => 39
  | .vmem => 0
  | .smem => 0
  | _ => 0

abbrev bufTy : (tb : Table) → Fin (tcTables nBuf tb) → BufTy
  | .hbm, ⟨0, _⟩ => ⟨S52x336x4096, .i32⟩
  | .hbm, ⟨1, _⟩ => ⟨S4096x12288, .f32⟩
  | .hbm, ⟨2, _⟩ => ⟨S3x12288, .f32⟩
  | .hbm, ⟨3, _⟩ => ⟨S52x336x4096x2, .bf16⟩
  | .hbm, ⟨4, _⟩ => ⟨S52x336x2x4096, .bf16⟩
  | .hbm, ⟨5, _⟩ => ⟨S52x672x4096, .bf16⟩
  | .hbm, ⟨6, _⟩ => ⟨S52x672x4096, .f32⟩
  | .hbm, ⟨7, _⟩ => ⟨S52x672x12288, .f32⟩
  | .hbm, ⟨8, _⟩ => ⟨S_, .i32⟩
  | .hbm, ⟨9, _⟩ => ⟨S_, .f32⟩
  | .hbm, ⟨10, _⟩ => ⟨S52x674x12288, .f32⟩
  | .hbm, ⟨11, _⟩ => ⟨S1x12288, .f32⟩
  | .hbm, ⟨12, _⟩ => ⟨S12288, .f32⟩
  | .hbm, ⟨13, _⟩ => ⟨S52x672x12288, .f32⟩
  | .hbm, ⟨14, _⟩ => ⟨S1x1x12288, .f32⟩
  | .hbm, ⟨15, _⟩ => ⟨S52x672x12288, .f32⟩
  | .hbm, ⟨16, _⟩ => ⟨S52x672x12288, .f32⟩
  | .hbm, ⟨17, _⟩ => ⟨S1x12288, .f32⟩
  | .hbm, ⟨18, _⟩ => ⟨S12288, .f32⟩
  | .hbm, ⟨19, _⟩ => ⟨S52x672x12288, .f32⟩
  | .hbm, ⟨20, _⟩ => ⟨S1x1x12288, .f32⟩
  | .hbm, ⟨21, _⟩ => ⟨S52x672x12288, .f32⟩
  | .hbm, ⟨22, _⟩ => ⟨S52x672x12288, .f32⟩
  | .hbm, ⟨23, _⟩ => ⟨S52x672x12288, .f32⟩
  | .hbm, ⟨24, _⟩ => ⟨S1x12288, .f32⟩
  | .hbm, ⟨25, _⟩ => ⟨S12288, .f32⟩
  | .hbm, ⟨26, _⟩ => ⟨S52x672x12288, .f32⟩
  | .hbm, ⟨27, _⟩ => ⟨S1x1x12288, .f32⟩
  | .hbm, ⟨28, _⟩ => ⟨S52x672x12288, .f32⟩
  | .hbm, ⟨29, _⟩ => ⟨S52x672x12288, .f32⟩
  | .hbm, ⟨30, _⟩ => ⟨S52x672x12288, .f32⟩
  | .hbm, ⟨31, _⟩ => ⟨S52x672x4096, .f32⟩
  | .hbm, ⟨32, _⟩ => ⟨S52x672x4096, .f32⟩
  | .hbm, ⟨33, _⟩ => ⟨S52x672x4096, .f32⟩
  | .hbm, ⟨34, _⟩ => ⟨S52x640x4096, .f32⟩
  | .hbm, ⟨35, _⟩ => ⟨S33280x4096, .f32⟩
  | .hbm, ⟨36, _⟩ => ⟨S52x672x4096, .f32⟩
  | .hbm, ⟨37, _⟩ => ⟨S52x640x4096, .f32⟩
  | .hbm, ⟨38, _⟩ => ⟨S33280x4096, .f32⟩
  | _, _ => ⟨S52x336x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]
-- ==== Kernel7.lean ====
abbrev S33280x4096 : Shape := ⟨2, ![33280, 4096]⟩
abbrev S4096 : Shape := ⟨1, ![4096]⟩
abbrev S1x4096 : Shape := ⟨2, ![1, 4096]⟩
abbrev S16384x4096 : Shape := ⟨2, ![16384, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S33280x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S33280x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c32_i32 : BitVec 32 := 32#32
  let arg0 : BitVec 32 := BitVec.ofNat 32 (i 0).val
  let c2080_i32 : BitVec 32 := 2080#32
  let v0 : BitVec 32 := Scalar.muli arg0 c2080_i32
  let v1 : BitVec 32 := Scalar.addi c32_i32 v0
  let arg1 : BitVec 32 := BitVec.ofNat 32 (i 1).val
  let c256_i32 : BitVec 32 := 256#32
  let v2 : BitVec 32 := Scalar.muli arg1 c256_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c2080_i32 : BitVec 32 := 2080#32
  let v0 : BitVec 32 := Scalar.muli arg0 c2080_i32
  let c32_i32 : BitVec 32 := 32#32
  let v1 : BitVec 32 := Scalar.addi c32_i32 v0
  let c256_i32 : BitVec 32 := 256#32
  let v2 : BitVec 32 := Scalar.muli arg1 c256_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S33280x4096 : Shape := ⟨2, ![33280, 4096]⟩
abbrev S4096 : Shape := ⟨1, ![4096]⟩
abbrev S16640x4096 : Shape := ⟨2, ![16640, 4096]⟩
abbrev S8x2080x4096 : Shape := ⟨3, ![8, 2080, 4096]⟩
abbrev S8x2064x4096 : Shape := ⟨3, ![8, 2064, 4096]⟩
abbrev S_ : Shape := ⟨0, ![]⟩
abbrev S8x2064 : Shape := ⟨2, ![8, 2064]⟩
abbrev S8x2064x1 : Shape := ⟨3, ![8, 2064, 1]⟩
abbrev S1x1x4096 : Shape := ⟨3, ![1, 1, 4096]⟩
abbrev S8x2048x4096 : Shape := ⟨3, ![8, 2048, 4096]⟩
abbrev S16384x4096 : Shape := ⟨2, ![16384, 4096]⟩

abbrev nBuf : Space → Nat
  | .hbm => 23
  | .vmem => 0
  | .smem => 0
  | _ => 0

abbrev bufTy : (tb : Table) → Fin (tcTables nBuf tb) → BufTy
  | .hbm, ⟨0, _⟩ => ⟨S33280x4096, .f32⟩
  | .hbm, ⟨1, _⟩ => ⟨S4096, .f32⟩
  | .hbm, ⟨2, _⟩ => ⟨S16640x4096, .f32⟩
  | .hbm, ⟨3, _⟩ => ⟨S8x2080x4096, .f32⟩
  | .hbm, ⟨4, _⟩ => ⟨S8x2064x4096, .f32⟩
  | .hbm, ⟨5, _⟩ => ⟨S8x2064x4096, .f32⟩
  | .hbm, ⟨6, _⟩ => ⟨S_, .f32⟩
  | .hbm, ⟨7, _⟩ => ⟨S8x2064, .f32⟩
  | .hbm, ⟨8, _⟩ => ⟨S8x2064x1, .f32⟩
  | .hbm, ⟨9, _⟩ => ⟨S_, .f32⟩
  | .hbm, ⟨10, _⟩ => ⟨S8x2064x1, .f32⟩
  | .hbm, ⟨11, _⟩ => ⟨S8x2064x1, .f32⟩
  | .hbm, ⟨12, _⟩ => ⟨S_, .f32⟩
  | .hbm, ⟨13, _⟩ => ⟨S8x2064x1, .f32⟩
  | .hbm, ⟨14, _⟩ => ⟨S8x2064x1, .f32⟩
  | .hbm, ⟨15, _⟩ => ⟨S8x2064x1, .f32⟩
  | .hbm, ⟨16, _⟩ => ⟨S8x2064x4096, .f32⟩
  | .hbm, ⟨17, _⟩ => ⟨S8x2064x4096, .f32⟩
  | .hbm, ⟨18, _⟩ => ⟨S1x1x4096, .f32⟩
  | .hbm, ⟨19, _⟩ => ⟨S8x2064x4096, .f32⟩
  | .hbm, ⟨20, _⟩ => ⟨S8x2064x4096, .f32⟩
  | .hbm, ⟨21, _⟩ => ⟨S8x2048x4096, .f32⟩
  | .hbm, ⟨22, _⟩ => ⟨S16384x4096, .f32⟩
  | _, _ => ⟨S33280x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel8.lean ====
abbrev S33280x4096 : Shape := ⟨2, ![33280, 4096]⟩
abbrev S4096 : Shape := ⟨1, ![4096]⟩
abbrev S1x4096 : Shape := ⟨2, ![1, 4096]⟩
abbrev S16384x4096 : Shape := ⟨2, ![16384, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S33280x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S33280x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let c16672_i32 : BitVec 32 := 16672#32
  let arg0 : BitVec 32 := BitVec.ofNat 32 (i 0).val
  let c8224_i32 : BitVec 32 := 8224#32
  let v0 : BitVec 32 := Scalar.muli arg0 c8224_i32
  let v1 : BitVec 32 := Scalar.addi c16672_i32 v0
  let arg1 : BitVec 32 := BitVec.ofNat 32 (i 1).val
  let c256_i32 : BitVec 32 := 256#32
  let v2 : BitVec 32 := Scalar.muli arg1 c256_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c8224_i32 : BitVec 32 := 8224#32
  let v0 : BitVec 32 := Scalar.muli arg0 c8224_i32
  let c16672_i32 : BitVec 32 := 16672#32
  let v1 : BitVec 32 := Scalar.addi c16672_i32 v0
  let c256_i32 : BitVec 32 := 256#32
  let v2 : BitVec 32 := Scalar.muli arg1 c256_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S33280x4096 : Shape := ⟨2, ![33280, 4096]⟩
abbrev S4096 : Shape := ⟨1, ![4096]⟩
abbrev S16448x4096 : Shape := ⟨2, ![16448, 4096]⟩
abbrev S2x8224x4096 : Shape := ⟨3, ![2, 8224, 4096]⟩
abbrev S2x8208x4096 : Shape := ⟨3, ![2, 8208, 4096]⟩
abbrev S_ : Shape := ⟨0, ![]⟩
abbrev S2x8208 : Shape := ⟨2, ![2, 8208]⟩
abbrev S2x8208x1 : Shape := ⟨3, ![2, 8208, 1]⟩
abbrev S1x1x4096 : Shape := ⟨3, ![1, 1, 4096]⟩
abbrev S2x8192x4096 : Shape := ⟨3, ![2, 8192, 4096]⟩
abbrev S16384x4096 : Shape := ⟨2, ![16384, 4096]⟩

abbrev nBuf : Space → Nat
  | .hbm => 23
  | .vmem => 0
  | .smem => 0
  | _ => 0

abbrev bufTy : (tb : Table) → Fin (tcTables nBuf tb) → BufTy
  | .hbm, ⟨0, _⟩ => ⟨S33280x4096, .f32⟩
  | .hbm, ⟨1, _⟩ => ⟨S4096, .f32⟩
  | .hbm, ⟨2, _⟩ => ⟨S16448x4096, .f32⟩
  | .hbm, ⟨3, _⟩ => ⟨S2x8224x4096, .f32⟩
  | .hbm, ⟨4, _⟩ => ⟨S2x8208x4096, .f32⟩
  | .hbm, ⟨5, _⟩ => ⟨S2x8208x4096, .f32⟩
  | .hbm, ⟨6, _⟩ => ⟨S_, .f32⟩
  | .hbm, ⟨7, _⟩ => ⟨S2x8208, .f32⟩
  | .hbm, ⟨8, _⟩ => ⟨S2x8208x1, .f32⟩
  | .hbm, ⟨9, _⟩ => ⟨S_, .f32⟩
  | .hbm, ⟨10, _⟩ => ⟨S2x8208x1, .f32⟩
  | .hbm, ⟨11, _⟩ => ⟨S2x8208x1, .f32⟩
  | .hbm, ⟨12, _⟩ => ⟨S_, .f32⟩
  | .hbm, ⟨13, _⟩ => ⟨S2x8208x1, .f32⟩
  | .hbm, ⟨14, _⟩ => ⟨S2x8208x1, .f32⟩
  | .hbm, ⟨15, _⟩ => ⟨S2x8208x1, .f32⟩
  | .hbm, ⟨16, _⟩ => ⟨S2x8208x4096, .f32⟩
  | .hbm, ⟨17, _⟩ => ⟨S2x8208x4096, .f32⟩
  | .hbm, ⟨18, _⟩ => ⟨S1x1x4096, .f32⟩
  | .hbm, ⟨19, _⟩ => ⟨S2x8208x4096, .f32⟩
  | .hbm, ⟨20, _⟩ => ⟨S2x8208x4096, .f32⟩
  | .hbm, ⟨21, _⟩ => ⟨S2x8192x4096, .f32⟩
  | .hbm, ⟨22, _⟩ => ⟨S16384x4096, .f32⟩
  | _, _ => ⟨S33280x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel9.lean ====
abbrev S33280x4096 : Shape := ⟨2, ![33280, 4096]⟩
abbrev S4096 : Shape := ⟨1, ![4096]⟩
abbrev S33280 : Shape := ⟨1, ![33280]⟩
abbrev S33280x1 : Shape := ⟨2, ![33280, 1]⟩
abbrev S_ : Shape := ⟨0, ![]⟩
abbrev S33280x128 : Shape := ⟨2, ![33280, 128]⟩
abbrev S1x4096 : Shape := ⟨2, ![1, 4096]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩

abbrev nBuf : Space → Nat
  | .hbm => 84
  | .vmem => 7
  | .smem => 0
  | _ => 0

abbrev bufTy : (tb : Table) → Fin (tcTables nBuf tb) → BufTy
  | .hbm, ⟨0, _⟩ => ⟨S33280x4096, .f32⟩
  | .hbm, ⟨1, _⟩ => ⟨S4096, .f32⟩
  | .hbm, ⟨2, _⟩ => ⟨S33280, .i32⟩
  | .hbm, ⟨3, _⟩ => ⟨S33280x1, .i32⟩
  | .hbm, ⟨4, _⟩ => ⟨S_, .i1⟩
  | .hbm, ⟨5, _⟩ => ⟨S33280x1, .i1⟩
  | .hbm, ⟨6, _⟩ => ⟨S_, .i32⟩
  | .hbm, ⟨7, _⟩ => ⟨S33280x1, .i32⟩
  | .hbm, ⟨8, _⟩ => ⟨S33280x1, .i1⟩
  | .hbm, ⟨9, _⟩ => ⟨S_, .i32⟩
  | .hbm, ⟨10, _⟩ => ⟨S33280x1, .i32⟩
  | .hbm, ⟨11, _⟩ => ⟨S33280x1, .i1⟩
  | .hbm, ⟨12, _⟩ => ⟨S33280x1, .i1⟩
  | .hbm, ⟨13, _⟩ => ⟨S_, .i32⟩
  | .hbm, ⟨14, _⟩ => ⟨S33280x1, .i32⟩
  | .hbm, ⟨15, _⟩ => ⟨S33280x1, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S33280x1, .i32⟩
  | .hbm, ⟨23, _⟩ => ⟨S33280x1, .i32⟩
  | .hbm, ⟨24, _⟩ => ⟨S_, .i32⟩
  | .hbm, ⟨25, _⟩ => ⟨S33280x1, .i32⟩
  | .hbm, ⟨26, _⟩ => ⟨S33280x1, .i1⟩
  | .hbm, ⟨27, _⟩ => ⟨S_, .i32⟩
  | .hbm, ⟨28, _⟩ => ⟨S33280x1, .i32⟩
  | .hbm, ⟨29, _⟩ => ⟨S33280x1, .i1⟩
  | .hbm, ⟨30, _⟩ => ⟨S_, .i32⟩
  | .hbm, ⟨31, _⟩ => ⟨S_, .i1⟩
  | .hbm, ⟨32, _⟩ => ⟨S33280x1, .i1⟩
  | .hbm, ⟨33, _⟩ => ⟨S33280x1, .i1⟩
  | .hbm, ⟨34, _⟩ => ⟨S33280x1, .i1⟩
  | .hbm, ⟨35, _⟩ => ⟨S33280x1, .i32⟩
  | .hbm, ⟨36, _⟩ => ⟨S33280x1, .i32⟩
  | .hbm, ⟨37, _⟩ => ⟨S33280x1, .i32⟩
  | .hbm, ⟨38, _⟩ => ⟨S_, .i32⟩
  | .hbm, ⟨39, _⟩ => ⟨S33280x1, .i32⟩
  | .hbm, ⟨40, _⟩ => ⟨S33280x1, .i1⟩
  | .hbm, ⟨41, _⟩ => ⟨S33280x1, .i1⟩
  | .hbm, ⟨42, _⟩ => ⟨S33280x1, .i1⟩
  | .hbm, ⟨43, _⟩ => ⟨S_, .i32⟩
  | .hbm, ⟨44, _⟩ => ⟨S33280x1, .i32⟩
  | .hbm, ⟨45, _⟩ => ⟨S33280x1, .i1⟩
  | .hbm, ⟨46, _⟩ => ⟨S_, .i32⟩
  | .hbm, ⟨47, _⟩ => ⟨S33280x1, .i32⟩
  | .hbm, ⟨48, _⟩ => ⟨S33280x1, .i1⟩
  | .hbm, ⟨49, _⟩ => ⟨S33280x1, .i1⟩
  | .hbm, ⟨50, _⟩ => ⟨S_, .i32⟩
  | .hbm, ⟨51, _⟩ => ⟨S33280x1, .i32⟩
  | .hbm, ⟨52, _⟩ => ⟨S33280x1, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S33280x1, .i32⟩
  | .hbm, ⟨60, _⟩ => ⟨S33280x1, .i32⟩
  | .hbm, ⟨61, _⟩ => ⟨S_, .i32⟩
  | .hbm, ⟨62, _⟩ => ⟨S33280x1, .i32⟩
  | .hbm, ⟨63, _⟩ => ⟨S33280x1, .i1⟩
  | .hbm, ⟨64, _⟩ => ⟨S_, .i32⟩
  | .hbm, ⟨65, _⟩ => ⟨S33280x1, .i32⟩
  | .hbm, ⟨66, _⟩ => ⟨S33280x1, .i1⟩
  | .hbm, ⟨67, _⟩ => ⟨S_, .i32⟩
  | .hbm, ⟨68, _⟩ => ⟨S_, .i1⟩
  | .hbm, ⟨69, _⟩ => ⟨S33280x1, .i1⟩
  | .hbm, ⟨70, _⟩ => ⟨S33280x1, .i1⟩
  | .hbm, ⟨71, _⟩ => ⟨S33280x1, .i1⟩
  | .hbm, ⟨72, _⟩ => ⟨S33280x1, .i32⟩
  | .hbm, ⟨73, _⟩ => ⟨S33280x1, .i32⟩
  | .hbm, ⟨74, _⟩ => ⟨S33280x1, .i32⟩
  | .hbm, ⟨75, _⟩ => ⟨S_, .i32⟩
  | .hbm, ⟨76, _⟩ => ⟨S33280x1, .i32⟩
  | .hbm, ⟨77, _⟩ => ⟨S33280x1, .i1⟩
  | .hbm, ⟨78, _⟩ => ⟨S33280x1, .i1⟩
  | .hbm, ⟨79, _⟩ => ⟨S33280x1, .i1⟩
  | .hbm, ⟨80, _⟩ => ⟨S33280x1, .f32⟩
  | .hbm, ⟨81, _⟩ => ⟨S33280x128, .f32⟩
  | .hbm, ⟨82, _⟩ => ⟨S1x4096, .f32⟩
  | .hbm, ⟨83, _⟩ => ⟨S33280x4096, .bf16⟩
  | .local _ .vmem, ⟨0, _⟩ => ⟨S256x4096, .f32⟩
  | .local _ .vmem, ⟨1, _⟩ => ⟨S256x4096, .f32⟩
  | .local _ .vmem, ⟨2, _⟩ => ⟨S256x128, .f32⟩
  | .local _ .vmem, ⟨3, _⟩ => ⟨S256x128, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | _, _ => ⟨S33280x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v10 : Ref sig .tc := ⟨.hbm, 37, rfl⟩
abbrev main_c_4 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_5 : Ref sig .tc := ⟨.hbm, 43, rfl⟩
abbrev main_v15 : Ref sig .tc := ⟨.hbm, 44, rfl⟩
abbrev main_v16 : Ref sig .tc := ⟨.hbm, 45, rfl⟩
abbrev main_c_6 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_7 : Ref sig .tc := ⟨.hbm, 50, rfl⟩
abbrev main_v20 : Ref sig .tc := ⟨.hbm, 51, rfl⟩
abbrev main_v21 : Ref sig .tc := ⟨.hbm, 52, rfl⟩
abbrev main_c_8 : Ref sig .tc := ⟨.hbm, 53, rfl⟩
abbrev main_call1_v0 : Ref sig .tc := ⟨.hbm, 54, rfl⟩
abbrev main_call1_c : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_c_1 : Ref sig .tc := ⟨.hbm, 61, rfl⟩
abbrev main_call1_v5 : Ref sig .tc := ⟨.hbm, 62, rfl⟩
abbrev main_call1_v6 : Ref sig .tc := ⟨.hbm, 63, rfl⟩
abbrev main_call1_c_2 : Ref sig .tc := ⟨.hbm, 64, rfl⟩
abbrev main_call1_v7 : Ref sig .tc := ⟨.hbm, 65, rfl⟩
abbrev main_call1_v8 : Ref sig .tc := ⟨.hbm, 66, rfl⟩
abbrev main_call1_c_3 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_v22 : Ref sig .tc := ⟨.hbm, 74, rfl⟩
abbrev main_c_9 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S33280x4096 : Shape := ⟨2, ![33280, 4096]⟩
abbrev S4096 : Shape := ⟨1, ![4096]⟩
abbrev S16640x4096 : Shape := ⟨2, ![16640, 4096]⟩
abbrev S8x2080x4096 : Shape := ⟨3, ![8, 2080, 4096]⟩
abbrev S8x2064x4096 : Shape := ⟨3, ![8, 2064, 4096]⟩
abbrev S_ : Shape := ⟨0, ![]⟩
abbrev S8x2064 : Shape := ⟨2, ![8, 2064]⟩
abbrev S8x2064x1 : Shape := ⟨3, ![8, 2064, 1]⟩
abbrev S1x1x4096 : Shape := ⟨3, ![1, 1, 4096]⟩
abbrev S16448x4096 : Shape := ⟨2, ![16448, 4096]⟩
abbrev S2x8224x4096 : Shape := ⟨3, ![2, 8224, 4096]⟩
abbrev S2x8208x4096 : Shape := ⟨3, ![2, 8208, 4096]⟩
abbrev S2x8208 : Shape := ⟨2, ![2, 8208]⟩
abbrev S2x8208x1 : Shape := ⟨3, ![2, 8208, 1]⟩
abbrev S192x4096 : Shape := ⟨2, ![192, 4096]⟩

abbrev nBuf : Space → Nat
  | .hbm => 52
  | .vmem => 0
  | .smem => 0
  | _ => 0

abbrev bufTy : (tb : Table) → Fin (tcTables nBuf tb) → BufTy
  | .hbm, ⟨0, _⟩ => ⟨S33280x4096, .f32⟩
  | .hbm, ⟨1, _⟩ => ⟨S4096, .f32⟩
  | .hbm, ⟨2, _⟩ => ⟨S16640x4096, .f32⟩
  | .hbm, ⟨3, _⟩ => ⟨S8x2080x4096, .f32⟩
  | .hbm, ⟨4, _⟩ => ⟨S8x2064x4096, .f32⟩
  | .hbm, ⟨5, _⟩ => ⟨S8x2064x4096, .f32⟩
  | .hbm, ⟨6, _⟩ => ⟨S_, .f32⟩
  | .hbm, ⟨7, _⟩ => ⟨S8x2064, .f32⟩
  | .hbm, ⟨8, _⟩ => ⟨S8x2064x1, .f32⟩
  | .hbm, ⟨9, _⟩ => ⟨S_, .f32⟩
  | .hbm, ⟨10, _⟩ => ⟨S8x2064x1, .f32⟩
  | .hbm, ⟨11, _⟩ => ⟨S8x2064x1, .f32⟩
  | .hbm, ⟨12, _⟩ => ⟨S_, .f32⟩
  | .hbm, ⟨13, _⟩ => ⟨S8x2064x1, .f32⟩
  | .hbm, ⟨14, _⟩ => ⟨S8x2064x1, .f32⟩
  | .hbm, ⟨15, _⟩ => ⟨S8x2064x1, .f32⟩
  | .hbm, ⟨16, _⟩ => ⟨S8x2064x4096, .f32⟩
  | .hbm, ⟨17, _⟩ => ⟨S8x2064x4096, .f32⟩
  | .hbm, ⟨18, _⟩ => ⟨S1x1x4096, .f32⟩
  | .hbm, ⟨19, _⟩ => ⟨S8x2064x4096, .f32⟩
  | .hbm, ⟨20, _⟩ => ⟨S8x2064x4096, .f32⟩
  | .hbm, ⟨21, _⟩ => ⟨S_, .i32⟩
  | .hbm, ⟨22, _⟩ => ⟨S_, .f32⟩
  | .hbm, ⟨23, _⟩ => ⟨S8x2080x4096, .f32⟩
  | .hbm, ⟨24, _⟩ => ⟨S16640x4096, .f32⟩
  | .hbm, ⟨25, _⟩ => ⟨S16448x4096, .f32⟩
  | .hbm, ⟨26, _⟩ => ⟨S2x8224x4096, .f32⟩
  | .hbm, ⟨27, _⟩ => ⟨S2x8208x4096, .f32⟩
  | .hbm, ⟨28, _⟩ => ⟨S2x8208x4096, .f32⟩
  | .hbm, ⟨29, _⟩ => ⟨S_, .f32⟩
  | .hbm, ⟨30, _⟩ => ⟨S2x8208, .f32⟩
  | .hbm, ⟨31, _⟩ => ⟨S2x8208x1, .f32⟩
  | .hbm, ⟨32, _⟩ => ⟨S_, .f32⟩
  | .hbm, ⟨33, _⟩ => ⟨S2x8208x1, .f32⟩
  | .hbm, ⟨34, _⟩ => ⟨S2x8208x1, .f32⟩
  | .hbm, ⟨35, _⟩ => ⟨S_, .f32⟩
  | .hbm, ⟨36, _⟩ => ⟨S2x8208x1, .f32⟩
  | .hbm, ⟨37, _⟩ => ⟨S2x8208x1, .f32⟩
  | .hbm, ⟨38, _⟩ => ⟨S2x8208x1, .f32⟩
  | .hbm, ⟨39, _⟩ => ⟨S2x8208x4096, .f32⟩
  | .hbm, ⟨40, _⟩ => ⟨S2x8208x4096, .f32⟩
  | .hbm, ⟨41, _⟩ => ⟨S1x1x4096, .f32⟩
  | .hbm, ⟨42, _⟩ => ⟨S2x8208x4096, .f32⟩
  | .hbm, ⟨43, _⟩ => ⟨S2x8208x4096, .f32⟩
  | .hbm, ⟨44, _⟩ => ⟨S_, .i32⟩
  | .hbm, ⟨45, _⟩ => ⟨S_, .f32⟩
  | .hbm, ⟨46, _⟩ => ⟨S2x8224x4096, .f32⟩
  | .hbm, ⟨47, _⟩ => ⟨S16448x4096, .f32⟩
  | .hbm, ⟨48, _⟩ => ⟨S_, .f32⟩
  | .hbm, ⟨49, _⟩ => ⟨S192x4096, .f32⟩
  | .hbm, ⟨50, _⟩ => ⟨S33280x4096, .f32⟩
  | .hbm, ⟨51, _⟩ => ⟨S33280x4096, .bf16⟩
  | _, _ => ⟨S33280x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_call0_v0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_call1_v0 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.Softmax.lean ====
/-
  The softmax of an attention over the extended reals, without any program: a block-wise sum over meta keys and
  three key blocks with a common maximum, divided once at the end, equals the sum of the values weighted by the
  normalised softmax over the meta keys and the keys of the window.
-/
module

public import Idealize.ShloMosaic.PureOps.Ideal
public import Idealize.ShloMosaic.PureOps.Ideal.Laws

@[expose] public section

noncomputable section

open scoped BigOperators

namespace Cert.Attn

open Idealize.ShloMosaic

/-- The exponential of `⊥` is zero. -/
theorem exp_bot : Ideal.exp ⊥ = 0 := rfl

/-- A score that is not `⊤`, less a real number, has a real exponential: the number it is. -/
theorem exp_sub_coe (s : EReal) (hs : s ≠ ⊤) (μ : ℝ) :
    Ideal.exp (s - (μ : EReal)) = ((Ideal.exp (s - (μ : EReal))).toReal : EReal) ∧ 0 ≤ (Ideal.exp (s - (μ : EReal))).toReal := by
  induction s with
  | bot => rw [EReal.bot_sub, exp_bot]; exact ⟨by simp, by simp⟩
  | coe r =>
    rw [← EReal.coe_sub]
    exact ⟨rfl, (Real.exp_pos (r - μ)).le⟩
  | top => exact absurd rfl hs

/-- The weight of a real score is positive. -/
theorem exp_sub_coe_pos (r μ : ℝ) : 0 < (Ideal.exp ((r : EReal) - (μ : EReal))).toReal := by
  rw [← EReal.coe_sub]; exact Real.exp_pos (r - μ)

/-- The weight of a score `⊥` is zero. -/
theorem exp_bot_sub (μ : ℝ) : (Ideal.exp ((⊥ : EReal) - (μ : EReal))).toReal = 0 := by
  rw [EReal.bot_sub, exp_bot]; rfl

/-- Dividing two real numbers, the divisor not zero, is the real division. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- A finite sum of real numbers is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The folded maximum of finitely many extended reals is their supremum. -/
theorem fold_max_eq_sup {ι : Type*} (s : Finset ι) (f : ι → EReal) : s.fold max ⊥ f = s.sup f := rfl

/-- The kernel's maximum: of the meta scores and, block by block, of the three key blocks. -/
def kerMax {nm n : ℕ} (sm : Fin nm → EReal) (sk : Fin 3 → Fin n → EReal) : EReal :=
  max (max (max (Finset.univ.fold max ⊥ sm) (Finset.univ.fold max ⊥ (sk 0))) (Finset.univ.fold max ⊥ (sk 1)))
    (Finset.univ.fold max ⊥ (sk 2))

/-- The kernel's attention of one query in one output column: the weighted values added up block by block and
    divided once by the weights' sum. -/
def kerAttn {nm n : ℕ} (sm : Fin nm → EReal) (vm : Fin nm → EReal) (sk vk : Fin 3 → Fin n → EReal) : EReal :=
  Ideal.div
    ((((∑ j, Ideal.exp (sm j - kerMax sm sk) * vm j) + ∑ j, Ideal.exp (sk 0 j - kerMax sm sk) * vk 0 j)
      + ∑ j, Ideal.exp (sk 1 j - kerMax sm sk) * vk 1 j) + ∑ j, Ideal.exp (sk 2 j - kerMax sm sk) * vk 2 j)
    ((((∑ j, Ideal.exp (sm j - kerMax sm sk)) + ∑ j, Ideal.exp (sk 0 j - kerMax sm sk))
      + ∑ j, Ideal.exp (sk 1 j - kerMax sm sk)) + ∑ j, Ideal.exp (sk 2 j - kerMax sm sk))

/-- The reference's maximum over the concatenated scores. -/
def refMax {N : ℕ} (sc : Fin N → EReal) : EReal := max ⊥ (Finset.univ.fold max ⊥ sc)

/-- The reference's weight of one key: its exponential divided by the sum of all. -/
def refWeight {N : ℕ} (sc : Fin N → EReal) (i : Fin N) : EReal :=
  Ideal.div (Ideal.exp (sc i - refMax sc)) (0 + ∑ k, Ideal.exp (sc k - refMax sc))

/-- The reference's attention of one query in one output column: the softmax over meta keys and window keys, then
    the values weighted by it. -/
def refAttn {nm n : ℕ} (sc : Fin (nm + n) → EReal) (vm : Fin nm → EReal) (vr : Fin n → EReal) : EReal :=
  (∑ m, vm m * refWeight sc (Fin.castAdd n m)) + ∑ i, vr i * refWeight sc (Fin.natAdd nm i)

/-- Sums over three blocks as one sum over the pairs of block and position. -/
theorem sum_blocks {n : ℕ} (f : Fin 3 × Fin n → ℝ) :
    ∑ p, f p = ((∑ j, f (0, j)) + ∑ j, f (1, j)) + ∑ j, f (2, j) := by
  rw [Fintype.sum_prod_type, Fin.sum_univ_three]

/-- THE TWO FORMS AGREE: when the meta scores and all values are real, no score is `⊤`, the window keys `φ` are some
    of the blocks' keys, with the same scores and values, and every other key of the blocks has score `⊥`. -/
theorem attn_eq {nm n N : ℕ} (hnm : 0 < nm) (sm vm : Fin nm → EReal) (sk vk : Fin 3 → Fin n → EReal)
    (sc : Fin (nm + N) → EReal) (vr : Fin N → EReal) (φ : Fin N → Fin 3 × Fin n) (hφ : Function.Injective φ)
    (hsm : ∀ m, ∃ r : ℝ, sm m = r) (hvm : ∀ m, ∃ r : ℝ, vm m = r) (hsk : ∀ b j, sk b j ≠ ⊤)
    (hvk : ∀ b j, ∃ r : ℝ, vk b j = r) (hcm : ∀ m, sc (Fin.castAdd N m) = sm m)
    (hcr : ∀ i, sc (Fin.natAdd nm i) = sk (φ i).1 (φ i).2) (hv : ∀ i, vr i = vk (φ i).1 (φ i).2)
    (hoff : ∀ p : Fin 3 × Fin n, p ∉ Set.range φ → sk p.1 p.2 = ⊥) :
    kerAttn sm vm sk vk = refAttn sc vm vr := by
  -- the common maximum
  have hM : kerMax sm sk = refMax sc := by
    unfold kerMax refMax
    simp only [fold_max_eq_sup]
    have hblk : ∀ b, Finset.univ.sup (sk b) ≤ Finset.univ.sup sc := fun b => Finset.sup_le fun j _ => by
      by_cases h : (b, j) ∈ Set.range φ
      · obtain ⟨i, hi⟩ := h
        have := Finset.le_sup (f := sc) (Finset.mem_univ (Fin.natAdd nm i))
        rw [hcr, hi] at this; exact this
      · rw [show sk b j = ⊥ from hoff (b, j) h]; exact bot_le
    have hmeta : Finset.univ.sup sm ≤ Finset.univ.sup sc := Finset.sup_le fun m _ => by
      have := Finset.le_sup (f := sc) (Finset.mem_univ (Fin.castAdd N m))
      rw [hcm] at this; exact this
    refine le_antisymm (le_max_of_le_right ?_) (max_le bot_le ?_)
    · exact max_le (max_le (max_le hmeta (hblk 0)) (hblk 1)) (hblk 2)
    · refine Finset.sup_le fun k _ => ?_
      refine Fin.addCases (fun m => ?_) (fun i => ?_) k
      · rw [hcm]
        exact le_max_of_le_left (le_max_of_le_left (le_max_of_le_left (Finset.le_sup (f := sm) (Finset.mem_univ m))))
      · rw [hcr]
        have hle := Finset.le_sup (f := sk (φ i).1) (Finset.mem_univ (φ i).2)
        refine hle.trans ?_
        generalize (φ i).1 = b
        fin_cases b
        · exact le_max_of_le_left (le_max_of_le_left (le_max_right _ _))
        · exact le_max_of_le_left (le_max_right _ _)
        · exact le_max_right _ _
  have hsmt : ∀ m, sm m ≠ ⊤ := fun m => by obtain ⟨r, hr⟩ := hsm m; rw [hr]; exact EReal.coe_ne_top r
  -- it is a real number
  obtain ⟨μ, hμ⟩ : ∃ μ : ℝ, kerMax sm sk = μ := by
    have hlt : ∀ {k : ℕ} (f : Fin k → EReal), (∀ i, f i ≠ ⊤) → Finset.univ.sup f < ⊤ := fun f hf =>
      (Finset.sup_lt_iff bot_lt_top).2 fun i _ => lt_top_iff_ne_top.2 (hf i)
    have h1 : kerMax sm sk ≠ ⊤ := by
      unfold kerMax; simp only [fold_max_eq_sup]
      exact (max_lt (max_lt (max_lt (hlt _ hsmt) (hlt _ (hsk 0))) (hlt _ (hsk 1))) (hlt _ (hsk 2))).ne
    have h2 : kerMax sm sk ≠ ⊥ := by
      obtain ⟨r, hr⟩ := hsm ⟨0, hnm⟩
      have h : sm ⟨0, hnm⟩ ≤ kerMax sm sk := by
        unfold kerMax; simp only [fold_max_eq_sup]
        exact le_max_of_le_left (le_max_of_le_left (le_max_of_le_left (Finset.le_sup (f := sm) (Finset.mem_univ _))))
      rw [hr] at h
      exact ((EReal.bot_lt_coe r).trans_le h).ne'
    exact ⟨_, (EReal.coe_toReal h1 h2).symm⟩
  -- weights and values as real numbers
  set w : EReal → ℝ := fun s => (Ideal.exp (s - (μ : EReal))).toReal with hw
  have hwe : ∀ s : EReal, s ≠ ⊤ → Ideal.exp (s - (μ : EReal)) = (w s : EReal) := fun s hs => (exp_sub_coe s hs μ).1
  have hw0 : ∀ s : EReal, s ≠ ⊤ → 0 ≤ w s := fun s hs => (exp_sub_coe s hs μ).2
  have hwb : w ⊥ = 0 := exp_bot_sub μ
  choose ym hym using hvm
  choose yk hyk using hvk
  have hct : ∀ k, sc k ≠ ⊤ := fun k => by
    refine Fin.addCases (fun m => ?_) (fun i => ?_) k
    · rw [hcm]; exact hsmt m
    · rw [hcr]; exact hsk _ _
  -- the weights' sum
  set δ : ℝ := ∑ k, w (sc k) with hδ
  have hδsplit : δ = (∑ m, w (sm m)) + ∑ i, w (sk (φ i).1 (φ i).2) := by
    rw [hδ, Fin.sum_univ_add]; simp only [hcm, hcr]
  have hsumφ : ∀ g : Fin 3 × Fin n → ℝ, (∀ p, p ∉ Set.range φ → g p = 0) → ∑ i, g (φ i) = ∑ p, g p := fun g hg =>
    Fintype.sum_of_injective φ hφ _ _ hg fun _ => rfl
  have hden : δ = (((∑ m, w (sm m)) + ∑ j, w (sk 0 j)) + ∑ j, w (sk 1 j)) + ∑ j, w (sk 2 j) := by
    rw [hδsplit, hsumφ (fun p => w (sk p.1 p.2)) (fun p hp => by rw [hoff p hp, hwb]), sum_blocks]
    ring
  have hδpos : 0 < δ := by
    rw [hδsplit]
    refine add_pos_of_pos_of_nonneg (Finset.sum_pos (fun m _ => ?_) ⟨⟨0, hnm⟩, Finset.mem_univ _⟩)
      (Finset.sum_nonneg fun i _ => hw0 _ (hsk _ _))
    obtain ⟨r, hr⟩ := hsm m
    rw [hr]; exact exp_sub_coe_pos r μ
  -- the kernel's form
  have hL : kerAttn sm vm sk vk
      = (((((∑ m, w (sm m) * ym m) + ∑ j, w (sk 0 j) * yk 0 j) + ∑ j, w (sk 1 j) * yk 1 j)
          + ∑ j, w (sk 2 j) * yk 2 j) / δ : ℝ) := by
    unfold kerAttn
    rw [hμ]
    simp only [hwe _ (hsmt _), hwe _ (hsk _ _), hym, hyk, ← EReal.coe_mul, ← coe_sum, ← EReal.coe_add]
    rw [← hden, div_coe _ _ hδpos.ne']
  -- the reference's form
  have hR : refAttn sc vm vr
      = ((∑ m, ym m * (w (sm m) / δ)) + ∑ i, yk (φ i).1 (φ i).2 * (w (sk (φ i).1 (φ i).2) / δ) : ℝ) := by
    have hwt : ∀ k, refWeight sc k = ((w (sc k) / δ : ℝ) : EReal) := fun k => by
      unfold refWeight
      rw [← hM, hμ]
      simp only [hwe _ (hct _), ← coe_sum, zero_add]
      rw [← hδ, div_coe _ _ hδpos.ne']
    unfold refAttn
    simp only [hwt, hv, hym, hyk, hcm, hcr, ← EReal.coe_mul, ← coe_sum, ← EReal.coe_add]
  rw [hL, hR]
  congr 1
  rw [hsumφ (fun p => yk p.1 p.2 * (w (sk p.1 p.2) / δ)) (fun p hp => by rw [hoff p hp, hwb]; simp), sum_blocks]
  simp only [add_div, Finset.sum_div]
  rw [← add_assoc, ← add_assoc]
  have e : ∀ a b : ℝ, a * b / δ = b * (a / δ) := fun a b => by ring
  simp only [e]

/-- The dot product of two families of real numbers is real. -/
theorem dot_real {ι : Type*} [Fintype ι] (a b : ι → EReal) (ha : ∀ i, ∃ r : ℝ, a i = r) (hb : ∀ i, ∃ r : ℝ, b i = r) :
    ∃ r : ℝ, ∑ i, a i * b i = r := by
  choose x hx using ha
  choose y hy using hb
  exact ⟨∑ i, x i * y i, by simp only [hx, hy, ← EReal.coe_mul, ← coe_sum]⟩

end Cert.Attn

end
-- ==== Proof.Window.lean ====
/-
  The window of keys a query attends to, in plain numbers: its rows, its columns and the relative columns.
-/
module

public import proofs.«01_k».proof.Proof.Softmax

@[expose] public section

namespace Cert.Attn

/-- The first window row of the keys of grid row `r`. -/
def rowStart (r : ℕ) : ℕ := min (r - 4) 24

/-- The columns a query in column `q` attends to. -/
def ColOk (q c : ℕ) : Prop := min (q - 8) 48 ≤ c ∧ c < min (q - 8) 48 + 16

instance (q c : ℕ) : Decidable (ColOk q c) := inferInstanceAs (Decidable (_ ∧ _))

/-- The key rows a query in row `a` of row block `g` attends to: row `k` of key block `s`. -/
def RowOk (g a s k : ℕ) : Prop :=
  rowStart (4 * g + a) + 4 ≤ 4 * (g + s) + k ∧ 4 * (g + s) + k < rowStart (4 * g + a) + 12

instance (g a s k : ℕ) : Decidable (RowOk g a s k) := inferInstanceAs (Decidable (_ ∧ _))

/-- The relative column of a query and a key, kept inside the table. -/
def colIdx (q c : ℕ) : ℕ := min 30 (c + 15 - q)

end Cert.Attn

end
-- ==== Proof.RefTables.lean ====
/-
  The reference's integer tables at an index: which columns and rows a query attends to, and the relative positions.
-/
module

public import proofs.«01_k».proof.Proof.Gen.ReferenceIdeal.Read
public import proofs.«01_k».proof.Proof.Window
public import Idealize.ShloMosaic.Lib.Pointwise

@[expose] public section

noncomputable section

namespace Cert.Attn.R

open Idealize.ShloMosaic Cert.ReferenceIdeal Cert.ReferenceIdeal.Gen Cert.ReferenceIdeal.Read

/-- The column mask. -/
theorem v31_eq : ∀ q c : Fin 64, val_main_v31 (F := Ideal) (ix2 q c) = if ColOk q.val c.val then 1#1 else 0#1 := by
  decide +kernel

/-- The relative columns. -/
theorem v91_eq : ∀ q c : Fin 64, (val_main_v91 (F := Ideal) (ix3 q c 0)).toInt.toNat = colIdx q.val c.val := by
  decide +kernel

/-- The relative rows. -/
theorem v84_eq : ∀ (r : Fin 32) (k : Fin 8),
    (val_main_v84 (F := Ideal) (ix3 r k 0)).toInt.toNat = rowStart r.val + k.val + 7 - r.val := by
  decide +kernel

/-- The key rows. -/
theorem v51_eq : ∀ (r : Fin 32) (k : Fin 8), val_main_v51 (F := Ideal) (ix2 r k) = BitVec.ofNat 32 (rowStart r.val + k.val) := by
  decide +kernel

end Cert.Attn.R

end
-- ==== Proof.RefToks.lean ====
/-
  The reference's table of the tokens that a grid row attends to.
-/
module

public import proofs.«01_k».proof.Proof.RefTables

@[expose] public section

noncomputable section

namespace Cert.Attn.R

open Idealize.ShloMosaic Cert.ReferenceIdeal Cert.ReferenceIdeal.Gen Cert.ReferenceIdeal.Read

/-- The token of a key before the wrap of negative numbers: 64 times its row plus its column. -/
theorem v59_eq (r : Fin 32) (n : Fin 512) :
    val_main_v59 (F := Ideal) (ix2 r n) = BitVec.ofNat 32 (64 * (rowStart r.val + n.val / 64) + n.val % 64) := by
  pointwise [val_main_v59, val_main_v58, val_main_v57, val_main_v56, val_main_v55, val_main_v54, val_main_v53, val_main_v52,
    val_main_v15, val_main_c_10]
  rw [v51_eq]
  have e : ∀ a b : ℕ, IntOp.addi (IntOp.muli (BitVec.ofNat 32 a) 64#32) (BitVec.ofNat 32 b) = BitVec.ofNat 32 (64 * a + b) :=
    fun a b => by
      show BitVec.ofNat 32 a * 64#32 + BitVec.ofNat 32 b = _
      apply BitVec.eq_of_toNat_eq
      simp [BitVec.toNat_add, BitVec.toNat_mul, Nat.mul_comm]
  exact e _ _

/-- A small number is not negative, so its wrap leaves it alone. -/
theorem wrap_small (n : ℕ) (h : n < 2048) :
    (Scalar.select (IntOp.cmpi .slt (BitVec.ofNat 32 n) 0#32) (IntOp.addi (BitVec.ofNat 32 n) 2048#32) (BitVec.ofNat 32 n)
      : BitVec 32).toInt.toNat = n := by
  have hn : (BitVec.ofNat 32 n).toInt = n := by
    rw [BitVec.toInt_eq_toNat_of_lt] <;> simp [Nat.mod_eq_of_lt (show n < 4294967296 by omega)] <;> omega
  have hc : IntOp.cmpi .slt (BitVec.ofNat 32 n) 0#32 = 0#1 := by
    show BitVec.ofBool ((BitVec.ofNat 32 n).slt 0#32) = 0#1
    have : (BitVec.ofNat 32 n).slt 0#32 = false := by
      rw [BitVec.slt, decide_eq_false_iff_not, hn]
      simp
    rw [this]; rfl
  rw [hc]
  show (BitVec.ofNat 32 n).toInt.toNat = n
  rw [hn]; simp

/-- The tokens of the keys. -/
theorem v65_eq (r : Fin 32) (n : Fin 512) : (val_main_v65 (F := Ideal) (ix3 r n 0)).toInt.toNat
    = 64 * (rowStart r.val + n.val / 64) + n.val % 64 := by
  have hr : rowStart r.val ≤ 24 := Nat.min_le_right _ _
  pointwise [val_main_v65, val_main_v64, val_main_v63, val_main_v62, val_main_v61, val_main_v60, val_main_c_11, val_main_c_12]
  rw [v59_eq]
  exact wrap_small _ (by omega)

/-- The tokens of the values. -/
theorem v72_eq (r : Fin 32) (n : Fin 512) : (val_main_v72 (F := Ideal) (ix3 r n 0)).toInt.toNat
    = 64 * (rowStart r.val + n.val / 64) + n.val % 64 := by
  have hr : rowStart r.val ≤ 24 := Nat.min_le_right _ _
  pointwise [val_main_v72, val_main_v71, val_main_v70, val_main_v69, val_main_v68, val_main_v67, val_main_c_13, val_main_c_14]
  rw [v59_eq]
  exact wrap_small _ (by omega)

end Cert.Attn.R

end
-- ==== Proof.Gather.lean ====
/-
  The host code's gathers at an index, the kernel's and the reference's: each takes one axis's entries at a table of
  starts and keeps the other axes.
-/
module

public import proofs.«01_k».proof.Proof.Gen.KernelIdeal.Launch
public import proofs.«01_k».proof.Proof.Gen.ReferenceIdeal.Run
public import Idealize.ShloMosaic.Lib.Pointwise

@[expose] public section

noncomputable section

open Idealize.ShloMosaic

namespace Cert.Attn.K

open Cert.KernelIdeal Cert.KernelIdeal.Gen

/-- The kernel's gather along the relative columns. -/
theorem gatherCol_apply (x : S32x15x31.Idx → EReal) (idx : IVec S64x64x1 32) (h : Fin 32) (r : Fin 15) (q c : Fin 64) :
    Host.gather gather_S32x15x31_S64x64x1_S32x15x64x64_01_2_n_n_2_2_32151 x idx (ix4 h r q c)
      = x (ix3 h r ⟨min (idx (ix3 q c 0)).toInt.toNat 30, by omega⟩) := by
  refine congrArg x (funext fun ax => Fin.ext ?_)
  match ax with
  | ⟨0, _⟩ =>
    show gather_S32x15x31_S64x64x1_S32x15x64x64_01_2_n_n_2_2_32151.start _ idx 0 + gather_S32x15x31_S64x64x1_S32x15x64x64_01_2_n_n_2_2_32151.batchCoord _ 0 + gather_S32x15x31_S64x64x1_S32x15x64x64_01_2_n_n_2_2_32151.offCoord _ 0 = _
    unfold GatherDims.start
    rw [dif_neg (by decide), GatherDims.batchCoord_eq_zero _ _ _ List.not_mem_nil]
    exact Nat.zero_add _
  | ⟨1, _⟩ =>
    show gather_S32x15x31_S64x64x1_S32x15x64x64_01_2_n_n_2_2_32151.start _ idx 1 + gather_S32x15x31_S64x64x1_S32x15x64x64_01_2_n_n_2_2_32151.batchCoord _ 1 + gather_S32x15x31_S64x64x1_S32x15x64x64_01_2_n_n_2_2_32151.offCoord _ 1 = _
    unfold GatherDims.start
    rw [dif_neg (by decide), GatherDims.batchCoord_eq_zero _ _ _ List.not_mem_nil]
    exact Nat.zero_add _
  | ⟨2, _⟩ =>
    have hs : gather_S32x15x31_S64x64x1_S32x15x64x64_01_2_n_n_2_2_32151.siIdx (ix4 h r q c) ⟨0, by decide⟩ = ix3 q c 0 := by
      funext b; refine Fin.ext ?_
      match b with
      | ⟨0, _⟩ => rfl
      | ⟨1, _⟩ => rfl
      | ⟨2, _⟩ => rfl
    exact congrArg (fun i => min (idx i).toInt.toNat 30) hs

/-- The kernel's gather along the relative rows. -/
theorem gatherRow_apply (x : S32x15x64x64.Idx → EReal) (idx : IVec S3x4x3x4x1 32) (h : Fin 32) (v : Fin 3) (a : Fin 4) (s : Fin 3) (k : Fin 4) (q c : Fin 64) :
    Host.gather gather_S32x15x64x64_S3x4x3x4x1_S32x3x4x3x4x64x64_056_1_n_n_1_4_3216464 x idx (ix7 h v a s k q c)
      = x (ix4 h ⟨min (idx (ix5 v a s k 0)).toInt.toNat 14, by omega⟩ q c) := by
  refine congrArg x (funext fun ax => Fin.ext ?_)
  match ax with
  | ⟨0, _⟩ =>
    show gather_S32x15x64x64_S3x4x3x4x1_S32x3x4x3x4x64x64_056_1_n_n_1_4_3216464.start _ idx 0 + gather_S32x15x64x64_S3x4x3x4x1_S32x3x4x3x4x64x64_056_1_n_n_1_4_3216464.batchCoord _ 0 + gather_S32x15x64x64_S3x4x3x4x1_S32x3x4x3x4x64x64_056_1_n_n_1_4_3216464.offCoord _ 0 = _
    unfold GatherDims.start
    rw [dif_neg (by decide), GatherDims.batchCoord_eq_zero _ _ _ List.not_mem_nil]
    exact Nat.zero_add _
  | ⟨1, _⟩ =>
    have hs : gather_S32x15x64x64_S3x4x3x4x1_S32x3x4x3x4x64x64_056_1_n_n_1_4_3216464.siIdx (ix7 h v a s k q c) ⟨0, by decide⟩ = ix5 v a s k 0 := by
      funext b; refine Fin.ext ?_
      match b with
      | ⟨0, _⟩ => rfl
      | ⟨1, _⟩ => rfl
      | ⟨2, _⟩ => rfl
      | ⟨3, _⟩ => rfl
      | ⟨4, _⟩ => rfl
    exact congrArg (fun i => min (idx i).toInt.toNat 14) hs
  | ⟨2, _⟩ =>
    show gather_S32x15x64x64_S3x4x3x4x1_S32x3x4x3x4x64x64_056_1_n_n_1_4_3216464.start _ idx 2 + gather_S32x15x64x64_S3x4x3x4x1_S32x3x4x3x4x64x64_056_1_n_n_1_4_3216464.batchCoord _ 2 + gather_S32x15x64x64_S3x4x3x4x1_S32x3x4x3x4x64x64_056_1_n_n_1_4_3216464.offCoord _ 2 = _
    unfold GatherDims.start
    rw [dif_neg (by decide), GatherDims.batchCoord_eq_zero _ _ _ List.not_mem_nil]
    exact Nat.zero_add _
  | ⟨3, _⟩ =>
    show gather_S32x15x64x64_S3x4x3x4x1_S32x3x4x3x4x64x64_056_1_n_n_1_4_3216464.start _ idx 3 + gather_S32x15x64x64_S3x4x3x4x1_S32x3x4x3x4x64x64_056_1_n_n_1_4_3216464.batchCoord _ 3 + gather_S32x15x64x64_S3x4x3x4x1_S32x3x4x3x4x64x64_056_1_n_n_1_4_3216464.offCoord _ 3 = _
    unfold GatherDims.start
    rw [dif_neg (by decide), GatherDims.batchCoord_eq_zero _ _ _ List.not_mem_nil]
    exact Nat.zero_add _

end Cert.Attn.K

namespace Cert.Attn.R

open Cert.ReferenceIdeal Cert.ReferenceIdeal.Gen

/-- The reference's gather of the key tokens. -/
theorem gatherTok_apply (x : S8x2048x32x128.Idx → EReal) (idx : IVec S32x512x1 32) (b : Fin 8) (r : Fin 32) (n : Fin 512) (h : Fin 32) (d : Fin 128) :
    Host.gather gather_S8x2048x32x128_S32x512x1_S8x32x512x32x128_034_1_n_n_1_2_8132128 x idx (ix5 b r n h d)
      = x (ix4 b ⟨min (idx (ix3 r n 0)).toInt.toNat 2047, by omega⟩ h d) := by
  refine congrArg x (funext fun ax => Fin.ext ?_)
  match ax with
  | ⟨0, _⟩ =>
    show gather_S8x2048x32x128_S32x512x1_S8x32x512x32x128_034_1_n_n_1_2_8132128.start _ idx 0 + gather_S8x2048x32x128_S32x512x1_S8x32x512x32x128_034_1_n_n_1_2_8132128.batchCoord _ 0 + gather_S8x2048x32x128_S32x512x1_S8x32x512x32x128_034_1_n_n_1_2_8132128.offCoord _ 0 = _
    unfold GatherDims.start
    rw [dif_neg (by decide), GatherDims.batchCoord_eq_zero _ _ _ List.not_mem_nil]
    exact Nat.zero_add _
  | ⟨1, _⟩ =>
    have hs : gather_S8x2048x32x128_S32x512x1_S8x32x512x32x128_034_1_n_n_1_2_8132128.siIdx (ix5 b r n h d) ⟨0, by decide⟩ = ix3 r n 0 := by
      funext b; refine Fin.ext ?_
      match b with
      | ⟨0, _⟩ => rfl
      | ⟨1, _⟩ => rfl
      | ⟨2, _⟩ => rfl
    exact congrArg (fun i => min (idx i).toInt.toNat 2047) hs
  | ⟨2, _⟩ =>
    show gather_S8x2048x32x128_S32x512x1_S8x32x512x32x128_034_1_n_n_1_2_8132128.start _ idx 2 + gather_S8x2048x32x128_S32x512x1_S8x32x512x32x128_034_1_n_n_1_2_8132128.batchCoord _ 2 + gather_S8x2048x32x128_S32x512x1_S8x32x512x32x128_034_1_n_n_1_2_8132128.offCoord _ 2 = _
    unfold GatherDims.start
    rw [dif_neg (by decide), GatherDims.batchCoord_eq_zero _ _ _ List.not_mem_nil]
    exact Nat.zero_add _
  | ⟨3, _⟩ =>
    show gather_S8x2048x32x128_S32x512x1_S8x32x512x32x128_034_1_n_n_1_2_8132128.start _ idx 3 + gather_S8x2048x32x128_S32x512x1_S8x32x512x32x128_034_1_n_n_1_2_8132128.batchCoord _ 3 + gather_S8x2048x32x128_S32x512x1_S8x32x512x32x128_034_1_n_n_1_2_8132128.offCoord _ 3 = _
    unfold GatherDims.start
    rw [dif_neg (by decide), GatherDims.batchCoord_eq_zero _ _ _ List.not_mem_nil]
    exact Nat.zero_add _

/-- The reference's gather along the relative rows. -/
theorem gatherRow_apply (x : S32x15x31.Idx → EReal) (idx : IVec S32x8x1 32) (h r : Fin 32) (k : Fin 8) (c : Fin 31) :
    Host.gather gather_S32x15x31_S32x8x1_S32x32x8x31_03_1_n_n_1_2_32131 x idx (ix4 h r k c)
      = x (ix3 h ⟨min (idx (ix3 r k 0)).toInt.toNat 14, by omega⟩ c) := by
  refine congrArg x (funext fun ax => Fin.ext ?_)
  match ax with
  | ⟨0, _⟩ =>
    show gather_S32x15x31_S32x8x1_S32x32x8x31_03_1_n_n_1_2_32131.start _ idx 0 + gather_S32x15x31_S32x8x1_S32x32x8x31_03_1_n_n_1_2_32131.batchCoord _ 0 + gather_S32x15x31_S32x8x1_S32x32x8x31_03_1_n_n_1_2_32131.offCoord _ 0 = _
    unfold GatherDims.start
    rw [dif_neg (by decide), GatherDims.batchCoord_eq_zero _ _ _ List.not_mem_nil]
    exact Nat.zero_add _
  | ⟨1, _⟩ =>
    have hs : gather_S32x15x31_S32x8x1_S32x32x8x31_03_1_n_n_1_2_32131.siIdx (ix4 h r k c) ⟨0, by decide⟩ = ix3 r k 0 := by
      funext b; refine Fin.ext ?_
      match b with
      | ⟨0, _⟩ => rfl
      | ⟨1, _⟩ => rfl
      | ⟨2, _⟩ => rfl
    exact congrArg (fun i => min (idx i).toInt.toNat 14) hs
  | ⟨2, _⟩ =>
    show gather_S32x15x31_S32x8x1_S32x32x8x31_03_1_n_n_1_2_32131.start _ idx 2 + gather_S32x15x31_S32x8x1_S32x32x8x31_03_1_n_n_1_2_32131.batchCoord _ 2 + gather_S32x15x31_S32x8x1_S32x32x8x31_03_1_n_n_1_2_32131.offCoord _ 2 = _
    unfold GatherDims.start
    rw [dif_neg (by decide), GatherDims.batchCoord_eq_zero _ _ _ List.not_mem_nil]
    exact Nat.zero_add _

/-- The reference's gather along the relative columns. -/
theorem gatherCol_apply (x : S32x32x8x31.Idx → EReal) (idx : IVec S64x64x1 32) (h r : Fin 32) (k : Fin 8) (q c : Fin 64) :
    Host.gather gather_S32x32x8x31_S64x64x1_S32x32x8x64x64_012_3_n_n_3_2_323281 x idx (ix5 h r k q c)
      = x (ix4 h r k ⟨min (idx (ix3 q c 0)).toInt.toNat 30, by omega⟩) := by
  refine congrArg x (funext fun ax => Fin.ext ?_)
  match ax with
  | ⟨0, _⟩ =>
    show gather_S32x32x8x31_S64x64x1_S32x32x8x64x64_012_3_n_n_3_2_323281.start _ idx 0 + gather_S32x32x8x31_S64x64x1_S32x32x8x64x64_012_3_n_n_3_2_323281.batchCoord _ 0 + gather_S32x32x8x31_S64x64x1_S32x32x8x64x64_012_3_n_n_3_2_323281.offCoord _ 0 = _
    unfold GatherDims.start
    rw [dif_neg (by decide), GatherDims.batchCoord_eq_zero _ _ _ List.not_mem_nil]
    exact Nat.zero_add _
  | ⟨1, _⟩ =>
    show gather_S32x32x8x31_S64x64x1_S32x32x8x64x64_012_3_n_n_3_2_323281.start _ idx 1 + gather_S32x32x8x31_S64x64x1_S32x32x8x64x64_012_3_n_n_3_2_323281.batchCoord _ 1 + gather_S32x32x8x31_S64x64x1_S32x32x8x64x64_012_3_n_n_3_2_323281.offCoord _ 1 = _
    unfold GatherDims.start
    rw [dif_neg (by decide), GatherDims.batchCoord_eq_zero _ _ _ List.not_mem_nil]
    exact Nat.zero_add _
  | ⟨2, _⟩ =>
    show gather_S32x32x8x31_S64x64x1_S32x32x8x64x64_012_3_n_n_3_2_323281.start _ idx 2 + gather_S32x32x8x31_S64x64x1_S32x32x8x64x64_012_3_n_n_3_2_323281.batchCoord _ 2 + gather_S32x32x8x31_S64x64x1_S32x32x8x64x64_012_3_n_n_3_2_323281.offCoord _ 2 = _
    unfold GatherDims.start
    rw [dif_neg (by decide), GatherDims.batchCoord_eq_zero _ _ _ List.not_mem_nil]
    exact Nat.zero_add _
  | ⟨3, _⟩ =>
    have hs : gather_S32x32x8x31_S64x64x1_S32x32x8x64x64_012_3_n_n_3_2_323281.siIdx (ix5 h r k q c) ⟨0, by decide⟩ = ix3 q c 0 := by
      funext b; refine Fin.ext ?_
      match b with
      | ⟨0, _⟩ => rfl
      | ⟨1, _⟩ => rfl
      | ⟨2, _⟩ => rfl
    exact congrArg (fun i => min (idx i).toInt.toNat 30) hs

end Cert.Attn.R

end
-- ==== Proof.Block.lean ====
/-
  One head of the kernel's body at an index of its output, over the extended reals: the attention of the query row over
  the meta keys and the three key blocks.
-/
module

public import proofs.«01_k».proof.Proof.Gen.KernelIdeal.Skeleton
public import proofs.«01_k».proof.Proof.Softmax
public import Idealize.ShloMosaic.Lib.Pointwise

@[expose] public section

noncomputable section

open scoped BigOperators

namespace Cert.Attn

open Idealize.ShloMosaic Cert.KernelIdeal Cert.KernelIdeal.Gen

/-- The word of minus infinity reads as `⊥`. -/
theorem ofBits_neg_inf : Ideal.ofBits .f32 0xFF800000#32 = ⊥ := by
  simp [Ideal.ofBits, Ideal.ieee]

/-- The scores of one query row against one key block: the products over the head's dimensions plus the bias. -/
def blkScore (q k : S256x128.Idx → EReal) (bb : S1x1x256x256.Idx → EReal) (y j : Fin 256) : EReal :=
  (∑ d : Fin 128, q (ix2 y d) * k (ix2 j d)) + bb (ix4 0 0 y j)

/-- The scores of one query row against the meta keys. -/
def metaScore (q : S256x128.Idx → EReal) (km : S16x128.Idx → EReal) (y : Fin 256) (j : Fin 16) : EReal :=
  ∑ d : Fin 128, q (ix2 y d) * km (ix2 j d)

/-- One head's attention of row `y` in column `c` of its output. -/
def headAttn (q k0 k1 k2 : S256x128.Idx → EReal) (b0 b1 b2 : S1x1x256x256.Idx → EReal) (km vm : S16x128.Idx → EReal)
    (v0 v1 v2 : S256x128.Idx → EReal) (y : Fin 256) (c : Fin 128) : EReal :=
  kerAttn (metaScore q km y) (fun j => vm (ix2 j c)) ![blkScore q k0 b0 y, blkScore q k1 b1 y, blkScore q k2 b2 y]
    ![fun j => v0 (ix2 j c), fun j => v1 (ix2 j c), fun j => v2 (ix2 j c)]

set_option maxRecDepth 16384 in
/-- The body's value for one head, read at an index. -/
theorem head_apply (q k0 k1 k2 : FVec Ideal S256x128 .bf16) (b0 b1 b2 : FVec Ideal S1x1x256x256 .f32)
    (km vm : FVec Ideal S16x128 .bf16) (v0 v1 v2 : FVec Ideal S256x128 .bf16) (y : Fin 256) (c : Fin 128) :
    k0_pay7 (F := Ideal) (k0_pay1 q k0 b0) (k0_pay2 q k1 b1) (k0_pay3 q k2 b2) (k0_pay4 q km) (k0_pay5 q k0 b0 k1 b1 km)
      (k0_pay6 q k2 b2) vm v0 v1 v2 (ix2 y c)
      = headAttn q k0 k1 k2 b0 b1 b2 km vm v0 v1 v2 y c := by
  unfold headAttn kerAttn kerMax
  pointwise [k0_pay7, k0_pay1, k0_pay2, k0_pay3, k0_pay4, k0_pay5, k0_pay6, blkScore, metaScore]
  rfl

end Cert.Attn

end
-- ==== Proof.Heads.lean ====
/-
  The whole block the body stores at a grid point, at an index: its four stores, one per head, are columns of ONE
  function of the input blocks.
-/
module

public import proofs.«01_k».proof.Proof.Block
public import proofs.«01_k».proof.Proof.Gen.KernelIdeal.Value

@[expose] public section

noncomputable section

open scoped BigOperators

namespace Cert.Attn

open Idealize.ShloMosaic Cert.KernelIdeal Cert.KernelIdeal.Gen

/-- Head `h` of a block of 512 columns: its 128 columns. -/
def col4 (h : Fin 4) (x : S256x512.Idx → EReal) : S256x128.Idx → EReal :=
  fun i => x (ix2 (i 0) ⟨128 * h.val + (i 1).val, by have : (i 1).val < 128 := (i 1).isLt; have := h.isLt; omega⟩)

/-- Head `h` of a block of meta rows. -/
def colm (h : Fin 4) (x : S16x512.Idx → EReal) : S16x128.Idx → EReal :=
  fun i => x (ix2 (i 0) ⟨128 * h.val + (i 1).val, by have : (i 1).val < 128 := (i 1).isLt; have := h.isLt; omega⟩)

/-- Head `h`'s bias against key block `s`. -/
def colb (h : Fin 4) (s : Fin 3) (x : S1x4x256x768.Idx → EReal) : S1x1x256x256.Idx → EReal :=
  fun i => x (ix4 0 h (i 2) ⟨256 * s.val + (i 3).val, by have : (i 3).val < 256 := (i 3).isLt; have := s.isLt; omega⟩)

/-- One head's attention over the input blocks. -/
def headK (x0 x1 x2 x3 x4 x5 x6 : S256x512.Idx → EReal) (x7 x8 : S16x512.Idx → EReal) (x9 : S1x4x256x768.Idx → EReal)
    (h : Fin 4) (y : Fin 256) (d : Fin 128) : EReal :=
  headAttn (col4 h x0) (col4 h x1) (col4 h x2) (col4 h x3) (colb h 0 x9) (colb h 1 x9) (colb h 2 x9) (colm h x7)
    (colm h x8) (col4 h x4) (col4 h x5) (col4 h x6) y d

/-- The stored block as one function of the input blocks. -/
def blockK (x0 x1 x2 x3 x4 x5 x6 : S256x512.Idx → EReal) (x7 x8 : S16x512.Idx → EReal) (x9 : S1x4x256x768.Idx → EReal) :
    S256x512.Idx → EReal :=
  fun y => headK x0 x1 x2 x3 x4 x5 x6 x7 x8 x9
    ⟨(y 1).val / 128, by have : (y 1).val < 512 := (y 1).isLt; omega⟩ (y 0) ⟨(y 1).val % 128, Nat.mod_lt _ (by omega)⟩

/-- A block's function at the index of a head's rectangle. -/
theorem blockK_at (x0 x1 x2 x3 x4 x5 x6 : S256x512.Idx → EReal) (x7 x8 : S16x512.Idx → EReal) (x9 : S1x4x256x768.Idx → EReal)
    (h : Fin 4) (y : S256x512.Idx) (a : Fin 256) (d : Fin 128) (h0 : (y 0).val = a.val) (h1 : (y 1).val = 128 * h.val + d.val) :
    blockK x0 x1 x2 x3 x4 x5 x6 x7 x8 x9 y = headK x0 x1 x2 x3 x4 x5 x6 x7 x8 x9 h a d := by
  unfold blockK
  have e0 : y 0 = a := Fin.ext h0
  have e1 : (⟨(y 1).val / 128, by have : (y 1).val < 512 := (y 1).isLt; omega⟩ : Fin 4) = h := Fin.ext (by
    show (y 1).val / 128 = h.val
    have := d.isLt; omega)
  have e2 : (⟨(y 1).val % 128, Nat.mod_lt _ (by omega)⟩ : Fin 128) = d := Fin.ext (by
    show (y 1).val % 128 = d.val
    have := d.isLt; omega)
  rw [e1, e2]
  exact congrArg (fun z => headK x0 x1 x2 x3 x4 x5 x6 x7 x8 x9 h z d) e0

/-- A load of a head's columns. -/
theorem ld_col4 (h : Fin 4) (x : S256x512.Idx → EReal) (off : Fin 2 → ℕ) (inb) (h0 : off 0 = 0) (h1 : off 1 = 128 * h.val) :
    View.ld (Val := Elt Ideal) (e' := .bf16) x (Rect.unit (s := S256x512) off S256x128.size inb) = col4 h x := by
  funext i
  refine congrArg x (Shape.idx_ext₂ ?_ ?_)
  · show off 0 + 1 * (i 0).val = (i 0).val; omega
  · show off 1 + 1 * (i 1).val = 128 * h.val + (i 1).val; omega

/-- A load of a head's columns of the meta rows. -/
theorem ld_colm (h : Fin 4) (x : S16x512.Idx → EReal) (off : Fin 2 → ℕ) (inb) (h0 : off 0 = 0) (h1 : off 1 = 128 * h.val) :
    View.ld (Val := Elt Ideal) (e' := .bf16) x (Rect.unit (s := S16x512) off S16x128.size inb) = colm h x := by
  funext i
  refine congrArg x (Shape.idx_ext₂ ?_ ?_)
  · show off 0 + 1 * (i 0).val = (i 0).val; omega
  · show off 1 + 1 * (i 1).val = 128 * h.val + (i 1).val; omega

/-- A load of a head's bias against one key block. -/
theorem ld_colb (h : Fin 4) (s : Fin 3) (x : S1x4x256x768.Idx → EReal) (off : Fin 4 → ℕ) (inb) (h0 : off 0 = 0)
    (h1 : off 1 = h.val) (h2 : off 2 = 0) (h3 : off 3 = 256 * s.val) :
    View.ld (Val := Elt Ideal) (e' := .f32) x (Rect.unit (s := S1x4x256x768) off S1x1x256x256.size inb) = colb h s x := by
  funext i
  refine congrArg x (funext fun a => Fin.ext ?_)
  have i0 : (i 0).val < 1 := (i 0).isLt
  have i1 : (i 1).val < 1 := (i 1).isLt
  match a with
  | ⟨0, _⟩ => show off 0 + 1 * (i 0).val = 0; omega
  | ⟨1, _⟩ => show off 1 + 1 * (i 1).val = h.val; omega
  | ⟨2, _⟩ => show off 2 + 1 * (i 2).val = (i 2).val; omega
  | ⟨3, _⟩ => show off 3 + 1 * (i 3).val = 256 * s.val + (i 3).val; omega

/-- The body's load through this rectangle. -/
theorem ld_r0 (x : FVec Ideal S256x512 .bf16) : View.ld (Val := Elt Ideal) (e' := .bf16) x r0_0 = col4 0 x := ld_col4 0 x ![0, 0] _ rfl rfl
/-- The body's load through this rectangle. -/
theorem ld_r1 (x : FVec Ideal S1x4x256x768 .f32) : View.ld (Val := Elt Ideal) (e' := .f32) x r0_1 = colb 0 0 x :=
  ld_colb 0 0 x ![0, 0, 0, 0] _ rfl rfl rfl rfl
/-- The body's load through this rectangle. -/
theorem ld_r2 (x : FVec Ideal S1x4x256x768 .f32) : View.ld (Val := Elt Ideal) (e' := .f32) x r0_2 = colb 0 1 x :=
  ld_colb 0 1 x ![0, 0, 0, 256] _ rfl rfl rfl rfl
/-- The body's load through this rectangle. -/
theorem ld_r3 (x : FVec Ideal S1x4x256x768 .f32) : View.ld (Val := Elt Ideal) (e' := .f32) x r0_3 = colb 0 2 x :=
  ld_colb 0 2 x ![0, 0, 0, 512] _ rfl rfl rfl rfl
/-- The body's load through this rectangle. -/
theorem ld_r4 (x : FVec Ideal S16x512 .bf16) : View.ld (Val := Elt Ideal) (e' := .bf16) x r0_4 = colm 0 x := ld_colm 0 x ![0, 0] _ rfl rfl
/-- The body's load through this rectangle. -/
theorem ld_r5 (x : FVec Ideal S256x512 .bf16) : View.ld (Val := Elt Ideal) (e' := .bf16) x r0_5 = col4 1 x := ld_col4 1 x ![0, 128] _ rfl rfl
/-- The body's load through this rectangle. -/
theorem ld_r6 (x : FVec Ideal S1x4x256x768 .f32) : View.ld (Val := Elt Ideal) (e' := .f32) x r0_6 = colb 1 0 x :=
  ld_colb 1 0 x ![0, 1, 0, 0] _ rfl rfl rfl rfl
/-- The body's load through this rectangle. -/
theorem ld_r7 (x : FVec Ideal S1x4x256x768 .f32) : View.ld (Val := Elt Ideal) (e' := .f32) x r0_7 = colb 1 1 x :=
  ld_colb 1 1 x ![0, 1, 0, 256] _ rfl rfl rfl rfl
/-- The body's load through this rectangle. -/
theorem ld_r8 (x : FVec Ideal S1x4x256x768 .f32) : View.ld (Val := Elt Ideal) (e' := .f32) x r0_8 = colb 1 2 x :=
  ld_colb 1 2 x ![0, 1, 0, 512] _ rfl rfl rfl rfl
/-- The body's load through this rectangle. -/
theorem ld_r9 (x : FVec Ideal S16x512 .bf16) : View.ld (Val := Elt Ideal) (e' := .bf16) x r0_9 = colm 1 x := ld_colm 1 x ![0, 128] _ rfl rfl
/-- The body's load through this rectangle. -/
theorem ld_r10 (x : FVec Ideal S256x512 .bf16) : View.ld (Val := Elt Ideal) (e' := .bf16) x r0_10 = col4 2 x := ld_col4 2 x ![0, 256] _ rfl rfl
/-- The body's load through this rectangle. -/
theorem ld_r11 (x : FVec Ideal S1x4x256x768 .f32) : View.ld (Val := Elt Ideal) (e' := .f32) x r0_11 = colb 2 0 x :=
  ld_colb 2 0 x ![0, 2, 0, 0] _ rfl rfl rfl rfl
/-- The body's load through this rectangle. -/
theorem ld_r12 (x : FVec Ideal S1x4x256x768 .f32) : View.ld (Val := Elt Ideal) (e' := .f32) x r0_12 = colb 2 1 x :=
  ld_colb 2 1 x ![0, 2, 0, 256] _ rfl rfl rfl rfl
/-- The body's load through this rectangle. -/
theorem ld_r13 (x : FVec Ideal S1x4x256x768 .f32) : View.ld (Val := Elt Ideal) (e' := .f32) x r0_13 = colb 2 2 x :=
  ld_colb 2 2 x ![0, 2, 0, 512] _ rfl rfl rfl rfl
/-- The body's load through this rectangle. -/
theorem ld_r14 (x : FVec Ideal S16x512 .bf16) : View.ld (Val := Elt Ideal) (e' := .bf16) x r0_14 = colm 2 x := ld_colm 2 x ![0, 256] _ rfl rfl
/-- The body's load through this rectangle. -/
theorem ld_r15 (x : FVec Ideal S256x512 .bf16) : View.ld (Val := Elt Ideal) (e' := .bf16) x r0_15 = col4 3 x := ld_col4 3 x ![0, 384] _ rfl rfl
/-- The body's load through this rectangle. -/
theorem ld_r16 (x : FVec Ideal S1x4x256x768 .f32) : View.ld (Val := Elt Ideal) (e' := .f32) x r0_16 = colb 3 0 x :=
  ld_colb 3 0 x ![0, 3, 0, 0] _ rfl rfl rfl rfl
/-- The body's load through this rectangle. -/
theorem ld_r17 (x : FVec Ideal S1x4x256x768 .f32) : View.ld (Val := Elt Ideal) (e' := .f32) x r0_17 = colb 3 1 x :=
  ld_colb 3 1 x ![0, 3, 0, 256] _ rfl rfl rfl rfl
/-- The body's load through this rectangle. -/
theorem ld_r18 (x : FVec Ideal S1x4x256x768 .f32) : View.ld (Val := Elt Ideal) (e' := .f32) x r0_18 = colb 3 2 x :=
  ld_colb 3 2 x ![0, 3, 0, 512] _ rfl rfl rfl rfl
/-- The body's load through this rectangle. -/
theorem ld_r19 (x : FVec Ideal S16x512 .bf16) : View.ld (Val := Elt Ideal) (e' := .bf16) x r0_19 = colm 3 x := ld_colm 3 x ![0, 384] _ rfl rfl

/-- A head's payload over its columns is its attention, at any index. -/
theorem pay_head (x0 x1 x2 x3 x4 x5 x6 : FVec Ideal S256x512 .bf16) (x7 x8 : FVec Ideal S16x512 .bf16)
    (x9 : FVec Ideal S1x4x256x768 .f32) (h : Fin 4) (x : S256x128.Idx) :
    k0_pay7 (F := Ideal) (k0_pay1 (F := Ideal) (col4 h x0) (col4 h x1) (colb h 0 x9))
      (k0_pay2 (F := Ideal) (col4 h x0) (col4 h x2) (colb h 1 x9))
      (k0_pay3 (F := Ideal) (col4 h x0) (col4 h x3) (colb h 2 x9)) (k0_pay4 (F := Ideal) (col4 h x0) (colm h x7))
      (k0_pay5 (F := Ideal) (col4 h x0) (col4 h x1) (colb h 0 x9) (col4 h x2) (colb h 1 x9) (colm h x7))
      (k0_pay6 (F := Ideal) (col4 h x0) (col4 h x3) (colb h 2 x9)) (colm h x8) (col4 h x4) (col4 h x5) (col4 h x6) x
      = headK x0 x1 x2 x3 x4 x5 x6 x7 x8 x9 h (x 0) (x 1) := by
  refine (congrArg _ (eq_ix2 x)).trans ?_
  exact head_apply _ _ _ _ _ _ _ _ _ _ _ _ _ _

/-- The block's rectangle of head `h` at a local index: row and column. -/
theorem emb_head (off : Fin 2 → ℕ) (inb) (x : S256x128.Idx) (k : ℕ) (h0 : off 0 = 0) (h1 : off 1 = k) :
    (((Rect.unit (s := S256x512) off S256x128.size inb).emb x 0).val = (x 0).val)
      ∧ (((Rect.unit (s := S256x512) off S256x128.size inb).emb x 1).val = k + (x 1).val) := by
  constructor
  · show off 0 + 1 * (x 0).val = (x 0).val; omega
  · show off 1 + 1 * (x 1).val = k + (x 1).val; omega

/-- THE STORED BLOCK at every index: the attention of the row's query in the column's head. -/
theorem out_eq (x0 x1 x2 x3 x4 x5 x6 : FVec Ideal S256x512 .bf16) (x7 x8 : FVec Ideal S16x512 .bf16)
    (x9 : FVec Ideal S1x4x256x768 .f32) :
    out0_10 (F := Ideal) x0 x1 x2 x3 x4 x5 x6 x7 x8 x9 = blockK x0 x1 x2 x3 x4 x5 x6 x7 x8 x9 := by
  funext y
  unfold out0_10
  simp only [ld_r0, ld_r1, ld_r2, ld_r3, ld_r4, ld_r5, ld_r6, ld_r7, ld_r8, ld_r9, ld_r10, ld_r11, ld_r12, ld_r13, ld_r14, ld_r15, ld_r16, ld_r17, ld_r18, ld_r19]
  refine View.canon_apply_of_pieces (Val := Elt Ideal) (e := .bf16) (blockK x0 x1 x2 x3 x4 x5 x6 x7 x8 x9) _ ?_ y ?_
  · intro p hp
    simp only [List.mem_cons, List.not_mem_nil, or_false] at hp
    rcases hp with rfl | rfl | rfl | rfl
    · intro x
      have he := emb_head ![0, 384] inb_S256x512_S256x128_0_384 x 384 rfl rfl
      exact (pay_head x0 x1 x2 x3 x4 x5 x6 x7 x8 x9 3 x).trans (blockK_at _ _ _ _ _ _ _ _ _ _ 3 _ (x 0) (x 1) he.1 he.2).symm
    · intro x
      have he := emb_head ![0, 256] inb_S256x512_S256x128_0_256 x 256 rfl rfl
      exact (pay_head x0 x1 x2 x3 x4 x5 x6 x7 x8 x9 2 x).trans (blockK_at _ _ _ _ _ _ _ _ _ _ 2 _ (x 0) (x 1) he.1 he.2).symm
    · intro x
      have he := emb_head ![0, 128] inb_S256x512_S256x128_0_128 x 128 rfl rfl
      exact (pay_head x0 x1 x2 x3 x4 x5 x6 x7 x8 x9 1 x).trans (blockK_at _ _ _ _ _ _ _ _ _ _ 1 _ (x 0) (x 1) he.1 he.2).symm
    · intro x
      have he := emb_head ![0, 0] inb_S256x512_S256x128_0_0 x 0 rfl rfl
      exact (pay_head x0 x1 x2 x3 x4 x5 x6 x7 x8 x9 0 x).trans (blockK_at _ _ _ _ _ _ _ _ _ _ 0 _ (x 0) (x 1) he.1 he.2).symm
  · have hy0 : (y 0).val < 256 := (y 0).isLt
    have hy1 : (y 1).val < 512 := (y 1).isLt
    have hm : ∀ (off : Fin 2 → ℕ) (inb), off 0 = 0 → off 1 ≤ (y 1).val → (y 1).val < off 1 + 128 →
        y ∈ (Rect.unit (s := S256x512) off S256x128.size inb).set := fun off inb h0 h1 h2 => by
      rw [Rect.mem_set_unit]
      intro a
      match a with
      | ⟨0, _⟩ => show off 0 ≤ (y 0).val ∧ (y 0).val < off 0 + 256; omega
      | ⟨1, _⟩ => show off 1 ≤ (y 1).val ∧ (y 1).val < off 1 + 128; omega
    by_cases h3 : 384 ≤ (y 1).val
    · exact ⟨_, .head _, hm ![0, 384] inb_S256x512_S256x128_0_384 rfl h3 (by show (y 1).val < 384 + 128; omega)⟩
    by_cases h2 : 256 ≤ (y 1).val
    · exact ⟨_, .tail _ (.head _), hm ![0, 256] inb_S256x512_S256x128_0_256 rfl h2 (by show (y 1).val < 256 + 128; omega)⟩
    by_cases h1 : 128 ≤ (y 1).val
    · exact ⟨_, .tail _ (.tail _ (.head _)), hm ![0, 128] inb_S256x512_S256x128_0_128 rfl h1 (by show (y 1).val < 128 + 128; omega)⟩
    · exact ⟨_, .tail _ (.tail _ (.tail _ (.head _))), hm ![0, 0] inb_S256x512_S256x128_0_0 rfl (Nat.zero_le _) (by show (y 1).val < 0 + 128; omega)⟩

end Cert.Attn

end
-- ==== Proof.Index.lean ====
/-
  The packed array and the bias array read at numbers, and where each window's block lies at a grid point.
-/
module

public import proofs.«01_k».proof.Proof.Heads

@[expose] public section

noncomputable section

open scoped BigOperators

namespace Cert.Attn

open Idealize.ShloMosaic Idealize.ShloMosaic.Pipeline Idealize.SL.Sem Cert.KernelIdeal Cert.KernelIdeal.Gen

/-- The packed array at a row and a column given as numbers. -/
def rd (X : S33280x12288.Idx → EReal) (r c : ℕ) : EReal :=
  if h : r < 33280 ∧ c < 12288 then X (ix2 ⟨r, h.1⟩ ⟨c, h.2⟩) else 0

/-- The bias array at a border case, a head, a query and a key given as numbers. -/
def rb (B : S3x32x256x768.Idx → EReal) (v h y z : ℕ) : EReal :=
  if hh : v < 3 ∧ h < 32 ∧ y < 256 ∧ z < 768 then B (ix4 ⟨v, hh.1⟩ ⟨h, hh.2.1⟩ ⟨y, hh.2.2.1⟩ ⟨z, hh.2.2.2⟩) else 0

/-- An entry of the packed array, by the numbers of its row and column. -/
theorem rd_eq (X : S33280x12288.Idx → EReal) (i : S33280x12288.Idx) (r c : ℕ) (h0 : (i 0).val = r) (h1 : (i 1).val = c) :
    X i = rd X r c := by
  subst h0 h1
  have hr : (i 0).val < 33280 := (i 0).isLt
  have hc : (i 1).val < 12288 := (i 1).isLt
  unfold rd
  rw [dif_pos ⟨hr, hc⟩]
  exact congrArg X (eq_ix2 i)

/-- An entry of the bias array, by the numbers of its coordinates. -/
theorem rb_eq (B : S3x32x256x768.Idx → EReal) (i : S3x32x256x768.Idx) (v h y z : ℕ) (h0 : (i 0).val = v)
    (h1 : (i 1).val = h) (h2 : (i 2).val = y) (h3 : (i 3).val = z) : B i = rb B v h y z := by
  subst h0 h1 h2 h3
  have e0 : (i 0).val < 3 := (i 0).isLt
  have e1 : (i 1).val < 32 := (i 1).isLt
  have e2 : (i 2).val < 256 := (i 2).isLt
  have e3 : (i 3).val < 768 := (i 3).isLt
  unfold rb
  rw [dif_pos ⟨e0, e1, e2, e3⟩]
  exact congrArg B (eq_ix4 i)

/-- Which of the three key blocks about row block `g` the kernel reads at `s`, kept inside the image. -/
def kbl (s g : ℕ) : ℕ := min 7 (g + s - 1)

/-- Which bias block row block `g` uses: the first, the last or one between. -/
def vbl (g : ℕ) : ℕ := if g = 0 then 0 else if g = 7 then 2 else 1

/-- The kernel's attention of query `y` of row block `g` of image `b`, head `h`, at dimension `dd`. -/
def kerOut (X : S33280x12288.Idx → EReal) (B : S3x32x256x768.Idx → EReal) (b g y h dd : ℕ) : EReal :=
  kerAttn
    (fun j : Fin 16 => ∑ d : Fin 128, rd X (32 + 2080 * b + 256 * g + y) (128 * h + d.val)
      * rd X (16 + 2080 * b + j.val) (4096 + 128 * h + d.val))
    (fun j : Fin 16 => rd X (16 + 2080 * b + j.val) (8192 + 128 * h + dd))
    (fun (s : Fin 3) (j : Fin 256) => (∑ d : Fin 128, rd X (32 + 2080 * b + 256 * g + y) (128 * h + d.val)
      * rd X (32 + 2080 * b + 256 * kbl s.val g + j.val) (4096 + 128 * h + d.val)) + rb B (vbl g) h y (256 * s.val + j.val))
    (fun (s : Fin 3) (j : Fin 256) => rd X (32 + 2080 * b + 256 * kbl s.val g + j.val) (8192 + 128 * h + dd))

/-- Where window 0's block lies at a grid point. -/
theorem index0 : ∀ t : Fin cfg0.N, win0_0.index t 0 = 32 + 2080 * (t.val / 8 % 8) + 256 * (t.val % 8) ∧ win0_0.index t 1 = 512 * (t.val / 64) := by
  decide +kernel

/-- Where window 1's block lies at a grid point. -/
theorem index1 : ∀ t : Fin cfg0.N, win0_1.index t 0 = 32 + 2080 * (t.val / 8 % 8) + 256 * kbl 0 (t.val % 8) ∧ win0_1.index t 1 = 4096 + 512 * (t.val / 64) := by
  decide +kernel

/-- Where window 2's block lies at a grid point. -/
theorem index2 : ∀ t : Fin cfg0.N, win0_2.index t 0 = 32 + 2080 * (t.val / 8 % 8) + 256 * kbl 1 (t.val % 8) ∧ win0_2.index t 1 = 4096 + 512 * (t.val / 64) := by
  decide +kernel

/-- Where window 3's block lies at a grid point. -/
theorem index3 : ∀ t : Fin cfg0.N, win0_3.index t 0 = 32 + 2080 * (t.val / 8 % 8) + 256 * kbl 2 (t.val % 8) ∧ win0_3.index t 1 = 4096 + 512 * (t.val / 64) := by
  decide +kernel

/-- Where window 4's block lies at a grid point. -/
theorem index4 : ∀ t : Fin cfg0.N, win0_4.index t 0 = 32 + 2080 * (t.val / 8 % 8) + 256 * kbl 0 (t.val % 8) ∧ win0_4.index t 1 = 8192 + 512 * (t.val / 64) := by
  decide +kernel

/-- Where window 5's block lies at a grid point. -/
theorem index5 : ∀ t : Fin cfg0.N, win0_5.index t 0 = 32 + 2080 * (t.val / 8 % 8) + 256 * kbl 1 (t.val % 8) ∧ win0_5.index t 1 = 8192 + 512 * (t.val / 64) := by
  decide +kernel

/-- Where window 6's block lies at a grid point. -/
theorem index6 : ∀ t : Fin cfg0.N, win0_6.index t 0 = 32 + 2080 * (t.val / 8 % 8) + 256 * kbl 2 (t.val % 8) ∧ win0_6.index t 1 = 8192 + 512 * (t.val / 64) := by
  decide +kernel

/-- Where window 7's block lies at a grid point. -/
theorem index7 : ∀ t : Fin cfg0.N, win0_7.index t 0 = 16 + 2080 * (t.val / 8 % 8) ∧ win0_7.index t 1 = 4096 + 512 * (t.val / 64) := by
  decide +kernel

/-- Where window 8's block lies at a grid point. -/
theorem index8 : ∀ t : Fin cfg0.N, win0_8.index t 0 = 16 + 2080 * (t.val / 8 % 8) ∧ win0_8.index t 1 = 8192 + 512 * (t.val / 64) := by
  decide +kernel

/-- Which bias block a grid point reads. -/
theorem index9 : ∀ t : Fin cfg0.N, win0_9.index t 0 = vbl (t.val % 8) ∧ win0_9.index t 1 = t.val / 64
    ∧ win0_9.index t 2 = 0 ∧ win0_9.index t 3 = 0 := by decide +kernel

/-- Which output block a grid point writes. -/
theorem index10 : ∀ t : Fin cfg0.N, win0_10.index t 0 = t.val / 8 % 8 * 8 + t.val % 8 ∧ win0_10.index t 1 = t.val / 64 := by
  decide +kernel

end Cert.Attn

end
-- ==== Proof.Array.lean ====
/-
  The kernel's output array as ONE function of the packed queries, keys and values and of the bias array: what each grid
  point writes back is its block of that function, and the blocks cover the array.
-/
module

public import proofs.«01_k».proof.Proof.Index

@[expose] public section

noncomputable section

open scoped BigOperators

namespace Cert.Attn

open Idealize.ShloMosaic Idealize.ShloMosaic.Pipeline Idealize.SL.Sem Cert.KernelIdeal Cert.KernelIdeal.Gen

/-- Two equal families of scores and values give one attention. -/
theorem kerAttn_congr {nm n : ℕ} {sm sm' vm vm' : Fin nm → EReal} {sk sk' vk vk' : Fin 3 → Fin n → EReal} (h1 : sm = sm')
    (h2 : vm = vm') (h3 : sk = sk') (h4 : vk = vk') : kerAttn sm vm sk vk = kerAttn sm' vm' sk' vk' := by
  subst h1 h2 h3 h4
  rfl

/-- A block whose inputs are the packed array's and the bias array's entries holds the kernel's attention. -/
theorem block_of (X : S33280x12288.Idx → EReal) (B : S3x32x256x768.Idx → EReal) (b g H : ℕ)
    (x0 x1 x2 x3 x4 x5 x6 : S256x512.Idx → EReal) (x7 x8 : S16x512.Idx → EReal) (x9 : S1x4x256x768.Idx → EReal)
    (h0 : ∀ y, x0 y = rd X (32 + 2080 * b + 256 * g + (y 0).val) (512 * H + (y 1).val))
    (h1 : ∀ y, x1 y = rd X (32 + 2080 * b + 256 * kbl 0 g + (y 0).val) (4096 + 512 * H + (y 1).val))
    (h2 : ∀ y, x2 y = rd X (32 + 2080 * b + 256 * kbl 1 g + (y 0).val) (4096 + 512 * H + (y 1).val))
    (h3 : ∀ y, x3 y = rd X (32 + 2080 * b + 256 * kbl 2 g + (y 0).val) (4096 + 512 * H + (y 1).val))
    (h4 : ∀ y, x4 y = rd X (32 + 2080 * b + 256 * kbl 0 g + (y 0).val) (8192 + 512 * H + (y 1).val))
    (h5 : ∀ y, x5 y = rd X (32 + 2080 * b + 256 * kbl 1 g + (y 0).val) (8192 + 512 * H + (y 1).val))
    (h6 : ∀ y, x6 y = rd X (32 + 2080 * b + 256 * kbl 2 g + (y 0).val) (8192 + 512 * H + (y 1).val))
    (h7 : ∀ y, x7 y = rd X (16 + 2080 * b + (y 0).val) (4096 + 512 * H + (y 1).val))
    (h8 : ∀ y, x8 y = rd X (16 + 2080 * b + (y 0).val) (8192 + 512 * H + (y 1).val))
    (h9 : ∀ y, x9 y = rb B (vbl g) (4 * H + (y 1).val) (y 2).val (y 3).val) (y : S256x512.Idx) :
    blockK x0 x1 x2 x3 x4 x5 x6 x7 x8 x9 y
      = kerOut X B b g (y 0).val (4 * H + (y 1).val / 128) ((y 1).val % 128) := by
  have ey : ∀ n d : ℕ, n + 512 * H + (128 * ((y 1).val / 128) + d) = n + 128 * (4 * H + (y 1).val / 128) + d :=
    fun n d => by omega
  have ey' : ∀ d : ℕ, 512 * H + (128 * ((y 1).val / 128) + d) = 128 * (4 * H + (y 1).val / 128) + d := fun d => by omega
  have hq : ∀ d : Fin 128, col4 ⟨(y 1).val / 128, by have : (y 1).val < 512 := (y 1).isLt; omega⟩ x0 (ix2 (y 0) d)
      = rd X (32 + 2080 * b + 256 * g + (y 0).val) (128 * (4 * H + (y 1).val / 128) + d.val) := fun d =>
    (h0 _).trans (congrArg (rd X _) (ey' d.val))
  have hc1 : ∀ (j : Fin 256) (d : Fin 128), col4 ⟨(y 1).val / 128, by have : (y 1).val < 512 := (y 1).isLt; omega⟩ x1 (ix2 j d)
      = rd X (32 + 2080 * b + 256 * kbl 0 g + j.val) (4096 + 128 * (4 * H + (y 1).val / 128) + d.val) := fun j d =>
    (h1 _).trans (congrArg (rd X _) (ey 4096 d.val))
  have hc2 : ∀ (j : Fin 256) (d : Fin 128), col4 ⟨(y 1).val / 128, by have : (y 1).val < 512 := (y 1).isLt; omega⟩ x2 (ix2 j d)
      = rd X (32 + 2080 * b + 256 * kbl 1 g + j.val) (4096 + 128 * (4 * H + (y 1).val / 128) + d.val) := fun j d =>
    (h2 _).trans (congrArg (rd X _) (ey 4096 d.val))
  have hc3 : ∀ (j : Fin 256) (d : Fin 128), col4 ⟨(y 1).val / 128, by have : (y 1).val < 512 := (y 1).isLt; omega⟩ x3 (ix2 j d)
      = rd X (32 + 2080 * b + 256 * kbl 2 g + j.val) (4096 + 128 * (4 * H + (y 1).val / 128) + d.val) := fun j d =>
    (h3 _).trans (congrArg (rd X _) (ey 4096 d.val))
  have hc4 : ∀ (j : Fin 256) (d : Fin 128), col4 ⟨(y 1).val / 128, by have : (y 1).val < 512 := (y 1).isLt; omega⟩ x4 (ix2 j d)
      = rd X (32 + 2080 * b + 256 * kbl 0 g + j.val) (8192 + 128 * (4 * H + (y 1).val / 128) + d.val) := fun j d =>
    (h4 _).trans (congrArg (rd X _) (ey 8192 d.val))
  have hc5 : ∀ (j : Fin 256) (d : Fin 128), col4 ⟨(y 1).val / 128, by have : (y 1).val < 512 := (y 1).isLt; omega⟩ x5 (ix2 j d)
      = rd X (32 + 2080 * b + 256 * kbl 1 g + j.val) (8192 + 128 * (4 * H + (y 1).val / 128) + d.val) := fun j d =>
    (h5 _).trans (congrArg (rd X _) (ey 8192 d.val))
  have hc6 : ∀ (j : Fin 256) (d : Fin 128), col4 ⟨(y 1).val / 128, by have : (y 1).val < 512 := (y 1).isLt; omega⟩ x6 (ix2 j d)
      = rd X (32 + 2080 * b + 256 * kbl 2 g + j.val) (8192 + 128 * (4 * H + (y 1).val / 128) + d.val) := fun j d =>
    (h6 _).trans (congrArg (rd X _) (ey 8192 d.val))
  have hc7 : ∀ (j : Fin 16) (d : Fin 128), colm ⟨(y 1).val / 128, by have : (y 1).val < 512 := (y 1).isLt; omega⟩ x7 (ix2 j d)
      = rd X (16 + 2080 * b + j.val) (4096 + 128 * (4 * H + (y 1).val / 128) + d.val) := fun j d =>
    (h7 _).trans (congrArg (rd X _) (ey 4096 d.val))
  have hc8 : ∀ (j : Fin 16) (d : Fin 128), colm ⟨(y 1).val / 128, by have : (y 1).val < 512 := (y 1).isLt; omega⟩ x8 (ix2 j d)
      = rd X (16 + 2080 * b + j.val) (8192 + 128 * (4 * H + (y 1).val / 128) + d.val) := fun j d =>
    (h8 _).trans (congrArg (rd X _) (ey 8192 d.val))
  unfold blockK headK headAttn kerOut
  refine kerAttn_congr ?_ ?_ ?_ ?_
  · funext j
    exact Finset.sum_congr rfl fun d _ => congrArg₂ (· * ·) (hq d) (hc7 j d)
  · funext j
    exact hc8 j _
  · funext s j
    match s with
    | ⟨0, _⟩ =>
      exact congrArg₂ (· + ·) (Finset.sum_congr rfl fun d _ => congrArg₂ (· * ·) (hq d) (hc1 j d)) (h9 _)
    | ⟨1, _⟩ =>
      exact congrArg₂ (· + ·) (Finset.sum_congr rfl fun d _ => congrArg₂ (· * ·) (hq d) (hc2 j d)) (h9 _)
    | ⟨2, _⟩ =>
      exact congrArg₂ (· + ·) (Finset.sum_congr rfl fun d _ => congrArg₂ (· * ·) (hq d) (hc3 j d)) (h9 _)
  · funext s j
    match s with
    | ⟨0, _⟩ => exact hc4 j _
    | ⟨1, _⟩ => exact hc5 j _
    | ⟨2, _⟩ => exact hc6 j _

variable (m : (ℓ : Loc nD τ sig) → Buf (Elt Ideal) ℓ) (c : Dev nD)

/-- The packed queries, keys and values a device is launched with. -/
def argX : S33280x12288.Idx → EReal := m (c.tc.loc main_arg0)

/-- The bias array its host code leaves for the kernel. -/
def biasB : S3x32x256x768.Idx → EReal := V m c (Pipeline.arrRef spec0 9)

/-- Window 0's block, read off the packed array. -/
theorem blk0 (t : Fin cfg0.N) (y : S256x512.Idx) : (iblk m c 0 t : S256x512.Idx → EReal) y
    = rd (argX m c) (32 + 2080 * (t.val / 8 % 8) + 256 * (t.val % 8) + (y 0).val) (512 * (t.val / 64) + (y 1).val) := by
  unfold iblk
  rw [View.read_apply]
  show V m c main_arg0 _ = _
  rw [V_main_arg0]
  refine rd_eq (argX m c) _ _ _ ?_ ?_
  · show win0_0.index t 0 + 1 * (y 0).val = _
    rw [(index0 t).1, Nat.one_mul]
  · show win0_0.index t 1 + 1 * (y 1).val = _
    rw [(index0 t).2, Nat.one_mul]

/-- Window 1's block, read off the packed array. -/
theorem blk1 (t : Fin cfg0.N) (y : S256x512.Idx) : (iblk m c 1 t : S256x512.Idx → EReal) y
    = rd (argX m c) (32 + 2080 * (t.val / 8 % 8) + 256 * kbl 0 (t.val % 8) + (y 0).val) (4096 + 512 * (t.val / 64) + (y 1).val) := by
  unfold iblk
  rw [View.read_apply]
  show V m c main_arg0 _ = _
  rw [V_main_arg0]
  refine rd_eq (argX m c) _ _ _ ?_ ?_
  · show win0_1.index t 0 + 1 * (y 0).val = _
    rw [(index1 t).1, Nat.one_mul]
  · show win0_1.index t 1 + 1 * (y 1).val = _
    rw [(index1 t).2, Nat.one_mul]

/-- Window 2's block, read off the packed array. -/
theorem blk2 (t : Fin cfg0.N) (y : S256x512.Idx) : (iblk m c 2 t : S256x512.Idx → EReal) y
    = rd (argX m c) (32 + 2080 * (t.val / 8 % 8) + 256 * kbl 1 (t.val % 8) + (y 0).val) (4096 + 512 * (t.val / 64) + (y 1).val) := by
  unfold iblk
  rw [View.read_apply]
  show V m c main_arg0 _ = _
  rw [V_main_arg0]
  refine rd_eq (argX m c) _ _ _ ?_ ?_
  · show win0_2.index t 0 + 1 * (y 0).val = _
    rw [(index2 t).1, Nat.one_mul]
  · show win0_2.index t 1 + 1 * (y 1).val = _
    rw [(index2 t).2, Nat.one_mul]

/-- Window 3's block, read off the packed array. -/
theorem blk3 (t : Fin cfg0.N) (y : S256x512.Idx) : (iblk m c 3 t : S256x512.Idx → EReal) y
    = rd (argX m c) (32 + 2080 * (t.val / 8 % 8) + 256 * kbl 2 (t.val % 8) + (y 0).val) (4096 + 512 * (t.val / 64) + (y 1).val) := by
  unfold iblk
  rw [View.read_apply]
  show V m c main_arg0 _ = _
  rw [V_main_arg0]
  refine rd_eq (argX m c) _ _ _ ?_ ?_
  · show win0_3.index t 0 + 1 * (y 0).val = _
    rw [(index3 t).1, Nat.one_mul]
  · show win0_3.index t 1 + 1 * (y 1).val = _
    rw [(index3 t).2, Nat.one_mul]

/-- Window 4's block, read off the packed array. -/
theorem blk4 (t : Fin cfg0.N) (y : S256x512.Idx) : (iblk m c 4 t : S256x512.Idx → EReal) y
    = rd (argX m c) (32 + 2080 * (t.val / 8 % 8) + 256 * kbl 0 (t.val % 8) + (y 0).val) (8192 + 512 * (t.val / 64) + (y 1).val) := by
  unfold iblk
  rw [View.read_apply]
  show V m c main_arg0 _ = _
  rw [V_main_arg0]
  refine rd_eq (argX m c) _ _ _ ?_ ?_
  · show win0_4.index t 0 + 1 * (y 0).val = _
    rw [(index4 t).1, Nat.one_mul]
  · show win0_4.index t 1 + 1 * (y 1).val = _
    rw [(index4 t).2, Nat.one_mul]

/-- Window 5's block, read off the packed array. -/
theorem blk5 (t : Fin cfg0.N) (y : S256x512.Idx) : (iblk m c 5 t : S256x512.Idx → EReal) y
    = rd (argX m c) (32 + 2080 * (t.val / 8 % 8) + 256 * kbl 1 (t.val % 8) + (y 0).val) (8192 + 512 * (t.val / 64) + (y 1).val) := by
  unfold iblk
  rw [View.read_apply]
  show V m c main_arg0 _ = _
  rw [V_main_arg0]
  refine rd_eq (argX m c) _ _ _ ?_ ?_
  · show win0_5.index t 0 + 1 * (y 0).val = _
    rw [(index5 t).1, Nat.one_mul]
  · show win0_5.index t 1 + 1 * (y 1).val = _
    rw [(index5 t).2, Nat.one_mul]

/-- Window 6's block, read off the packed array. -/
theorem blk6 (t : Fin cfg0.N) (y : S256x512.Idx) : (iblk m c 6 t : S256x512.Idx → EReal) y
    = rd (argX m c) (32 + 2080 * (t.val / 8 % 8) + 256 * kbl 2 (t.val % 8) + (y 0).val) (8192 + 512 * (t.val / 64) + (y 1).val) := by
  unfold iblk
  rw [View.read_apply]
  show V m c main_arg0 _ = _
  rw [V_main_arg0]
  refine rd_eq (argX m c) _ _ _ ?_ ?_
  · show win0_6.index t 0 + 1 * (y 0).val = _
    rw [(index6 t).1, Nat.one_mul]
  · show win0_6.index t 1 + 1 * (y 1).val = _
    rw [(index6 t).2, Nat.one_mul]

/-- Window 7's block, read off the packed array. -/
theorem blk7 (t : Fin cfg0.N) (y : S16x512.Idx) : (iblk m c 7 t : S16x512.Idx → EReal) y
    = rd (argX m c) (16 + 2080 * (t.val / 8 % 8) + (y 0).val) (4096 + 512 * (t.val / 64) + (y 1).val) := by
  unfold iblk
  rw [View.read_apply]
  show V m c main_arg0 _ = _
  rw [V_main_arg0]
  refine rd_eq (argX m c) _ _ _ ?_ ?_
  · show win0_7.index t 0 + 1 * (y 0).val = _
    rw [(index7 t).1, Nat.one_mul]
  · show win0_7.index t 1 + 1 * (y 1).val = _
    rw [(index7 t).2, Nat.one_mul]

/-- Window 8's block, read off the packed array. -/
theorem blk8 (t : Fin cfg0.N) (y : S16x512.Idx) : (iblk m c 8 t : S16x512.Idx → EReal) y
    = rd (argX m c) (16 + 2080 * (t.val / 8 % 8) + (y 0).val) (8192 + 512 * (t.val / 64) + (y 1).val) := by
  unfold iblk
  rw [View.read_apply]
  show V m c main_arg0 _ = _
  rw [V_main_arg0]
  refine rd_eq (argX m c) _ _ _ ?_ ?_
  · show win0_8.index t 0 + 1 * (y 0).val = _
    rw [(index8 t).1, Nat.one_mul]
  · show win0_8.index t 1 + 1 * (y 1).val = _
    rw [(index8 t).2, Nat.one_mul]

/-- Window 9's block of any array. -/
theorem read9 (A : S3x32x256x768.Idx → EReal) (t : Fin cfg0.N) (y : S1x4x256x768.Idx) :
    (((cfg0.win 9).blk t).view.read (Elt Ideal) A : S1x4x256x768.Idx → EReal) y
      = rb A (vbl (t.val % 8)) (4 * (t.val / 64) + (y 1).val) (y 2).val (y 3).val := by
  have y0 : (y 0).val < 1 := (y 0).isLt
  rw [View.read_apply]
  obtain ⟨i0, i1, i2, i3⟩ := index9 t
  refine rb_eq A _ _ _ _ _ ?_ ?_ ?_ ?_
  · show win0_9.index t 0 * 1 + 1 * (y 0).val = _
    rw [i0]; omega
  · show win0_9.index t 1 * 4 + 1 * (y 1).val = _
    rw [i1]; omega
  · show win0_9.index t 2 * 256 + 1 * (y 2).val = _
    rw [i2]; omega
  · show win0_9.index t 3 * 768 + 1 * (y 3).val = _
    rw [i3]; omega

/-- Window 9's block, read off the bias array. -/
theorem blk9 (t : Fin cfg0.N) (y : S1x4x256x768.Idx) : (iblk m c 9 t : S1x4x256x768.Idx → EReal) y
    = rb (biasB m c) (vbl (t.val % 8)) (4 * (t.val / 64) + (y 1).val) (y 2).val (y 3).val := by
  unfold iblk biasB
  exact read9 _ t y

/-- The kernel's whole output array. -/
def outG : S16384x4096.Idx → EReal := fun i =>
  kerOut (argX m c) (biasB m c) ((i 0).val / 2048) ((i 0).val % 2048 / 256) ((i 0).val % 256) ((i 1).val / 128) ((i 1).val % 128)

/-- What a grid point stores is the kernel's attention of its queries in its four heads. -/
theorem block_eq (t : Fin cfg0.N) (y : S256x512.Idx) :
    blockK (iblk m c 0 t) (iblk m c 1 t) (iblk m c 2 t) (iblk m c 3 t) (iblk m c 4 t) (iblk m c 5 t) (iblk m c 6 t)
      (iblk m c 7 t) (iblk m c 8 t) (iblk m c 9 t) y
    = kerOut (argX m c) (biasB m c) (t.val / 8 % 8) (t.val % 8) (y 0).val (4 * (t.val / 64) + (y 1).val / 128)
        ((y 1).val % 128) :=
  block_of _ _ _ _ _ _ _ _ _ _ _ _ _ _ _ (blk0 m c t) (blk1 m c t) (blk2 m c t) (blk3 m c t) (blk4 m c t) (blk5 m c t)
    (blk6 m c t) (blk7 m c t) (blk8 m c t) (blk9 m c t) y

/-- What a grid point writes back is its block of the output function. -/
theorem flushed_eq (t : Fin cfg0.N) :
    (dats m 0 c).flushed 10 t = ((cfg0.win 10).blk t).view.read (Elt Ideal) (outG m c) := by
  rw [Value.flushed10, out_eq]
  funext y
  rw [View.read_apply]
  show blockK _ _ _ _ _ _ _ _ _ _ y = outG m c _
  rw [block_eq]
  obtain ⟨i0, i1⟩ := index10 t
  have ht : t.val < 512 := t.isLt
  have y0 : (y 0).val < 256 := (y 0).isLt
  have y1 : (y 1).val < 512 := (y 1).isLt
  have e0 : ((((cfg0.win 10).blk t).view.emb y) 0).val = win0_10.index t 0 * 256 + 1 * (y 0).val := rfl
  have e1 : ((((cfg0.win 10).blk t).view.emb y) 1).val = win0_10.index t 1 * 512 + 1 * (y 1).val := rfl
  unfold outG
  rw [e0, e1, i0, i1]
  congr 1 <;> omega

/-- THE OUTPUT ARRAY at the end of the grid. -/
theorem final : (dats m 0 c).arrAt 10 cfg0.N = outG m c :=
  (dats m 0 c).arrAt_eq_of_cover 10 (outG m c) (fun t _ => flushed_eq m c t) fun i => by
    have h0 : (i 0).val < 16384 := (i 0).isLt
    have h1 : (i 1).val < 4096 := (i 1).isLt
    have ht : (i 1).val / 512 * 64 + (i 0).val / 2048 * 8 + (i 0).val % 2048 / 256 < 512 := by omega
    refine ⟨⟨_, ht⟩, flush0_10 _, ?_⟩
    show i ∈ ((View.whole main_v19).slice (win0_10.rect ⟨_, ht⟩)).set
    rw [View.set_slice_whole, Rect.mem_set_unit]
    obtain ⟨i0, i1⟩ := index10 ⟨_, ht⟩
    intro a
    match a with
    | ⟨0, _⟩ =>
      show win0_10.index ⟨_, ht⟩ 0 * 256 ≤ (i 0).val ∧ (i 0).val < win0_10.index ⟨_, ht⟩ 0 * 256 + 256
      rw [i0]
      show (((i 1).val / 512 * 64 + (i 0).val / 2048 * 8 + (i 0).val % 2048 / 256) / 8 % 8 * 8
        + ((i 1).val / 512 * 64 + (i 0).val / 2048 * 8 + (i 0).val % 2048 / 256) % 8) * 256 ≤ (i 0).val ∧ (i 0).val
        < (((i 1).val / 512 * 64 + (i 0).val / 2048 * 8 + (i 0).val % 2048 / 256) / 8 % 8 * 8
        + ((i 1).val / 512 * 64 + (i 0).val / 2048 * 8 + (i 0).val % 2048 / 256) % 8) * 256 + 256
      omega
    | ⟨1, _⟩ =>
      show win0_10.index ⟨_, ht⟩ 1 * 512 ≤ (i 1).val ∧ (i 1).val < win0_10.index ⟨_, ht⟩ 1 * 512 + 512
      rw [i1]
      show ((i 1).val / 512 * 64 + (i 0).val / 2048 * 8 + (i 0).val % 2048 / 256) / 64 * 512 ≤ (i 1).val ∧ (i 1).val
        < ((i 1).val / 512 * 64 + (i 0).val / 2048 * 8 + (i 0).val % 2048 / 256) / 64 * 512 + 512
      omega

end Cert.Attn

end
-- ==== Proof.Bias.lean ====
/-
  The bias array that the kernel's host code builds, at an index: inside the window a query attends to, the relative
  position's entry; outside it minus infinity.
-/
module

public import proofs.«01_k».proof.Proof.Array
public import proofs.«01_k».proof.Proof.Gather
public import proofs.«01_k».proof.Proof.Window
public import Idealize.ShloMosaic.Lib.Pointwise

@[expose] public section

noncomputable section

namespace Cert.Attn

open Idealize.ShloMosaic Idealize.ShloMosaic.Pipeline Idealize.SL.Sem Cert.KernelIdeal Cert.KernelIdeal.Gen

/-- The column table of the host code. -/
def colTab : IVec S64x64x1 32 :=
  broadcastInDim S64x64x1 ![0, 1] bcast_S64x64_S64x64x1_0_1
    (select (constantI S64x64 1 0#1)
      (addi (fun i => lit0 (S64x64.rowMajor i)) (broadcastInDim S64x64 ![] bcast_S_S64x64 (constantI S_ 32 31#32)))
      fun i => lit0 (S64x64.rowMajor i))

/-- The row table of the host code. -/
def rowTab : IVec S3x4x3x4x1 32 :=
  broadcastInDim S3x4x3x4x1 ![0, 1, 2, 3] bcast_S3x4x3x4_S3x4x3x4x1_0_1_2_3
    (select (constantI S3x4x3x4 1 0#1)
      (addi (fun i => lit1 (S3x4x3x4.rowMajor i)) (broadcastInDim S3x4x3x4 ![] bcast_S_S3x4x3x4 (constantI S_ 32 15#32)))
      fun i => lit1 (S3x4x3x4.rowMajor i))

/-- The mask of the host code. -/
def okTab : IVec S32x3x4x3x4x64x64 1 :=
  broadcastInDim S32x3x4x3x4x64x64 ![0, 1, 2, 3, 4, 5, 6] bcast_S1x3x4x3x4x64x64_S32x3x4x3x4x64x64_0_1_2_3_4_5_6
    (broadcastInDim S1x3x4x3x4x64x64 ![1, 2, 3, 4, 5, 6] bcast_S3x4x3x4x64x64_S1x3x4x3x4x64x64_1_2_3_4_5_6
      (andi
        (broadcastInDim S3x4x3x4x64x64 ![0, 1, 2, 3, 4, 5] bcast_S3x4x3x4x1x1_S3x4x3x4x64x64_0_1_2_3_4_5
          (broadcastInDim S3x4x3x4x1x1 ![0, 1, 2, 3] bcast_S3x4x3x4_S3x4x3x4x1x1_0_1_2_3 fun i =>
            lit2 (S3x4x3x4.rowMajor i)))
        (broadcastInDim S3x4x3x4x64x64 ![0, 1, 2, 3, 4, 5] bcast_S1x1x1x1x64x64_S3x4x3x4x64x64_0_1_2_3_4_5
          (broadcastInDim S1x1x1x1x64x64 ![4, 5] bcast_S64x64_S1x1x1x1x64x64_4_5 fun i => lit3 (S64x64.rowMajor i)))))

/-- The relative positions' entries before the mask. -/
def relTab (x1 : FVec Ideal S32x15x31 .f32) : FVec Ideal S32x3x4x3x4x64x64 .f32 :=
  Host.gather gather_S32x15x64x64_S3x4x3x4x1_S32x3x4x3x4x64x64_056_1_n_n_1_4_3216464
    (Host.gather gather_S32x15x31_S64x64x1_S32x15x64x64_01_2_n_n_2_2_32151 x1 colTab) rowTab

/-- The bias array as the host code's operations build it. -/
def biasTerm (x1 : FVec Ideal S32x15x31 .f32) : FVec Ideal S3x32x256x768 .f32 :=
  shapeCast S3x32x256x768
    (transpose S3x32x4x64x3x4x64 [1, 0, 2, 5, 3, 4, 6]
      (select okTab (relTab x1) (broadcastInDim S32x3x4x3x4x64x64 ![] bcast_S_S32x3x4x3x4x64x64
        (constant (F := Ideal) S_ .f32 0xFF800000#32)))
      transposes_S32x3x4x3x4x64x64_S3x32x4x64x3x4x64_1_0_2_5_3_4_6)
    shapeCasts_S3x32x4x64x3x4x64_S3x32x256x768

/-- The bias array at the kernel's launch is that term of the second argument. -/
theorem biasB_eq (m : (ℓ : Loc nD τ sig) → Buf (Elt Ideal) ℓ) (c : Dev nD) :
    biasB m c = biasTerm (m (c.tc.loc main_arg1)) := by
  show V m c main_v18 = _
  unfold V
  simp only [hostOps0, hostOps0_1, hostOps0_2, List.flatten_cons, List.flatten_nil, List.append_nil, List.cons_append,
    List.nil_append]
  after_results
  rfl

/-- The column table's entries. -/
theorem lit0_eq : ∀ q c : Fin 64, (lit0 (S64x64.rowMajor (ix2 q c))).toInt.toNat = colIdx q.val c.val := by decide +kernel

/-- The row table's entries. -/
theorem lit1_eq : ∀ (v : Fin 3) (a : Fin 4) (s : Fin 3) (k : Fin 4),
    (lit1 (S3x4x3x4.rowMajor (ix4 v a s k))).toInt.toNat = 4 * s.val + k.val + 3 - a.val := by decide +kernel

/-- The row mask's entries. -/
theorem lit2_eq : ∀ (g : Fin 8) (a : Fin 4) (s : Fin 3) (k : Fin 4),
    lit2 (S3x4x3x4.rowMajor (ix4 ⟨vbl g.val, by unfold vbl; split <;> [omega; (split <;> omega)]⟩ a s k))
      = if RowOk g.val a.val s.val k.val then 1#1 else 0#1 := by decide +kernel

/-- The column mask's entries. -/
theorem lit3_eq : ∀ q c : Fin 64, lit3 (S64x64.rowMajor (ix2 q c)) = if ColOk q.val c.val then 1#1 else 0#1 := by
  decide +kernel

/-- The column table at an index. -/
theorem colTab_apply (q c : Fin 64) : colTab (ix3 q c 0) = lit0 (S64x64.rowMajor (ix2 q c)) := by
  pointwise [colTab]

/-- The row table at an index. -/
theorem rowTab_apply (v : Fin 3) (a : Fin 4) (s : Fin 3) (k : Fin 4) :
    rowTab (ix5 v a s k 0) = lit1 (S3x4x3x4.rowMajor (ix4 v a s k)) := by
  pointwise [rowTab]

/-- The mask at an index. -/
theorem okTab_apply (h : Fin 32) (v : Fin 3) (a : Fin 4) (s : Fin 3) (k : Fin 4) (q c : Fin 64) :
    okTab (ix7 h v a s k q c) = IntOp.andi (lit2 (S3x4x3x4.rowMajor (ix4 v a s k))) (lit3 (S64x64.rowMajor (ix2 q c))) := by
  pointwise [okTab]

/-- The relative positions' entries at an index. -/
theorem relTab_apply (x1 : FVec Ideal S32x15x31 .f32) (h : Fin 32) (v : Fin 3) (a : Fin 4) (s : Fin 3) (k : Fin 4)
    (q c : Fin 64) : relTab x1 (ix7 h v a s k q c)
      = x1 (ix3 h ⟨min (lit1 (S3x4x3x4.rowMajor (ix4 v a s k))).toInt.toNat 14, by omega⟩
          ⟨min (lit0 (S64x64.rowMajor (ix2 q c))).toInt.toNat 30, by omega⟩) := by
  unfold relTab
  rw [K.gatherRow_apply, K.gatherCol_apply]
  simp only [colTab_apply, rowTab_apply]

/-- The bias array's layout: a query's row and column in its block, a key's block, row and column. -/
theorem layout_apply (S : FVec Ideal S32x3x4x3x4x64x64 .f32) (h : Fin 32) (v : Fin 3) (y : Fin 256) (z : Fin 768) :
    shapeCast S3x32x256x768
      (transpose S3x32x4x64x3x4x64 [1, 0, 2, 5, 3, 4, 6] S transposes_S32x3x4x3x4x64x64_S3x32x4x64x3x4x64_1_0_2_5_3_4_6)
      shapeCasts_S3x32x4x64x3x4x64_S3x32x256x768 (ix4 v h y z)
    = S (ix7 h v ⟨y.val / 64, by omega⟩ ⟨z.val / 256, by omega⟩ ⟨z.val / 64 % 4, by omega⟩ ⟨y.val % 64, by omega⟩
        ⟨z.val % 64, by omega⟩) := by
  pointwise

end Cert.Attn

end
-- ==== Proof.BiasValue.lean ====
/-
  The kernel's bias at a query and a key: the relative position's entry inside the query's window, minus infinity
  outside it.
-/
module

public import proofs.«01_k».proof.Proof.Bias

@[expose] public section

noncomputable section

namespace Cert.Attn

open Idealize.ShloMosaic Cert.KernelIdeal Cert.KernelIdeal.Gen

/-- The table of relative positions at a head, a row and a column given as numbers. -/
def rp (X : S32x15x31.Idx → EReal) (h r c : ℕ) : EReal :=
  if hh : h < 32 ∧ r < 15 ∧ c < 31 then X (ix3 ⟨h, hh.1⟩ ⟨r, hh.2.1⟩ ⟨c, hh.2.2⟩) else 0

/-- An entry of the table, by the numbers of its coordinates. -/
theorem rp_eq (X : S32x15x31.Idx → EReal) (h : Fin 32) (r : Fin 15) (c : Fin 31) (h' r' c' : ℕ) (e0 : h.val = h')
    (e1 : r.val = r') (e2 : c.val = c') : X (ix3 h r c) = rp X h' r' c' := by
  subst e0 e1 e2
  unfold rp
  rw [dif_pos ⟨h.isLt, r.isLt, c.isLt⟩]

/-- Two masks are both one exactly where both conditions hold. -/
theorem and_mask (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

/-- THE BIAS of a query and a key. -/
theorem bias_value (x1 : FVec Ideal S32x15x31 .f32) (g : Fin 8) (h : Fin 32) (y : Fin 256) (s : Fin 3) (j : Fin 256) :
    rb (biasTerm x1) (vbl g.val) h.val y.val (256 * s.val + j.val)
      = if RowOk g.val (y.val / 64) s.val (j.val / 64) ∧ ColOk (y.val % 64) (j.val % 64)
        then rp x1 h.val (4 * s.val + j.val / 64 + 3 - y.val / 64) (colIdx (y.val % 64) (j.val % 64)) else ⊥ := by
  have hv : vbl g.val < 3 := by unfold vbl; split <;> [omega; (split <;> omega)]
  have hz : 256 * s.val + j.val < 768 := by omega
  unfold rb
  rw [dif_pos ⟨hv, h.isLt, y.isLt, hz⟩]
  unfold biasTerm
  rw [layout_apply]
  have e1 : (⟨(256 * s.val + j.val) / 256, by omega⟩ : Fin 3) = s := Fin.ext (by show (256 * s.val + j.val) / 256 = s.val; omega)
  have e2 : (⟨(256 * s.val + j.val) / 64 % 4, by omega⟩ : Fin 4) = ⟨j.val / 64, by omega⟩ :=
    Fin.ext (by show (256 * s.val + j.val) / 64 % 4 = j.val / 64; omega)
  have e3 : (⟨(256 * s.val + j.val) % 64, by omega⟩ : Fin 64) = ⟨j.val % 64, by omega⟩ :=
    Fin.ext (by show (256 * s.val + j.val) % 64 = j.val % 64; omega)
  show (if okTab (ix7 h ⟨vbl g.val, hv⟩ ⟨y.val / 64, _⟩ ⟨(256 * s.val + j.val) / 256, _⟩ ⟨(256 * s.val + j.val) / 64 % 4, _⟩
      ⟨y.val % 64, _⟩ ⟨(256 * s.val + j.val) % 64, _⟩) = 1#1 then relTab x1 (ix7 h ⟨vbl g.val, hv⟩ ⟨y.val / 64, _⟩
      ⟨(256 * s.val + j.val) / 256, _⟩ ⟨(256 * s.val + j.val) / 64 % 4, _⟩ ⟨y.val % 64, _⟩ ⟨(256 * s.val + j.val) % 64, _⟩)
      else Ideal.ofBits .f32 0xFF800000#32) = _
  rw [e1, e2, e3, okTab_apply, lit2_eq g ⟨y.val / 64, by omega⟩ s ⟨j.val / 64, by omega⟩, lit3_eq, and_mask, relTab_apply,
    ofBits_neg_inf]
  have hc : colIdx (y.val % 64) (j.val % 64) ≤ 30 := Nat.min_le_left _ _
  refine if_congr ?_ (rp_eq x1 _ _ _ _ _ _ rfl ?_ ?_) rfl
  · by_cases hp : RowOk g.val (y.val / 64) s.val (j.val / 64) ∧ ColOk (y.val % 64) (j.val % 64)
    · simp [hp]
    · simp [hp]
  · show min _ 14 = _
    rw [lit1_eq]
    show min (4 * s.val + j.val / 64 + 3 - y.val / 64) 14 = _
    omega
  · show min _ 30 = _
    rw [lit0_eq]
    exact Nat.min_eq_left hc

end Cert.Attn

end
-- ==== Proof.RefRead.lean ====
/-
  The reference's arrays at an index, up to the scores: the packed rows it slices, the gathered key and value rows, the
  relative positions' entries and the masked scores.
-/
module

public import proofs.«01_k».proof.Proof.RefToks
public import proofs.«01_k».proof.Proof.Gather
public import proofs.«01_k».proof.Proof.BiasValue

@[expose] public section

noncomputable section

open scoped BigOperators

namespace Cert.Attn.R

open Idealize.ShloMosaic Cert.ReferenceIdeal Cert.ReferenceIdeal.Gen Cert.ReferenceIdeal.Read

variable (x0 : FVec Ideal S33280x12288 .bf16) (x1 : FVec Ideal S32x15x31 .f32)

/-- An entry of the packed array at a row and a column. -/
theorem rd_ix2 (a : Fin 33280) (e : Fin 12288) (r c : ℕ) (h0 : a.val = r) (h1 : e.val = c) : x0 (ix2 a e) = rd x0 r c :=
  rd_eq x0 _ r c h0 h1

/-- The queries. -/
theorem v12_at (b : Fin 8) (r : Fin 32) (q : Fin 64) (h : Fin 32) (d : Fin 128) :
    val_main_v12 (F := Ideal) x0 (ix5 b r q h d) = rd x0 (32 + 2080 * b.val + (64 * r.val + q.val)) (128 * h.val + d.val) := by
  pointwise [val_main_v12, val_main_v11, val_main_v4, val_main_v3, val_main_v2, val_main_v1, val_main_v0]
  exact rd_ix2 x0 _ _ _ _ (by simp only []; omega) (by simp only []; omega)

/-- The meta tokens' keys. -/
theorem v9_at (b : Fin 8) (j : Fin 16) (h : Fin 32) (d : Fin 128) :
    val_main_v9 (F := Ideal) x0 (ix4 b j h d) = rd x0 (16 + 2080 * b.val + j.val) (4096 + 128 * h.val + d.val) := by
  pointwise [val_main_v9, val_main_v6, val_main_v5, val_main_v2, val_main_v1, val_main_v0]
  exact rd_ix2 x0 _ _ _ _ (by simp only []; omega) (by simp only []; omega)

/-- The meta tokens' values. -/
theorem v10_at (b : Fin 8) (j : Fin 16) (h : Fin 32) (d : Fin 128) :
    val_main_v10 (F := Ideal) x0 (ix4 b j h d) = rd x0 (16 + 2080 * b.val + j.val) (8192 + 128 * h.val + d.val) := by
  pointwise [val_main_v10, val_main_v8, val_main_v7, val_main_v2, val_main_v1, val_main_v0]
  exact rd_ix2 x0 _ _ _ _ (by simp only []; omega) (by simp only []; omega)

/-- The grid's keys. -/
theorem v13_at (b : Fin 8) (t : Fin 2048) (h : Fin 32) (d : Fin 128) :
    val_main_v13 (F := Ideal) x0 (ix4 b t h d) = rd x0 (32 + 2080 * b.val + t.val) (4096 + 128 * h.val + d.val) := by
  pointwise [val_main_v13, val_main_v6, val_main_v5, val_main_v2, val_main_v1, val_main_v0]
  exact rd_ix2 x0 _ _ _ _ (by simp only []; omega) (by simp only []; omega)

/-- The grid's values. -/
theorem v14_at (b : Fin 8) (t : Fin 2048) (h : Fin 32) (d : Fin 128) :
    val_main_v14 (F := Ideal) x0 (ix4 b t h d) = rd x0 (32 + 2080 * b.val + t.val) (8192 + 128 * h.val + d.val) := by
  pointwise [val_main_v14, val_main_v8, val_main_v7, val_main_v2, val_main_v1, val_main_v0]
  exact rd_ix2 x0 _ _ _ _ (by simp only []; omega) (by simp only []; omega)

/-- The token of the `n`-th key of grid row `r`. -/
def tok (r n : ℕ) : ℕ := 64 * (rowStart r + n / 64) + n % 64

/-- The token lies in the image. -/
theorem tok_lt (r : ℕ) (n : Fin 512) : tok r n.val < 2048 := by
  have hr : rowStart r ≤ 24 := Nat.min_le_right _ _
  unfold tok
  omega

/-- The keys of a grid row. -/
theorem v66_at (b : Fin 8) (r : Fin 32) (n : Fin 512) (h : Fin 32) (d : Fin 128) :
    val_main_v66 (F := Ideal) x0 (ix5 b r n h d)
      = rd x0 (32 + 2080 * b.val + tok r.val n.val) (4096 + 128 * h.val + d.val) := by
  unfold val_main_v66
  rw [gatherTok_apply]
  refine (v13_at x0 b _ h d).trans ?_
  have hv := v65_eq r n
  have ht := tok_lt r.val n
  unfold tok at *
  simp only [hv]
  rw [Nat.min_eq_left (by omega)]

/-- The values of a grid row. -/
theorem v73_at (b : Fin 8) (r : Fin 32) (n : Fin 512) (h : Fin 32) (d : Fin 128) :
    val_main_v73 (F := Ideal) x0 (ix5 b r n h d)
      = rd x0 (32 + 2080 * b.val + tok r.val n.val) (8192 + 128 * h.val + d.val) := by
  unfold val_main_v73
  rw [gatherTok_apply]
  refine (v14_at x0 b _ h d).trans ?_
  have hv := v72_eq r n
  have ht := tok_lt r.val n
  unfold tok at *
  simp only [hv]
  rw [Nat.min_eq_left (by omega)]

/-- The relative positions' entries, by row and column of the key in the window. -/
theorem v92_at (h r : Fin 32) (k : Fin 8) (q c : Fin 64) :
    val_main_v92 (F := Ideal) x1 (ix5 h r k q c)
      = rp x1 h.val (rowStart r.val + k.val + 7 - r.val) (colIdx q.val c.val) := by
  unfold val_main_v92 val_main_v85
  rw [gatherCol_apply, gatherRow_apply]
  have hr : rowStart r.val + k.val + 7 - r.val ≤ 14 := by
    have : rowStart r.val = min (r.val - 4) 24 := rfl
    omega
  have hc : colIdx q.val c.val ≤ 30 := Nat.min_le_left _ _
  refine rp_eq x1 _ _ _ _ _ _ rfl ?_ ?_
  · show min _ 14 = _
    rw [v84_eq]; omega
  · show min _ 30 = _
    rw [v91_eq]; omega

/-- The bias of a query and the `n`-th key of its row. -/
theorem v94_at (h r : Fin 32) (q : Fin 64) (n : Fin 512) :
    val_main_v94 (F := Ideal) x1 (ix4 h r q n)
      = rp x1 h.val (rowStart r.val + n.val / 64 + 7 - r.val) (colIdx q.val (n.val % 64)) := by
  pointwise [val_main_v94, val_main_v93]
  exact v92_at x1 h r ⟨n.val / 64, by omega⟩ q ⟨n.val % 64, by omega⟩

/-- The column mask of a query and the `n`-th key of its row. -/
theorem v97_at (q : Fin 64) (n : Fin 512) :
    val_main_v97 (F := Ideal) (ix2 q n) = if ColOk q.val (n.val % 64) then 1#1 else 0#1 := by
  pointwise [val_main_v97, val_main_v96, val_main_v95]
  exact v31_eq q ⟨n.val % 64, by omega⟩

/-- The scores of the window's keys. -/
theorem v104_at (b : Fin 8) (h r : Fin 32) (q : Fin 64) (n : Fin 512) :
    val_main_v104 (F := Ideal) x0 x1 (ix5 b h r q n)
      = if ColOk q.val (n.val % 64)
        then (∑ d : Fin 128, rd x0 (32 + 2080 * b.val + (64 * r.val + q.val)) (128 * h.val + d.val)
            * rd x0 (32 + 2080 * b.val + tok r.val n.val) (4096 + 128 * h.val + d.val))
          + rp x1 h.val (rowStart r.val + n.val / 64 + 7 - r.val) (colIdx q.val (n.val % 64)) else ⊥ := by
  pointwise [val_main_v104, val_main_call3_v1, val_main_call3_v2, val_main_v103, val_main_v102, val_main_v101, val_main_v100,
    val_main_v99, val_main_v98, val_main_call3_v0, val_main_cst]

  rw [v97_at]
  simp only [v12_at, v66_at, v94_at]
  by_cases hc : ColOk q.val (n.val % 64)
  · simp only [if_pos hc]; rfl
  · simp only [if_neg hc]
    exact ofBits_neg_inf

/-- The scores of the meta tokens. -/
theorem v107_at (b : Fin 8) (h r : Fin 32) (q : Fin 64) (j : Fin 16) :
    val_main_v107 (F := Ideal) x0 (ix5 b h r q j)
      = ∑ d : Fin 128, rd x0 (32 + 2080 * b.val + (64 * r.val + q.val)) (128 * h.val + d.val)
            * rd x0 (16 + 2080 * b.val + j.val) (4096 + 128 * h.val + d.val) := by
  pointwise [val_main_v107, val_main_v106, val_main_v105]
  simp only [v12_at, v9_at]

end Cert.Attn.R

end
-- ==== Proof.RefValue.lean ====
/-
  The reference's output at an index: the softmax attention of the query over the meta tokens and its row's window.
-/
module

public import proofs.«01_k».proof.Proof.RefRead

@[expose] public section

noncomputable section

open scoped BigOperators

namespace Cert.Attn.R

open Idealize.ShloMosaic Cert.ReferenceIdeal Cert.ReferenceIdeal.Gen Cert.ReferenceIdeal.Read

variable (x0 : FVec Ideal S33280x12288 .bf16) (x1 : FVec Ideal S32x15x31 .f32)

/-- All scores of a query: the meta tokens', then the window's. -/
def scores (b : Fin 8) (h r : Fin 32) (q : Fin 64) : Fin (16 + 512) → EReal :=
  fun n => val_main_v108 (F := Ideal) x0 x1 (ix5 b h r q n)

/-- The meta tokens' scores come first. -/
theorem scores_meta (b : Fin 8) (h r : Fin 32) (q : Fin 64) (j : Fin 16) :
    scores x0 x1 b h r q (Fin.castAdd 512 j) = val_main_v107 (F := Ideal) x0 (ix5 b h r q j) := by
  unfold scores
  pointwise [val_main_v108]
  have hj : (Fin.castAdd 512 j).val < 16 := j.isLt
  rw [dif_pos hj]
  congr 1

/-- The window's scores follow. -/
theorem scores_row (b : Fin 8) (h r : Fin 32) (q : Fin 64) (n : Fin 512) :
    scores x0 x1 b h r q (Fin.natAdd 16 n) = val_main_v104 (F := Ideal) x0 x1 (ix5 b h r q n) := by
  unfold scores
  pointwise [val_main_v108]
  have hj : ¬ (Fin.natAdd 16 n).val < 16 := by
    show ¬ 16 + n.val < 16
    omega
  rw [dif_neg hj]
  have e : (⟨(Fin.natAdd 16 n).val - 16, by show 16 + n.val - 16 < 512; omega⟩ : Fin 512) = n :=
    Fin.ext (by show 16 + n.val - 16 = n.val; omega)
  exact congrArg (fun k => val_main_v104 (F := Ideal) x0 x1 (ix5 b h r q k)) e

/-- The largest of an array's last axis, from minus infinity. -/
theorem max_last (y : FVec Ideal S8x32x32x64x528 .f32) (b : Fin 8) (h r : Fin 32) (q : Fin 64) :
    Host.reduce FloatOps.maximumf y (val_main_cst_20 (F := Ideal)) reducesTo_S8x32x32x64x528_S8x32x32x64_d4 h_S_ (ix4 b h r q)
      = Finset.univ.fold max ⊥ (fun n : Fin 528 => y (ix5 b h r q n)) := by
  pointwise [val_main_cst_20]
  rw [ofBits_neg_inf]

/-- The largest score. -/
theorem v109_at (b : Fin 8) (h r : Fin 32) (q : Fin 64) : val_main_v109 (F := Ideal) x0 x1 (ix4 b h r q)
    = Finset.univ.fold max ⊥ (fun n : Fin 528 => scores x0 x1 b h r q n) := by
  unfold val_main_v109 scores
  exact max_last (val_main_v108 (F := Ideal) x0 x1) b h r q

/-- The largest score, once more against minus infinity. -/
theorem v111_at (b : Fin 8) (h r : Fin 32) (q : Fin 64) :
    val_main_v111 (F := Ideal) x0 x1 (ix4 b h r q) = refMax (scores x0 x1 b h r q) := by
  rw [val_main_v111_apply, v109_at, val_main_v110_apply, val_main_cst_21_apply]
  unfold refMax
  refine congrArg (fun t => max t _) ?_
  exact ofBits_neg_inf

/-- The exponential of a score less the largest. -/
theorem v115_at (b : Fin 8) (h r : Fin 32) (q : Fin 64) (n : Fin 528) :
    val_main_v115 (F := Ideal) x0 x1 (ix5 b h r q n)
      = Ideal.exp (scores x0 x1 b h r q n - refMax (scores x0 x1 b h r q)) := by
  pointwise [val_main_v115, val_main_v114, val_main_v113, val_main_v112]
  rw [v111_at]
  rfl

/-- The weights. -/
theorem v120_at (b : Fin 8) (h r : Fin 32) (q : Fin 64) (n : Fin 528) :
    val_main_v120 (F := Ideal) x0 x1 (ix5 b h r q n) = refWeight (scores x0 x1 b h r q) n := by
  pointwise [val_main_v120, val_main_v119, val_main_v118, val_main_v117, val_main_v116, val_main_cst_22]
  simp only [v115_at]
  unfold refWeight
  rw [zero_add]

/-- THE OUTPUT at an index. -/
theorem v130_at (R : Fin 16384) (C : Fin 4096) : val_main_v130 (F := Ideal) x0 x1 (ix2 R C)
    = refAttn (scores x0 x1 ⟨R.val / 2048, by omega⟩ ⟨C.val / 128, by omega⟩ ⟨R.val / 64 % 32, by omega⟩ ⟨R.val % 64, by omega⟩)
      (fun j => rd x0 (16 + 2080 * (R.val / 2048) + j.val) (8192 + 128 * (C.val / 128) + C.val % 128))
      (fun n => rd x0 (32 + 2080 * (R.val / 2048) + tok (R.val / 64 % 32) n.val) (8192 + 128 * (C.val / 128) + C.val % 128)) := by
  pointwise [val_main_v130, val_main_v129, val_main_v128, val_main_v127, val_main_v126, val_main_v125, val_main_v124,
    val_main_v123, val_main_v122, val_main_v121]
  simp only [v120_at, v73_at, v10_at]
  rfl

end Cert.Attn.R

end
-- ==== Proof.Match.lean ====
/-
  The two attentions are the same number: the window's keys are the keys of the three blocks that the bias leaves.
-/
module

public import proofs.«01_k».proof.Proof.RefValue
public import proofs.«01_k».proof.Proof.Array

@[expose] public section

noncomputable section

open scoped BigOperators

namespace Cert.Attn

open Idealize.ShloMosaic Cert.KernelIdeal

variable (x0 : FVec Ideal S33280x12288 .bf16) (x1 : FVec Ideal S32x15x31 .f32)

/-- An entry of an array of real numbers is real. -/
theorem rd_real (hx : ∀ i, ∃ a : ℝ, x0 i = a) (r c : ℕ) : ∃ a : ℝ, rd x0 r c = a := by
  unfold rd
  split
  · exact hx _
  · exact ⟨0, rfl⟩

/-- An entry of a table of real numbers is real. -/
theorem rp_real (hx : ∀ i, ∃ a : ℝ, x1 i = a) (h r c : ℕ) : ∃ a : ℝ, rp x1 h r c = a := by
  unfold rp
  split
  · exact hx _
  · exact ⟨0, rfl⟩

/-- The row of the key in the image, shifted by four, lies in the three blocks about the query's block. -/
theorem row_bounds (g : Fin 8) (a : Fin 4) (k : ℕ) (hk : k < 8) :
    4 * g.val ≤ rowStart (4 * g.val + a.val) + k + 4 ∧ (rowStart (4 * g.val + a.val) + k + 4) / 4 - g.val < 3 := by
  have e : rowStart (4 * g.val + a.val) = min (4 * g.val + a.val - 4) 24 := rfl
  rw [e]
  omega

/-- Where the `n`-th key of a query's window lies among the three blocks. -/
def place (g : Fin 8) (a : Fin 4) (n : Fin 512) : Fin 3 × Fin 256 :=
  (⟨(rowStart (4 * g.val + a.val) + n.val / 64 + 4) / 4 - g.val, (row_bounds g a (n.val / 64) (by omega)).2⟩,
   ⟨64 * ((rowStart (4 * g.val + a.val) + n.val / 64) % 4) + n.val % 64, by omega⟩)

/-- Different keys of the window lie at different places. -/
theorem place_injective (g : Fin 8) (a : Fin 4) : Function.Injective (place g a) := by
  intro n n' e
  have b1 := (row_bounds g a (n.val / 64) (by omega)).1
  have b2 := (row_bounds g a (n'.val / 64) (by omega)).1
  have e0 : (rowStart (4 * g.val + a.val) + n.val / 64 + 4) / 4 - g.val
      = (rowStart (4 * g.val + a.val) + n'.val / 64 + 4) / 4 - g.val := congrArg (fun p => p.1.val) e
  have e1 : 64 * ((rowStart (4 * g.val + a.val) + n.val / 64) % 4) + n.val % 64
      = 64 * ((rowStart (4 * g.val + a.val) + n'.val / 64) % 4) + n'.val % 64 := congrArg (fun p => p.2.val) e
  apply Fin.ext
  omega

/-- A key of the three blocks whose row is in the window is one of the window's keys. -/
theorem place_surj (g : Fin 8) (a : Fin 4) (p : Fin 3 × Fin 256) (h : RowOk g.val a.val p.1.val (p.2.val / 64)) :
    p ∈ Set.range (place g a) := by
  obtain ⟨s, j⟩ := p
  obtain ⟨h1, h2⟩ := h
  dsimp only at h1 h2
  refine ⟨⟨64 * (4 * (g.val + s.val) + j.val / 64 - 4 - rowStart (4 * g.val + a.val)) + j.val % 64, by omega⟩, ?_⟩
  refine Prod.ext (Fin.ext ?_) (Fin.ext ?_)
  · dsimp only [place]
    omega
  · dsimp only [place]
    omega

/-- The numbers of a key at its place: its row is in the window, its column, its token and its relative row. -/
theorem place_spec (g : Fin 8) (a : Fin 4) (n : Fin 512) :
    RowOk g.val a.val (place g a n).1.val ((place g a n).2.val / 64) ∧ (place g a n).2.val % 64 = n.val % 64
    ∧ 256 * kbl (place g a n).1.val g.val + (place g a n).2.val = R.tok (4 * g.val + a.val) n.val
    ∧ 4 * (place g a n).1.val + (place g a n).2.val / 64 + 3 - a.val
      = rowStart (4 * g.val + a.val) + n.val / 64 + 7 - (4 * g.val + a.val) := by
  have b1 := (row_bounds g a (n.val / 64) (by omega)).1
  have hr : rowStart (4 * g.val + a.val) ≤ 24 := Nat.min_le_right _ _
  have hr' : rowStart (4 * g.val + a.val) = min (4 * g.val + a.val - 4) 24 := rfl
  unfold RowOk kbl R.tok
  dsimp only [place]
  refine ⟨⟨?_, ?_⟩, ?_, ?_, ?_⟩ <;> omega

/-- THE SAME ATTENTION: the kernel's over three blocks and the reference's over the window. -/
theorem ker_eq_ref (hx0 : ∀ i, ∃ a : ℝ, x0 i = a) (hx1 : ∀ i, ∃ a : ℝ, x1 i = a) (b g : Fin 8) (y : Fin 256)
    (h : Fin 32) (dd : Fin 128) (r : Fin 32) (q : Fin 64) (hr : r.val = 4 * g.val + y.val / 64) (hq : q.val = y.val % 64) :
    kerOut x0 (biasTerm x1) b.val g.val y.val h.val dd.val
      = refAttn (R.scores x0 x1 b h r q)
        (fun j => rd x0 (16 + 2080 * b.val + j.val) (8192 + 128 * h.val + dd.val))
        (fun n => rd x0 (32 + 2080 * b.val + R.tok r.val n.val) (8192 + 128 * h.val + dd.val)) := by
  have hy : 256 * g.val + y.val = 64 * r.val + q.val := by omega
  have hdot : ∀ r1 c1 r2 c2 : ℕ, ∃ a : ℝ, (∑ d : Fin 128, rd x0 r1 (c1 + d.val) * rd x0 r2 (c2 + d.val)) = a :=
    fun r1 c1 r2 c2 => dot_real _ _ (fun d => rd_real x0 hx0 _ _) (fun d => rd_real x0 hx0 _ _)
  unfold kerOut
  refine attn_eq (by omega) _ _ _ _ _ _ (place g ⟨y.val / 64, by omega⟩) (place_injective _ _)
    (fun j => hdot _ _ _ _) (fun j => rd_real x0 hx0 _ _) ?_ (fun s j => rd_real x0 hx0 _ _) ?_ ?_ ?_ ?_
  · intro s j
    rw [bias_value]
    obtain ⟨u, hu⟩ := hdot (32 + 2080 * b.val + 256 * g.val + y.val) (128 * h.val)
      (32 + 2080 * b.val + 256 * kbl s.val g.val + j.val) (4096 + 128 * h.val)
    rw [hu]
    split
    · obtain ⟨w, hw⟩ := rp_real x1 hx1 h.val (4 * s.val + j.val / 64 + 3 - y.val / 64) (colIdx (y.val % 64) (j.val % 64))
      rw [hw, ← EReal.coe_add]
      exact EReal.coe_ne_top _
    · rw [EReal.add_bot]
      exact bot_ne_top
  · intro j
    rw [R.scores_meta, R.v107_at]
    have e : 32 + 2080 * b.val + (64 * r.val + q.val) = 32 + 2080 * b.val + 256 * g.val + y.val := by omega
    rw [e]
  · intro n
    obtain ⟨p1, p2, p3, p4⟩ := place_spec g ⟨y.val / 64, by omega⟩ n
    generalize hp : place g ⟨y.val / 64, by omega⟩ n = p at p1 p2 p3 p4
    dsimp only at p1 p2 p3 p4
    rw [R.scores_row, R.v104_at, bias_value, p2, p4]
    have e : 32 + 2080 * b.val + (64 * r.val + q.val) = 32 + 2080 * b.val + 256 * g.val + y.val := by omega
    have e2 : 32 + 2080 * b.val + 256 * kbl p.1.val g.val + p.2.val = 32 + 2080 * b.val + R.tok r.val n.val := by
      rw [hr, ← p3]; omega
    rw [e, e2, hq, hr]
    by_cases hc : ColOk (y.val % 64) (n.val % 64)
    · rw [if_pos hc, if_pos ⟨p1, hc⟩]
    · rw [if_neg hc, if_neg (fun hh => hc hh.2), EReal.add_bot]
  · intro n
    obtain ⟨_, _, p3, _⟩ := place_spec g ⟨y.val / 64, by omega⟩ n
    dsimp only at p3 ⊢
    rw [hr, ← p3]
    congr 1
    omega
  · intro p hp
    rw [bias_value, if_neg (fun hh => hp (place_surj g ⟨y.val / 64, by omega⟩ p hh.1)), EReal.add_bot]

/-- THE OUTPUTS AGREE at every index. -/
theorem out_eq_ref (hx0 : ∀ i, ∃ a : ℝ, x0 i = a) (hx1 : ∀ i, ∃ a : ℝ, x1 i = a) (i : S16384x4096.Idx) :
    kerOut x0 (biasTerm x1) ((i 0).val / 2048) ((i 0).val % 2048 / 256) ((i 0).val % 256) ((i 1).val / 128) ((i 1).val % 128)
      = Cert.ReferenceIdeal.Read.val_main_v130 (F := Ideal) x0 x1 i := by
  have h0 : (i 0).val < 16384 := (i 0).isLt
  have h1 : (i 1).val < 4096 := (i 1).isLt
  have hi : i = ix2 (i 0) (i 1) := eq_ix2 i
  refine (ker_eq_ref x0 x1 hx0 hx1 ⟨(i 0).val / 2048, by omega⟩ ⟨(i 0).val % 2048 / 256, by omega⟩ ⟨(i 0).val % 256, by omega⟩
    ⟨(i 1).val / 128, by omega⟩ ⟨(i 1).val % 128, by omega⟩ ⟨(i 0).val / 64 % 32, by omega⟩ ⟨(i 0).val % 64, by omega⟩
    (by dsimp only; omega) (by dsimp only; omega)).trans ?_
  exact (R.v130_at x0 x1 ⟨(i 0).val, h0⟩ ⟨(i 1).val, h1⟩).symm.trans
    (congrArg (Cert.ReferenceIdeal.Read.val_main_v130 (F := Ideal) x0 x1) hi.symm)

end Cert.Attn

end
-- ==== Proof.AttnClaims.lean ====
/-
  The claims about the grid's attention: the frames, the ideal program, and that kernel and reference agree for finite
  arguments.
-/
module

public import proofs.«01_k».proof.Defs
public import proofs.«01_k».proof.Proof.Match
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_finite
public import Idealize.ShloMosaic.Adequacy
public import Idealize.ShloMosaic.Init

@[expose] public section

noncomputable section

namespace Cert.Attn.Claims

open Idealize.ShloMosaic Idealize.SL.Sem

/-- The kernel's frame. -/
theorem frame_p : Cert.quiescent_Kernel := fun m g _ => Cert.Kernel.Gen.frame m g

/-- The ideal kernel's frame. -/
theorem frame_pi : Cert.quiescent_KernelIdeal := fun m g _ => Cert.KernelIdeal.Gen.frame m g

/-- The ideal kernel's frame for finite arguments. -/
theorem frame_pi_finite : Cert.quiescent_KernelIdeal_pre_finite := fun m g _ => Cert.KernelIdeal.Gen.frame m g

/-- The reference runs, keeps its arguments and has no semaphores. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The reference's frame. -/
theorem frame_ri : Cert.quiescent_ReferenceIdeal := fun m g _ => ref_frame m g

/-- The reference's frame for finite arguments. -/
theorem frame_ri_finite : Cert.quiescent_ReferenceIdeal_pre_finite := fun m g _ => ref_frame m g

/-- A number whose absolute value is below `⊤` is real. -/
theorem real_of_abs_lt (a : EReal) (h : Ideal.cmp .olt (max a (-a)) ⊤ = 1#1) : ∃ r : ℝ, a = r := by
  have h' : max a (-a) < ⊤ := by
    by_contra hn
    have : Ideal.cmp .olt (max a (-a)) ⊤ = 0#1 := by
      show BitVec.ofBool (decide (max a (-a) < ⊤)) = 0#1
      rw [decide_eq_false hn]; rfl
    rw [this] at h
    exact absurd h (by decide)
  obtain ⟨h1, h2⟩ := max_lt_iff.mp h'
  refine ⟨a.toReal, (EReal.coe_toReal h1.ne ?_).symm⟩
  rintro rfl
  simp at h2

/-- The 16-bit word of infinity reads as `⊤`. -/
theorem ofBits_inf16 : Ideal.ofBits .bf16 0x7F80#16 = ⊤ := by simp [Ideal.ofBits, Ideal.ieee]

/-- The 32-bit word of infinity reads as `⊤`. -/
theorem ofBits_inf32 : Ideal.ofBits .f32 0x7F800000#32 = ⊤ := by simp [Ideal.ofBits, Ideal.ieee]

/-- The precondition says that every element of the first argument is real. -/
theorem real0 (x0 : FVec Ideal Cert.KernelIdeal.S33280x12288 .bf16) (x1 : FVec Ideal Cert.KernelIdeal.S32x15x31 .f32)
    (h : (Cert.Pre_finite.fn (F := Ideal) x0 x1).1 = fun _ => 1#1) (i : Cert.KernelIdeal.S33280x12288.Idx) :
    ∃ r : ℝ, x0 i = r := by
  have e : Ideal.cmp .olt (max (x0 i) (-x0 i)) (Ideal.ofBits .bf16 0x7F80#16) = 1#1 := congrFun h i
  rw [ofBits_inf16] at e
  exact real_of_abs_lt _ e

/-- The precondition says that every element of the second argument is real. -/
theorem real1 (x0 : FVec Ideal Cert.KernelIdeal.S33280x12288 .bf16) (x1 : FVec Ideal Cert.KernelIdeal.S32x15x31 .f32)
    (h : (Cert.Pre_finite.fn (F := Ideal) x0 x1).2 = fun _ => 1#1) (i : Cert.KernelIdeal.S32x15x31.Idx) :
    ∃ r : ℝ, x1 i = r := by
  have e : Ideal.cmp .olt (max (x1 i) (-x1 i)) (Ideal.ofBits .f32 0x7F800000#32) = 1#1 := congrFun h i
  rw [ofBits_inf32] at e
  exact real_of_abs_lt _ e

/-- The reference's output as a function of its two arguments. -/
abbrev refOut (x0 : FVec Ideal Cert.KernelIdeal.S33280x12288 .bf16) (x1 : FVec Ideal Cert.KernelIdeal.S32x15x31 .f32) :
    FVec Ideal Cert.KernelIdeal.S16384x4096 .bf16 := Cert.ReferenceIdeal.Read.val_main_v130 (F := Ideal) x0 x1

/-- The kernel's output array is the reference's, for finite arguments. -/
theorem ker_out (m : (ℓ : Loc Cert.KernelIdeal.nD Cert.KernelIdeal.τ Cert.KernelIdeal.sig) → Buf (Elt Ideal) ℓ)
    (hpre : Cert.Pre_KernelIdeal_finite m) (c : Dev Cert.KernelIdeal.nD) :
    outG m c = refOut (m (c.tc.loc Cert.KernelIdeal.main_arg0)) (m (c.tc.loc Cert.KernelIdeal.main_arg1)) := by
  funext i
  have e := out_eq_ref _ _ (real0 _ _ (hpre c).1) (real1 _ _ (hpre c).2) i
  unfold outG
  rw [biasB_eq]
  exact e

/-- THE VALUE: kernel and reference compute the same function of finite arguments. -/
theorem algebraic : Cert.algebraic_KernelIdeal_ReferenceIdeal_pre_finite := by
  intro m g m' g' hpre hagree
  refine ⟨fun c => refOut (m (c.tc.loc Cert.KernelIdeal.main_arg0)) (m (c.tc.loc Cert.KernelIdeal.main_arg1)), ?_, ?_⟩
  · exact (θ_run Cert.KernelIdeal.defs _ _).mono
      (fun _ h c => ⟨((h c).1.trans (final m c)).trans (ker_out m hpre c), (h c).2.1, (h c).2.2⟩)
      (Cert.KernelIdeal.Value.run_blocks m g)
  · refine (θ_run Cert.ReferenceIdeal.defs _ _).mono (fun _ h c => ⟨(h c).1.trans ?_, (h c).2⟩)
      (Cert.ReferenceIdeal.Value.run (F := Ideal) m' g')
    rw [Cert.ReferenceIdeal.Read.val_main_v130_eq]
    exact congrArg₂ refOut (hagree c).1 (hagree c).2

end Cert.Attn.Claims

end
-- ==== Proof.Down.lean ====
/-
  The second product of the feed-forward: the kernel's output array is, entry by entry, the reference's product added to its input.
-/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit.Basic
public import Idealize.ShloMosaic.Lib.Pointwise
public import Idealize.ShloMosaic.Adequacy
public import Idealize.ShloMosaic.Init

@[expose] public section

noncomputable section

open scoped BigOperators

namespace Cert.Down

open Idealize.ShloMosaic Idealize.ShloMosaic.Pipeline Idealize.SL.Sem Cert.Kernel2Ideal Cert.Kernel2Ideal.Gen

/-- The left factor's block at a grid point: its row block, every column. -/
theorem index0 : ∀ t : Fin cfg0.N, win0_0.index t 0 = t.val / 16 ∧ win0_0.index t 1 = 0 := by decide +kernel

/-- The weights' block at a grid point: every row, its column block. -/
theorem index1 : ∀ t : Fin cfg0.N, win0_1.index t 0 = 0 ∧ win0_1.index t 1 = t.val % 16 := by decide +kernel

/-- The added input's block at a grid point. -/
theorem index2 : ∀ t : Fin cfg0.N, win0_2.index t 0 = t.val / 16 ∧ win0_2.index t 1 = t.val % 16 := by decide +kernel

/-- The output's block at a grid point. -/
theorem index3 : ∀ t : Fin cfg0.N, win0_3.index t 0 = t.val / 16 ∧ win0_3.index t 1 = t.val % 16 := by decide +kernel

/-- The block a grid point stores, read at an entry: the input's plus the row times the column. -/
theorem out_at (x0 : Vec Ideal S640x11008 .bf16) (x1 : Vec Ideal S11008x256 .bf16) (x2 : Vec Ideal S640x256 .f32)
    (a : Fin 640) (b : Fin 256) :
    out0_3 (F := Ideal) x0 x1 x2 (ix2 a b) = x2 (ix2 a b) + ∑ k : Fin 11008, x0 (ix2 a k) * x1 (ix2 k b) := by
  unfold out0_3
  rw [View.canon_cons_unit_lit _ _ _ (by decide), View.ld_unit_lit _ _ (by decide), View.ld_unit_lit _ _ (by decide),
    View.ld_unit_lit _ _ (by decide)]
  pointwise [k0_pay1]

variable (m : (ℓ : Loc nD τ sig) → Buf (Elt Ideal) ℓ) (c : Dev nD)

/-- The left factor a device is launched with. -/
def argX : S33280x11008.Idx → EReal := m (c.tc.loc main_arg0)

/-- The weights it is launched with. -/
def argW : S11008x4096.Idx → EReal := m (c.tc.loc main_arg1)

/-- The input the product is added to. -/
def argH : S33280x4096.Idx → EReal := m (c.tc.loc main_arg2)

/-- The output array: the input plus the product. -/
def outG : S33280x4096.Idx → EReal := fun i =>
  argH m c i + ∑ k : Fin 11008, argX m c (ix2 (i 0) k) * argW m c (ix2 k (i 1))

/-- The host code's rounded weights are the weights. -/
theorem V_main_v0 : (V m c main_v0 : S11008x4096.Idx → EReal) = argW m c := by
  unfold V
  simp only [hostOps0]
  after_results
  rfl

/-- The output buffer the host code leaves holds the input. -/
theorem V_main_v1 : (V m c main_v1 : S33280x4096.Idx → EReal) = argH m c := by
  unfold V
  simp only [hostOps0]
  after_results
  rfl

/-- Window 0's block, read off the left factor. -/
theorem blk0 (t : Fin cfg0.N) (a : Fin 640) (k : Fin 11008) (r : Fin 33280) (hr : r.val = t.val / 16 * 640 + a.val) :
    (iblk m c 0 t : S640x11008.Idx → EReal) (ix2 a k) = argX m c (ix2 r k) := by
  unfold iblk
  rw [View.read_apply]
  show V m c main_arg0 _ = _
  rw [V_main_arg0]
  refine congrArg (argX m c) ((eq_ix2 _).trans (congrArg₂ ix2 (Fin.ext ?_) (Fin.ext ?_)))
  · show win0_0.index t 0 * 640 + 1 * a.val = _
    rw [(index0 t).1, Nat.one_mul, hr]
  · show win0_0.index t 1 * 11008 + 1 * k.val = _
    rw [(index0 t).2, Nat.one_mul, Nat.zero_mul, Nat.zero_add]

/-- Window 1's block, read off the weights. -/
theorem blk1 (t : Fin cfg0.N) (k : Fin 11008) (b : Fin 256) (s : Fin 4096) (hs : s.val = t.val % 16 * 256 + b.val) :
    (iblk m c 1 t : S11008x256.Idx → EReal) (ix2 k b) = argW m c (ix2 k s) := by
  unfold iblk
  rw [View.read_apply]
  show V m c main_v0 _ = _
  rw [← V_main_v0]
  refine congrArg (V m c main_v0 : S11008x4096.Idx → EReal) ((eq_ix2 _).trans (congrArg₂ ix2 (Fin.ext ?_) (Fin.ext ?_)))
  · show win0_1.index t 0 * 11008 + 1 * k.val = _
    rw [(index1 t).1, Nat.one_mul, Nat.zero_mul, Nat.zero_add]
  · show win0_1.index t 1 * 256 + 1 * b.val = _
    rw [(index1 t).2, Nat.one_mul, hs]

/-- Window 2's block, read off the added input. -/
theorem blk2 (t : Fin cfg0.N) (a : Fin 640) (b : Fin 256) (r : Fin 33280) (s : Fin 4096)
    (hr : r.val = t.val / 16 * 640 + a.val) (hs : s.val = t.val % 16 * 256 + b.val) :
    (iblk m c 2 t : S640x256.Idx → EReal) (ix2 a b) = argH m c (ix2 r s) := by
  unfold iblk
  rw [View.read_apply]
  show V m c main_arg2 _ = _
  rw [V_main_arg2]
  refine congrArg (argH m c) ((eq_ix2 _).trans (congrArg₂ ix2 (Fin.ext ?_) (Fin.ext ?_)))
  · show win0_2.index t 0 * 640 + 1 * a.val = _
    rw [(index2 t).1, Nat.one_mul, hr]
  · show win0_2.index t 1 * 256 + 1 * b.val = _
    rw [(index2 t).2, Nat.one_mul, hs]

/-- A block computed from the arrays' entries holds the output array's entry. -/
theorem block_of (X : S33280x11008.Idx → EReal) (W : S11008x4096.Idx → EReal) (H : S33280x4096.Idx → EReal)
    (x0 : Vec Ideal S640x11008 .bf16) (x1 : Vec Ideal S11008x256 .bf16) (x2 : Vec Ideal S640x256 .f32)
    (a : Fin 640) (b : Fin 256) (r : Fin 33280) (s : Fin 4096)
    (h0 : ∀ k : Fin 11008, x0 (ix2 a k) = X (ix2 r k)) (h1 : ∀ k : Fin 11008, x1 (ix2 k b) = W (ix2 k s))
    (h2 : x2 (ix2 a b) = H (ix2 r s)) :
    out0_3 (F := Ideal) x0 x1 x2 (ix2 a b) = H (ix2 r s) + ∑ k : Fin 11008, X (ix2 r k) * W (ix2 k s) := by
  rw [out_at, h2]
  exact congrArg _ (Finset.sum_congr rfl fun k _ => congrArg₂ (· * ·) (h0 k) (h1 k))

/-- What a grid point writes back is its block of the output array. -/
theorem flushed_eq (t : Fin cfg0.N) :
    (dats m 0 c).flushed 3 t = ((cfg0.win 3).blk t).view.read (Elt Ideal) (outG m c) := by
  rw [Value.flushed3]
  funext y
  rw [View.read_apply]
  have y0 : (y 0).val < 640 := (y 0).isLt
  have y1 : (y 1).val < 256 := (y 1).isLt
  obtain ⟨i0, i1⟩ := index3 t
  have e0 : ((((cfg0.win 3).blk t).view.emb y) 0).val = t.val / 16 * 640 + (y 0).val := by
    show win0_3.index t 0 * 640 + 1 * (y 0).val = _
    rw [i0, Nat.one_mul]
  have e1 : ((((cfg0.win 3).blk t).view.emb y) 1).val = t.val % 16 * 256 + (y 1).val := by
    show win0_3.index t 1 * 256 + 1 * (y 1).val = _
    rw [i1, Nat.one_mul]
  show out0_3 (F := Ideal) _ _ _ y = outG m c _
  refine (congrArg _ (eq_ix2 y)).trans ?_
  refine (block_of (argX m c) (argW m c) (argH m c) _ _ _ (y 0) (y 1) ((((cfg0.win 3).blk t).view.emb y) 0)
    ((((cfg0.win 3).blk t).view.emb y) 1) (fun k => blk0 m c t _ k _ e0) (fun k => blk1 m c t k _ _ e1)
    (blk2 m c t _ _ _ _ e0 e1)).trans ?_
  unfold outG
  exact congrArg (fun j => argH m c j + _) (eq_ix2 _).symm

/-- THE OUTPUT ARRAY at the end of the grid. -/
theorem final : (dats m 0 c).arrAt 3 cfg0.N = outG m c :=
  (dats m 0 c).arrAt_eq_of_cover 3 (outG m c) (fun t _ => flushed_eq m c t) fun i => by
    have h0 : (i 0).val < 33280 := (i 0).isLt
    have h1 : (i 1).val < 4096 := (i 1).isLt
    have ht : (i 0).val / 640 * 16 + (i 1).val / 256 < 832 := by omega
    refine ⟨⟨_, ht⟩, flush0_3 _, ?_⟩
    show i ∈ ((View.whole main_v1).slice (win0_3.rect ⟨_, ht⟩)).set
    rw [View.set_slice_whole, Rect.mem_set_unit]
    obtain ⟨i0, i1⟩ := index3 ⟨_, ht⟩
    intro a
    match a with
    | ⟨0, _⟩ =>
      show win0_3.index ⟨_, ht⟩ 0 * 640 ≤ (i 0).val ∧ (i 0).val < win0_3.index ⟨_, ht⟩ 0 * 640 + 640
      rw [i0]
      show ((i 0).val / 640 * 16 + (i 1).val / 256) / 16 * 640 ≤ (i 0).val ∧ (i 0).val < ((i 0).val / 640 * 16 + (i 1).val / 256) / 16 * 640 + 640
      omega
    | ⟨1, _⟩ =>
      show win0_3.index ⟨_, ht⟩ 1 * 256 ≤ (i 1).val ∧ (i 1).val < win0_3.index ⟨_, ht⟩ 1 * 256 + 256
      rw [i1]
      show ((i 0).val / 640 * 16 + (i 1).val / 256) % 16 * 256 ≤ (i 1).val ∧ (i 1).val < ((i 0).val / 640 * 16 + (i 1).val / 256) % 16 * 256 + 256
      omega

/-- The reference's output as a function of its three arguments. -/
abbrev refOut (x0 : FVec Ideal S33280x11008 .bf16) (x1 : FVec Ideal S11008x4096 .f32) (x2 : FVec Ideal S33280x4096 .f32) :
    FVec Ideal S33280x4096 .f32 := Cert.Reference2Ideal.Read.val_main_v2 (F := Ideal) x0 x1 x2

/-- The reference's output, read at an entry. -/
theorem ref_at (x0 : FVec Ideal S33280x11008 .bf16) (x1 : FVec Ideal S11008x4096 .f32) (x2 : FVec Ideal S33280x4096 .f32)
    (r : Fin 33280) (s : Fin 4096) :
    refOut x0 x1 x2 (ix2 r s) = x2 (ix2 r s) + ∑ k : Fin 11008, x0 (ix2 r k) * x1 (ix2 k s) := by
  unfold refOut
  rw [Cert.Reference2Ideal.Read.val_main_v2_apply, Cert.Reference2Ideal.Read.val_main_v1_apply]
  refine congrArg (x2 (ix2 r s) + ·) (Finset.sum_congr rfl fun k _ => congrArg₂ (· * ·) ?_ ?_)
  · rw [Cert.Reference2Ideal.Read.val_main_v0_apply]
    exact congrArg x0 (eq_ix2 _)
  · exact congrArg x1 (eq_ix2 _)

/-- The kernel's output array is the reference's. -/
theorem ker_out : outG m c = refOut (m (c.tc.loc main_arg0)) (m (c.tc.loc main_arg1)) (m (c.tc.loc main_arg2)) := by
  funext i
  refine Eq.trans ?_ (congrArg _ (eq_ix2 i).symm)
  refine Eq.trans ?_ (ref_at _ _ _ (i 0) (i 1)).symm
  unfold outG
  exact congrArg (fun j => argH m c j + _) (eq_ix2 i)

/-- The kernel's frame. -/
theorem frame_p : Cert.quiescent_Kernel2 := fun m g _ => Cert.Kernel2.Gen.frame m g

/-- The ideal kernel's frame. -/
theorem frame_pi : Cert.quiescent_Kernel2Ideal := fun m g _ => Cert.Kernel2Ideal.Gen.frame m g

/-- The reference's frame. -/
theorem frame_ri : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- THE VALUE: kernel and reference compute the same function of the arguments. -/
theorem algebraic : Cert.algebraic_Kernel2Ideal_Reference2Ideal := by
  intro m g m' g' _ hagree
  refine ⟨fun c => refOut (m (c.tc.loc main_arg0)) (m (c.tc.loc main_arg1)) (m (c.tc.loc main_arg2)), ?_, ?_⟩
  · exact (θ_run Cert.Kernel2Ideal.defs _ _).mono
      (fun _ h c => ⟨((h c).1.trans (final m c)).trans (ker_out m c), (h c).2.1, (h c).2.2⟩)
      (Value.run_blocks m g)
  · refine (θ_run Cert.Reference2Ideal.defs _ _).mono (fun _ h c => ⟨(h c).1.trans ?_, (h c).2⟩)
      (Cert.Reference2Ideal.Value.run (F := Ideal) m' g')
    rw [Cert.Reference2Ideal.Read.val_main_v2_eq]
    obtain ⟨a0, a1, a2⟩ := hagree c
    rw [a0, a1, a2]

end Cert.Down

end
-- ==== Proof.Qkv.lean ====
/-
  The packed projection of queries, keys and values, the queries scaled: the kernel's output array is the reference's.
-/
module

public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit.Basic
public import Idealize.ShloMosaic.Lib.Pointwise
public import Idealize.ShloMosaic.Adequacy
public import Idealize.ShloMosaic.Init

@[expose] public section

noncomputable section

open scoped BigOperators

namespace Cert.Qkv

open Idealize.ShloMosaic Idealize.ShloMosaic.Pipeline Idealize.SL.Sem Cert.Kernel3Ideal Cert.Kernel3Ideal.Gen

/-- The first grid coordinate, which chooses the scale, is the column block. -/
theorem coord0 : ∀ t : Fin cfg0.N, (grid0.coords t 0).val = t.val / 52 := by decide +kernel

/-- The rows' block at a grid point: its row block, every column. -/
theorem index0 : ∀ t : Fin cfg0.N, win0_0.index t 0 = t.val % 52 ∧ win0_0.index t 1 = 0 := by decide +kernel

/-- The weights' block at a grid point: every row, its column block. -/
theorem index1 : ∀ t : Fin cfg0.N, win0_1.index t 0 = 0 ∧ win0_1.index t 1 = t.val / 52 := by decide +kernel

/-- The output's block at a grid point. -/
theorem index2 : ∀ t : Fin cfg0.N, win0_2.index t 0 = t.val % 52 ∧ win0_2.index t 1 = t.val / 52 := by decide +kernel

/-- The kernel's test whether a column block holds queries. -/
theorem cmp_four : ∀ n : Fin 12, Scalar.cmpi .slt (BitVec.ofNat 32 n.val) 4#32 = if n.val < 4 then 1#1 else 0#1 := by
  decide +kernel

/-- The factor of a column block: the scale for the queries, one for keys and values. -/
def scale (n : ℕ) : EReal := if n < 4 then Ideal.ofBits .f32 0x3DB504F3#32 else 1

/-- The kernel's factor at a column block. -/
theorem scale_eq (n : Fin 12) :
    Scalar.select (Scalar.cmpi .slt (BitVec.ofNat 32 n.val) 4#32) (Ideal.ofBits .f32 0x3DB504F3#32) 1 = scale n.val := by
  rw [cmp_four]
  unfold scale
  by_cases h : n.val < 4
  · rw [if_pos h, if_pos h]; rfl
  · rw [if_neg h, if_neg h]; rfl

/-- The block a grid point stores, read at an entry: the row times the column, times the block's factor. -/
theorem out_at (i : grid0.Coords) (x0 : Vec Ideal S640x4096 .bf16) (x1 : Vec Ideal S4096x1024 .bf16)
    (a : Fin 640) (b : Fin 1024) :
    out0_2 (F := Ideal) i x0 x1 (ix2 a b) = (∑ k : Fin 4096, x0 (ix2 a k) * x1 (ix2 k b)) * scale (i 0).val := by
  rw [← scale_eq (i 0)]
  unfold out0_2
  rw [View.canon_cons_unit_lit _ _ _ (by decide), View.ld_unit_lit _ _ (by decide), View.ld_unit_lit _ _ (by decide)]
  pointwise [k0_pay1]

variable (m : (ℓ : Loc nD τ sig) → Buf (Elt Ideal) ℓ) (c : Dev nD)

/-- The rows a device is launched with. -/
def argX : S33280x4096.Idx → EReal := m (c.tc.loc main_arg0)

/-- The weights it is launched with. -/
def argW : S4096x12288.Idx → EReal := m (c.tc.loc main_arg1)

/-- The output array: the product, the queries' columns scaled. -/
def outG : S33280x12288.Idx → EReal := fun i =>
  (∑ k : Fin 4096, argX m c (ix2 (i 0) k) * argW m c (ix2 k (i 1))) * scale ((i 1).val / 1024)

/-- The host code's rounded weights are the weights. -/
theorem V_main_v0 : (V m c main_v0 : S4096x12288.Idx → EReal) = argW m c := by
  unfold V
  simp only [hostOps0]
  after_results
  rfl

/-- Window 0's block, read off the rows. -/
theorem blk0 (t : Fin cfg0.N) (a : Fin 640) (k : Fin 4096) (r : Fin 33280) (hr : r.val = t.val % 52 * 640 + a.val) :
    (iblk m c 0 t : S640x4096.Idx → EReal) (ix2 a k) = argX m c (ix2 r k) := by
  unfold iblk
  rw [View.read_apply]
  show V m c main_arg0 _ = _
  rw [V_main_arg0]
  refine congrArg (argX m c) ((eq_ix2 _).trans (congrArg₂ ix2 (Fin.ext ?_) (Fin.ext ?_)))
  · show win0_0.index t 0 * 640 + 1 * a.val = _
    rw [(index0 t).1, Nat.one_mul, hr]
  · show win0_0.index t 1 * 4096 + 1 * k.val = _
    rw [(index0 t).2, Nat.one_mul, Nat.zero_mul, Nat.zero_add]

/-- Window 1's block, read off the weights. -/
theorem blk1 (t : Fin cfg0.N) (k : Fin 4096) (b : Fin 1024) (s : Fin 12288) (hs : s.val = t.val / 52 * 1024 + b.val) :
    (iblk m c 1 t : S4096x1024.Idx → EReal) (ix2 k b) = argW m c (ix2 k s) := by
  unfold iblk
  rw [View.read_apply]
  show V m c main_v0 _ = _
  rw [← V_main_v0]
  refine congrArg (V m c main_v0 : S4096x12288.Idx → EReal) ((eq_ix2 _).trans (congrArg₂ ix2 (Fin.ext ?_) (Fin.ext ?_)))
  · show win0_1.index t 0 * 4096 + 1 * k.val = _
    rw [(index1 t).1, Nat.one_mul, Nat.zero_mul, Nat.zero_add]
  · show win0_1.index t 1 * 1024 + 1 * b.val = _
    rw [(index1 t).2, Nat.one_mul, hs]

/-- A block computed from the arrays' entries holds the output array's entry. -/
theorem block_of (i : grid0.Coords) (X : S33280x4096.Idx → EReal) (W : S4096x12288.Idx → EReal)
    (x0 : Vec Ideal S640x4096 .bf16) (x1 : Vec Ideal S4096x1024 .bf16) (a : Fin 640) (b : Fin 1024)
    (r : Fin 33280) (s : Fin 12288) (hi : (i 0).val = s.val / 1024)
    (h0 : ∀ k : Fin 4096, x0 (ix2 a k) = X (ix2 r k)) (h1 : ∀ k : Fin 4096, x1 (ix2 k b) = W (ix2 k s)) :
    out0_2 (F := Ideal) i x0 x1 (ix2 a b) = (∑ k : Fin 4096, X (ix2 r k) * W (ix2 k s)) * scale (s.val / 1024) := by
  rw [out_at, hi]
  exact congrArg (· * scale (s.val / 1024)) (Finset.sum_congr rfl fun k _ => congrArg₂ (· * ·) (h0 k) (h1 k))

/-- What a grid point writes back is its block of the output array. -/
theorem flushed_eq (t : Fin cfg0.N) :
    (dats m 0 c).flushed 2 t = ((cfg0.win 2).blk t).view.read (Elt Ideal) (outG m c) := by
  rw [Value.flushed2]
  funext y
  rw [View.read_apply]
  have y0 : (y 0).val < 640 := (y 0).isLt
  have y1 : (y 1).val < 1024 := (y 1).isLt
  obtain ⟨i0, i1⟩ := index2 t
  have e0 : ((((cfg0.win 2).blk t).view.emb y) 0).val = t.val % 52 * 640 + (y 0).val := by
    show win0_2.index t 0 * 640 + 1 * (y 0).val = _
    rw [i0, Nat.one_mul]
  have e1 : ((((cfg0.win 2).blk t).view.emb y) 1).val = t.val / 52 * 1024 + (y 1).val := by
    show win0_2.index t 1 * 1024 + 1 * (y 1).val = _
    rw [i1, Nat.one_mul]
  show out0_2 (F := Ideal) _ _ _ y = outG m c _
  refine (congrArg _ (eq_ix2 y)).trans ?_
  refine (block_of _ (argX m c) (argW m c) _ _ (y 0) (y 1) ((((cfg0.win 2).blk t).view.emb y) 0)
    ((((cfg0.win 2).blk t).view.emb y) 1) ((coord0 t).trans ?_) (fun k => blk0 m c t _ k _ e0)
    (fun k => blk1 m c t k _ _ e1)).trans ?_
  · rw [e1]; omega
  · rfl

/-- THE OUTPUT ARRAY at the end of the grid. -/
theorem final : (dats m 0 c).arrAt 2 cfg0.N = outG m c :=
  (dats m 0 c).arrAt_eq_of_cover 2 (outG m c) (fun t _ => flushed_eq m c t) fun i => by
    have h0 : (i 0).val < 33280 := (i 0).isLt
    have h1 : (i 1).val < 12288 := (i 1).isLt
    have ht : (i 1).val / 1024 * 52 + (i 0).val / 640 < 624 := by omega
    refine ⟨⟨_, ht⟩, flush0_2 _, ?_⟩
    show i ∈ ((View.whole main_v1).slice (win0_2.rect ⟨_, ht⟩)).set
    rw [View.set_slice_whole, Rect.mem_set_unit]
    obtain ⟨i0, i1⟩ := index2 ⟨_, ht⟩
    intro a
    match a with
    | ⟨0, _⟩ =>
      show win0_2.index ⟨_, ht⟩ 0 * 640 ≤ (i 0).val ∧ (i 0).val < win0_2.index ⟨_, ht⟩ 0 * 640 + 640
      rw [i0]
      show ((i 1).val / 1024 * 52 + (i 0).val / 640) % 52 * 640 ≤ (i 0).val
        ∧ (i 0).val < ((i 1).val / 1024 * 52 + (i 0).val / 640) % 52 * 640 + 640
      omega
    | ⟨1, _⟩ =>
      show win0_2.index ⟨_, ht⟩ 1 * 1024 ≤ (i 1).val ∧ (i 1).val < win0_2.index ⟨_, ht⟩ 1 * 1024 + 1024
      rw [i1]
      show ((i 1).val / 1024 * 52 + (i 0).val / 640) / 52 * 1024 ≤ (i 1).val
        ∧ (i 1).val < ((i 1).val / 1024 * 52 + (i 0).val / 640) / 52 * 1024 + 1024
      omega

/-- The reference's output as a function of its two arguments. -/
abbrev refOut (x0 : FVec Ideal S33280x4096 .bf16) (x1 : FVec Ideal S4096x12288 .f32) : FVec Ideal S33280x12288 .bf16 :=
  Cert.Reference3Ideal.Read.val_main_v16 (F := Ideal) x0 x1

/-- The reference's product, read at an entry. -/
theorem prod_at (x0 : FVec Ideal S33280x4096 .bf16) (x1 : FVec Ideal S4096x12288 .f32) (r : Fin 33280) (s : Fin 12288) :
    Cert.Reference3Ideal.Read.val_main_v1 (F := Ideal) x0 x1 (ix2 r s) = ∑ k : Fin 4096, x0 (ix2 r k) * x1 (ix2 k s) := by
  rw [Cert.Reference3Ideal.Read.val_main_v1_apply]
  refine Finset.sum_congr rfl fun k _ => congrArg₂ (· * ·) ?_ ?_
  · rw [Cert.Reference3Ideal.Read.val_main_v0_apply]
    exact congrArg x0 (eq_ix2 _)
  · exact congrArg x1 (eq_ix2 _)

open Cert.Reference3Ideal.Read in
/-- The reference's output, read at an entry. -/
theorem ref_at (x0 : FVec Ideal S33280x4096 .bf16) (x1 : FVec Ideal S4096x12288 .f32) (r : Fin 33280) (s : Fin 12288) :
    refOut x0 x1 (ix2 r s) = (∑ k : Fin 4096, x0 (ix2 r k) * x1 (ix2 k s)) * scale (s.val / 1024) := by
  rw [← prod_at]
  have hs : s.val < 12288 := s.isLt
  unfold refOut scale
  pointwise [val_main_v16, val_main_v15, val_main_v14, val_main_v13, val_main_v12, val_main_v11, val_main_v10,
    val_main_v9, val_main_v8, val_main_v7, val_main_v6, val_main_v5, val_main_cst, val_main_v4, val_main_v3, val_main_v2]
  split
  · rw [if_pos (by omega)]
    congr 3
    apply Fin.ext
    show s.val / 128 % 32 * 128 + s.val % 128 = s.val
    omega
  · rw [if_neg (by omega), mul_one]
    split
    · congr 2
      apply Fin.ext
      show 4096 + s.val / 128 % 32 * 128 + s.val % 128 = s.val
      omega
    · congr 2
      apply Fin.ext
      show 8192 + s.val / 128 % 32 * 128 + s.val % 128 = s.val
      omega

/-- The kernel's output array is the reference's. -/
theorem ker_out : outG m c = refOut (m (c.tc.loc main_arg0)) (m (c.tc.loc main_arg1)) := by
  funext i
  refine Eq.trans ?_ (congrArg _ (eq_ix2 i).symm)
  exact (ref_at _ _ (i 0) (i 1)).symm

/-- The kernel's frame. -/
theorem frame_p : Cert.quiescent_Kernel3 := fun m g _ => Cert.Kernel3.Gen.frame m g

/-- The ideal kernel's frame. -/
theorem frame_pi : Cert.quiescent_Kernel3Ideal := fun m g _ => Cert.Kernel3Ideal.Gen.frame m g

/-- The reference's frame. -/
theorem frame_ri : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- THE VALUE: kernel and reference compute the same function of the arguments. -/
theorem algebraic : Cert.algebraic_Kernel3Ideal_Reference3Ideal := by
  intro m g m' g' _ hagree
  refine ⟨fun c => refOut (m (c.tc.loc main_arg0)) (m (c.tc.loc main_arg1)), ?_, ?_⟩
  · exact (θ_run Cert.Kernel3Ideal.defs _ _).mono
      (fun _ h c => ⟨((h c).1.trans (final m c)).trans (ker_out m c), (h c).2.1, (h c).2.2⟩)
      (Value.run_blocks m g)
  · refine (θ_run Cert.Reference3Ideal.defs _ _).mono (fun _ h c => ⟨(h c).1.trans ?_, (h c).2⟩)
      (Cert.Reference3Ideal.Value.run (F := Ideal) m' g')
    rw [Cert.Reference3Ideal.Read.val_main_v16_eq]
    exact congrArg₂ refOut (hagree c).1 (hagree c).2

end Cert.Qkv

end
-- ==== Proof.Out.lean ====
/-
  The output projection of a mixer: the kernel's output array is, entry by entry, the reference's product added to its input.
-/
module

public import proofs.«01_k».proof.Defs
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit.Basic
public import Idealize.ShloMosaic.Lib.Pointwise
public import Idealize.ShloMosaic.Adequacy
public import Idealize.ShloMosaic.Init

@[expose] public section

noncomputable section

open scoped BigOperators

namespace Cert.Out

open Idealize.ShloMosaic Idealize.ShloMosaic.Pipeline Idealize.SL.Sem Cert.Kernel4Ideal Cert.Kernel4Ideal.Gen

/-- The left factor's block at a grid point: its row block, every column. -/
theorem index0 : ∀ t : Fin cfg0.N, win0_0.index t 0 = t.val % 52 ∧ win0_0.index t 1 = 0 := by decide +kernel

/-- The weights' block at a grid point: every row, its column block. -/
theorem index1 : ∀ t : Fin cfg0.N, win0_1.index t 0 = 0 ∧ win0_1.index t 1 = t.val / 52 := by decide +kernel

/-- The added input's block at a grid point. -/
theorem index2 : ∀ t : Fin cfg0.N, win0_2.index t 0 = t.val % 52 ∧ win0_2.index t 1 = t.val / 52 := by decide +kernel

/-- The output's block at a grid point. -/
theorem index3 : ∀ t : Fin cfg0.N, win0_3.index t 0 = t.val % 52 ∧ win0_3.index t 1 = t.val / 52 := by decide +kernel

/-- The block a grid point stores, read at an entry: the input's plus the row times the column. -/
theorem out_at (x0 : Vec Ideal S640x4096 .bf16) (x1 : Vec Ideal S4096x1024 .bf16) (x2 : Vec Ideal S640x1024 .f32)
    (a : Fin 640) (b : Fin 1024) :
    out0_3 (F := Ideal) x0 x1 x2 (ix2 a b) = x2 (ix2 a b) + ∑ k : Fin 4096, x0 (ix2 a k) * x1 (ix2 k b) := by
  unfold out0_3
  rw [View.canon_cons_unit_lit _ _ _ (by decide), View.ld_unit_lit _ _ (by decide), View.ld_unit_lit _ _ (by decide),
    View.ld_unit_lit _ _ (by decide)]
  pointwise [k0_pay1]

variable (m : (ℓ : Loc nD τ sig) → Buf (Elt Ideal) ℓ) (c : Dev nD)

/-- The left factor a device is launched with. -/
def argX : S33280x4096.Idx → EReal := m (c.tc.loc main_arg0)

/-- The weights it is launched with. -/
def argW : S4096x4096.Idx → EReal := m (c.tc.loc main_arg1)

/-- The input the product is added to. -/
def argH : S33280x4096.Idx → EReal := m (c.tc.loc main_arg2)

/-- The output array: the input plus the product. -/
def outG : S33280x4096.Idx → EReal := fun i =>
  argH m c i + ∑ k : Fin 4096, argX m c (ix2 (i 0) k) * argW m c (ix2 k (i 1))

/-- The host code's rounded weights are the weights. -/
theorem V_main_v0 : (V m c main_v0 : S4096x4096.Idx → EReal) = argW m c := by
  unfold V
  simp only [hostOps0]
  after_results
  rfl

/-- The output buffer the host code leaves holds the input. -/
theorem V_main_v1 : (V m c main_v1 : S33280x4096.Idx → EReal) = argH m c := by
  unfold V
  simp only [hostOps0]
  after_results
  rfl

/-- Window 0's block, read off the left factor. -/
theorem blk0 (t : Fin cfg0.N) (a : Fin 640) (k : Fin 4096) (r : Fin 33280) (hr : r.val = t.val % 52 * 640 + a.val) :
    (iblk m c 0 t : S640x4096.Idx → EReal) (ix2 a k) = argX m c (ix2 r k) := by
  unfold iblk
  rw [View.read_apply]
  show V m c main_arg0 _ = _
  rw [V_main_arg0]
  refine congrArg (argX m c) ((eq_ix2 _).trans (congrArg₂ ix2 (Fin.ext ?_) (Fin.ext ?_)))
  · show win0_0.index t 0 * 640 + 1 * a.val = _
    rw [(index0 t).1, Nat.one_mul, hr]
  · show win0_0.index t 1 * 4096 + 1 * k.val = _
    rw [(index0 t).2, Nat.one_mul, Nat.zero_mul, Nat.zero_add]

/-- Window 1's block, read off the weights. -/
theorem blk1 (t : Fin cfg0.N) (k : Fin 4096) (b : Fin 1024) (s : Fin 4096) (hs : s.val = t.val / 52 * 1024 + b.val) :
    (iblk m c 1 t : S4096x1024.Idx → EReal) (ix2 k b) = argW m c (ix2 k s) := by
  unfold iblk
  rw [View.read_apply]
  show V m c main_v0 _ = _
  rw [← V_main_v0]
  refine congrArg (V m c main_v0 : S4096x4096.Idx → EReal) ((eq_ix2 _).trans (congrArg₂ ix2 (Fin.ext ?_) (Fin.ext ?_)))
  · show win0_1.index t 0 * 4096 + 1 * k.val = _
    rw [(index1 t).1, Nat.one_mul, Nat.zero_mul, Nat.zero_add]
  · show win0_1.index t 1 * 1024 + 1 * b.val = _
    rw [(index1 t).2, Nat.one_mul, hs]

/-- Window 2's block, read off the added input. -/
theorem blk2 (t : Fin cfg0.N) (a : Fin 640) (b : Fin 1024) (r : Fin 33280) (s : Fin 4096)
    (hr : r.val = t.val % 52 * 640 + a.val) (hs : s.val = t.val / 52 * 1024 + b.val) :
    (iblk m c 2 t : S640x1024.Idx → EReal) (ix2 a b) = argH m c (ix2 r s) := by
  unfold iblk
  rw [View.read_apply]
  show V m c main_arg2 _ = _
  rw [V_main_arg2]
  refine congrArg (argH m c) ((eq_ix2 _).trans (congrArg₂ ix2 (Fin.ext ?_) (Fin.ext ?_)))
  · show win0_2.index t 0 * 640 + 1 * a.val = _
    rw [(index2 t).1, Nat.one_mul, hr]
  · show win0_2.index t 1 * 1024 + 1 * b.val = _
    rw [(index2 t).2, Nat.one_mul, hs]

/-- A block computed from the arrays' entries holds the output array's entry. -/
theorem block_of (X : S33280x4096.Idx → EReal) (W : S4096x4096.Idx → EReal) (H : S33280x4096.Idx → EReal)
    (x0 : Vec Ideal S640x4096 .bf16) (x1 : Vec Ideal S4096x1024 .bf16) (x2 : Vec Ideal S640x1024 .f32)
    (a : Fin 640) (b : Fin 1024) (r : Fin 33280) (s : Fin 4096)
    (h0 : ∀ k : Fin 4096, x0 (ix2 a k) = X (ix2 r k)) (h1 : ∀ k : Fin 4096, x1 (ix2 k b) = W (ix2 k s))
    (h2 : x2 (ix2 a b) = H (ix2 r s)) :
    out0_3 (F := Ideal) x0 x1 x2 (ix2 a b) = H (ix2 r s) + ∑ k : Fin 4096, X (ix2 r k) * W (ix2 k s) := by
  rw [out_at, h2]
  exact congrArg _ (Finset.sum_congr rfl fun k _ => congrArg₂ (· * ·) (h0 k) (h1 k))

/-- What a grid point writes back is its block of the output array. -/
theorem flushed_eq (t : Fin cfg0.N) :
    (dats m 0 c).flushed 3 t = ((cfg0.win 3).blk t).view.read (Elt Ideal) (outG m c) := by
  rw [Value.flushed3]
  funext y
  rw [View.read_apply]
  have y0 : (y 0).val < 640 := (y 0).isLt
  have y1 : (y 1).val < 1024 := (y 1).isLt
  obtain ⟨i0, i1⟩ := index3 t
  have e0 : ((((cfg0.win 3).blk t).view.emb y) 0).val = t.val % 52 * 640 + (y 0).val := by
    show win0_3.index t 0 * 640 + 1 * (y 0).val = _
    rw [i0, Nat.one_mul]
  have e1 : ((((cfg0.win 3).blk t).view.emb y) 1).val = t.val / 52 * 1024 + (y 1).val := by
    show win0_3.index t 1 * 1024 + 1 * (y 1).val = _
    rw [i1, Nat.one_mul]
  show out0_3 (F := Ideal) _ _ _ y = outG m c _
  refine (congrArg _ (eq_ix2 y)).trans ?_
  refine (block_of (argX m c) (argW m c) (argH m c) _ _ _ (y 0) (y 1) ((((cfg0.win 3).blk t).view.emb y) 0)
    ((((cfg0.win 3).blk t).view.emb y) 1) (fun k => blk0 m c t _ k _ e0) (fun k => blk1 m c t k _ _ e1)
    (blk2 m c t _ _ _ _ e0 e1)).trans ?_
  unfold outG
  exact congrArg (fun j => argH m c j + _) (eq_ix2 _).symm

/-- THE OUTPUT ARRAY at the end of the grid. -/
theorem final : (dats m 0 c).arrAt 3 cfg0.N = outG m c :=
  (dats m 0 c).arrAt_eq_of_cover 3 (outG m c) (fun t _ => flushed_eq m c t) fun i => by
    have h0 : (i 0).val < 33280 := (i 0).isLt
    have h1 : (i 1).val < 4096 := (i 1).isLt
    have ht : (i 1).val / 1024 * 52 + (i 0).val / 640 < 208 := by omega
    refine ⟨⟨_, ht⟩, flush0_3 _, ?_⟩
    show i ∈ ((View.whole main_v1).slice (win0_3.rect ⟨_, ht⟩)).set
    rw [View.set_slice_whole, Rect.mem_set_unit]
    obtain ⟨i0, i1⟩ := index3 ⟨_, ht⟩
    intro a
    match a with
    | ⟨0, _⟩ =>
      show win0_3.index ⟨_, ht⟩ 0 * 640 ≤ (i 0).val ∧ (i 0).val < win0_3.index ⟨_, ht⟩ 0 * 640 + 640
      rw [i0]
      show ((i 1).val / 1024 * 52 + (i 0).val / 640) % 52 * 640 ≤ (i 0).val ∧ (i 0).val < ((i 1).val / 1024 * 52 + (i 0).val / 640) % 52 * 640 + 640
      omega
    | ⟨1, _⟩ =>
      show win0_3.index ⟨_, ht⟩ 1 * 1024 ≤ (i 1).val ∧ (i 1).val < win0_3.index ⟨_, ht⟩ 1 * 1024 + 1024
      rw [i1]
      show ((i 1).val / 1024 * 52 + (i 0).val / 640) / 52 * 1024 ≤ (i 1).val ∧ (i 1).val < ((i 1).val / 1024 * 52 + (i 0).val / 640) / 52 * 1024 + 1024
      omega

/-- The reference's output as a function of its three arguments. -/
abbrev refOut (x0 : FVec Ideal S33280x4096 .bf16) (x1 : FVec Ideal S4096x4096 .f32) (x2 : FVec Ideal S33280x4096 .f32) :
    FVec Ideal S33280x4096 .f32 := Cert.Reference4Ideal.Read.val_main_v2 (F := Ideal) x0 x1 x2

/-- The reference's output, read at an entry. -/
theorem ref_at (x0 : FVec Ideal S33280x4096 .bf16) (x1 : FVec Ideal S4096x4096 .f32) (x2 : FVec Ideal S33280x4096 .f32)
    (r : Fin 33280) (s : Fin 4096) :
    refOut x0 x1 x2 (ix2 r s) = x2 (ix2 r s) + ∑ k : Fin 4096, x0 (ix2 r k) * x1 (ix2 k s) := by
  unfold refOut
  rw [Cert.Reference4Ideal.Read.val_main_v2_apply, Cert.Reference4Ideal.Read.val_main_v1_apply]
  refine congrArg (x2 (ix2 r s) + ·) (Finset.sum_congr rfl fun k _ => congrArg₂ (· * ·) ?_ ?_)
  · rw [Cert.Reference4Ideal.Read.val_main_v0_apply]
    exact congrArg x0 (eq_ix2 _)
  · exact congrArg x1 (eq_ix2 _)

/-- The kernel's output array is the reference's. -/
theorem ker_out : outG m c = refOut (m (c.tc.loc main_arg0)) (m (c.tc.loc main_arg1)) (m (c.tc.loc main_arg2)) := by
  funext i
  refine Eq.trans ?_ (congrArg _ (eq_ix2 i).symm)
  refine Eq.trans ?_ (ref_at _ _ _ (i 0) (i 1)).symm
  unfold outG
  exact congrArg (fun j => argH m c j + _) (eq_ix2 i)

/-- The kernel's frame. -/
theorem frame_p : Cert.quiescent_Kernel4 := fun m g _ => Cert.Kernel4.Gen.frame m g

/-- The ideal kernel's frame. -/
theorem frame_pi : Cert.quiescent_Kernel4Ideal := fun m g _ => Cert.Kernel4Ideal.Gen.frame m g

/-- The reference's frame. -/
theorem frame_ri : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- THE VALUE: kernel and reference compute the same function of the arguments. -/
theorem algebraic : Cert.algebraic_Kernel4Ideal_Reference4Ideal := by
  intro m g m' g' _ hagree
  refine ⟨fun c => refOut (m (c.tc.loc main_arg0)) (m (c.tc.loc main_arg1)) (m (c.tc.loc main_arg2)), ?_, ?_⟩
  · exact (θ_run Cert.Kernel4Ideal.defs _ _).mono
      (fun _ h c => ⟨((h c).1.trans (final m c)).trans (ker_out m c), (h c).2.1, (h c).2.2⟩)
      (Value.run_blocks m g)
  · refine (θ_run Cert.Reference4Ideal.defs _ _).mono (fun _ h c => ⟨(h c).1.trans ?_, (h c).2⟩)
      (Cert.Reference4Ideal.Value.run (F := Ideal) m' g')
    rw [Cert.Reference4Ideal.Read.val_main_v2_eq]
    obtain ⟨a0, a1, a2⟩ := hagree c
    rw [a0, a1, a2]

end Cert.Out

end
-- ==== Proof.UpRunB.lean ====
/-
  The run of the gated projection's body at an odd point: what its stores leave in each buffer.
-/
module

public import proofs.«01_k».proof.Proof.Gen.Kernel5Ideal.Frame.RunA

@[expose] public section

set_option maxRecDepth 16384

noncomputable section

namespace Cert.Up

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- What the body's stores leave in the output's block and in the two kept buffers at an odd point, as pieces, the last first,
    with the proof that the body runs from its buffers at the given contents to those pieces written. -/
noncomputable def kernelRun0_B (c : Dev nD) (i : grid0.Coords) (arg1 : Memref sig .tc .vmem S1x336x4096 .i32) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S640x512 .bf16) (harg6 : arg6.IsWhole) (arg7 : Memref sig .tc .vmem S2x672x512 .f32) (harg7 : arg7.IsWhole) (arg8 : Memref sig .tc .vmem S2x672x512 .f32) (harg8 : arg8.IsWhole) (hc0 : ¬cond0_0 i) (hc1 : ¬cond0_1 i) (hc2 : cond0_2 i)
    (x0 : Vec F S1x336x4096 .i32) (x1 : Vec F S4096x512 .bf16) (x2 : Vec F S4096x512 .bf16) (x3 : Vec F S3x512 .f32) (x4 : Vec F S3x512 .f32) (xs0 : Vec F S2x672x512 .f32) :
    Σ' (L5 : List (View.Piece (Elt F) S640x512 .bf16)), Σ' (LS0 : List (View.Piece (Elt F) S2x672x512 .f32)), { LS1 : List (View.Piece (Elt F) S2x672x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0_ffn_up i arg1 harg1 arg2 harg2 arg3 harg3 arg4 harg4 arg5 harg5 arg6 harg6 arg7 harg7 arg8 harg8) K } := by
  refine ⟨?_, [], ?_, fun E K => ?run⟩
  case run =>
    simp only [cc0_ffn_up_eq_skeleton]; unfold cc0_ffn_up_skel
    rw [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg7.read_unread _
      iexact HS0
    iexists _; iexact HS1

end Cert.Up

end
-- ==== Proof.UpRunC.lean ====
/-
  The run of the gated projection's body at an even point after the first: what its stores leave in each buffer.
-/
module

public import proofs.«01_k».proof.Proof.Gen.Kernel5Ideal.Frame.RunA

@[expose] public section

set_option maxRecDepth 16384

noncomputable section

namespace Cert.Up

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- What the body's stores leave in the output's block and in the two kept buffers at an even point after the first, as pieces, the last first,
    with the proof that the body runs from its buffers at the given contents to those pieces written. -/
noncomputable def kernelRun0_C (c : Dev nD) (i : grid0.Coords) (arg1 : Memref sig .tc .vmem S1x336x4096 .i32) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S640x512 .bf16) (harg6 : arg6.IsWhole) (arg7 : Memref sig .tc .vmem S2x672x512 .f32) (harg7 : arg7.IsWhole) (arg8 : Memref sig .tc .vmem S2x672x512 .f32) (harg8 : arg8.IsWhole) (hc0 : ¬cond0_0 i) (hc1 : cond0_1 i) (hc2 : ¬cond0_2 i)
    (x0 : Vec F S1x336x4096 .i32) (x1 : Vec F S4096x512 .bf16) (x2 : Vec F S4096x512 .bf16) (x3 : Vec F S3x512 .f32) (x4 : Vec F S3x512 .f32) (xs1 : Vec F S2x672x512 .f32) :
    Σ' (L5 : List (View.Piece (Elt F) S640x512 .bf16)), Σ' (LS0 : List (View.Piece (Elt F) S2x672x512 .f32)), { LS1 : List (View.Piece (Elt F) S2x672x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ owns (c : Thread nD τ) arg8 fullShare xs1) -∗ K ⟨⟩))
          ⊢ wp frame (wpE (defs₀ (F := F)) Variants.none c none) E (cc0_ffn_up i arg1 harg1 arg2 harg2 arg3 harg3 arg4 harg4 arg5 harg5 arg6 harg6 arg7 harg7 arg8 harg8) K } := by
  refine ⟨?_, ?_, [], fun E K => ?run⟩
  case run =>
    simp only [cc0_ffn_up_eq_skeleton]; unfold cc0_ffn_up_skel
    rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    iexists _; isplitr; · ipureintro; exact harg8.read_unread _
    iexact HS1

end Cert.Up

end
-- ==== Proof.UpFrame.lean ====
/-
  The gated projection's frame: from the body's runs in its three cases, what each buffer holds after each grid point, the
  body at every point, and the launch.
-/
module

public import proofs.«01_k».proof.Proof.UpRunB
public import proofs.«01_k».proof.Proof.UpRunC
public import Idealize.ShloMosaic.Lib.Claim

@[expose] public section

set_option maxRecDepth 16384

noncomputable section

namespace Cert.Up

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 tile its block (20 stores of `S32x512`), so they cover it. -/
theorem cover0_A_5 (c : Dev nD) (i : grid0.Coords) (arg1 : Memref sig .tc .vmem S1x336x4096 .i32) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S640x512 .bf16) (harg6 : arg6.IsWhole) (arg7 : Memref sig .tc .vmem S2x672x512 .f32) (harg7 : arg7.IsWhole) (arg8 : Memref sig .tc .vmem S2x672x512 .f32) (harg8 : arg8.IsWhole) (hc0 : cond0_0 i) (hc1 : cond0_1 i) (hc2 : ¬cond0_2 i)
    (x0 : Vec F S1x336x4096 .i32) (x1 : Vec F S4096x512 .bf16) (x2 : Vec F S4096x512 .bf16) (x3 : Vec F S3x512 .f32) (x4 : Vec F S3x512 .f32) (y : S640x512.Idx) :
    ∃ pc ∈ (kernelRun0_A c i arg1 harg1 arg2 harg2 arg3 harg3 arg4 harg4 arg5 harg5 arg6 harg6 arg7 harg7 arg8 harg8 hc0 hc1 hc2 x0 x1 x2 x3 x4).1, y ∈ pc.1.set :=
  View.cover_of_tiledL (kernelRun0_A c i arg1 harg1 arg2 harg2 arg3 harg3 arg4 harg4 arg5 harg5 arg6 harg6 arg7 harg7 arg8 harg8 hc0 hc1 hc2 x0 x1 x2 x3 x4).1 S32x512.size (by sl_kernel_rfl) y

/-- What case A leaves in output 5's staging buffer: its pieces read back. -/
def out0_A_5 (c : Dev nD) (i : grid0.Coords) (arg1 : Memref sig .tc .vmem S1x336x4096 .i32) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S640x512 .bf16) (harg6 : arg6.IsWhole) (arg7 : Memref sig .tc .vmem S2x672x512 .f32) (harg7 : arg7.IsWhole) (arg8 : Memref sig .tc .vmem S2x672x512 .f32) (harg8 : arg8.IsWhole) (hc0 : cond0_0 i) (hc1 : cond0_1 i) (hc2 : ¬cond0_2 i)
    (x0 : Vec F S1x336x4096 .i32) (x1 : Vec F S4096x512 .bf16) (x2 : Vec F S4096x512 .bf16) (x3 : Vec F S3x512 .f32) (x4 : Vec F S3x512 .f32) : Vec F S640x512 .bf16 :=
  VO0_5.read (Elt F) (VO0_5.writes (Elt F) VO0_5.junk (kernelRun0_A c i arg1 harg1 arg2 harg2 arg3 harg3 arg4 harg4 arg5 harg5 arg6 harg6 arg7 harg7 arg8 harg8 hc0 hc1 hc2 x0 x1 x2 x3 x4).1)

/-- Case A's pieces for scratch `arg7` cover it: 4 pieces of `S1x672x256` tiling it. -/
theorem scover0_A_0 (c : Dev nD) (i : grid0.Coords) (arg1 : Memref sig .tc .vmem S1x336x4096 .i32) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S640x512 .bf16) (harg6 : arg6.IsWhole) (arg7 : Memref sig .tc .vmem S2x672x512 .f32) (harg7 : arg7.IsWhole) (arg8 : Memref sig .tc .vmem S2x672x512 .f32) (harg8 : arg8.IsWhole) (hc0 : cond0_0 i) (hc1 : cond0_1 i) (hc2 : ¬cond0_2 i)
    (x0 : Vec F S1x336x4096 .i32) (x1 : Vec F S4096x512 .bf16) (x2 : Vec F S4096x512 .bf16) (x3 : Vec F S3x512 .f32) (x4 : Vec F S3x512 .f32) (y : S2x672x512.Idx) :
    ∃ pc ∈ (kernelRun0_A c i arg1 harg1 arg2 harg2 arg3 harg3 arg4 harg4 arg5 harg5 arg6 harg6 arg7 harg7 arg8 harg8 hc0 hc1 hc2 x0 x1 x2 x3 x4).2.1, y ∈ pc.1.set :=
  View.cover_of_tiledL (kernelRun0_A c i arg1 harg1 arg2 harg2 arg3 harg3 arg4 harg4 arg5 harg5 arg6 harg6 arg7 harg7 arg8 harg8 hc0 hc1 hc2 x0 x1 x2 x3 x4).2.1 S1x672x256.size (by sl_kernel_rfl) y

/-- What case A leaves in scratch `arg7`: its pieces read back. -/
def sout0_A_0 (c : Dev nD) (i : grid0.Coords) (arg1 : Memref sig .tc .vmem S1x336x4096 .i32) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S640x512 .bf16) (harg6 : arg6.IsWhole) (arg7 : Memref sig .tc .vmem S2x672x512 .f32) (harg7 : arg7.IsWhole) (arg8 : Memref sig .tc .vmem S2x672x512 .f32) (harg8 : arg8.IsWhole) (hc0 : cond0_0 i) (hc1 : cond0_1 i) (hc2 : ¬cond0_2 i)
    (x0 : Vec F S1x336x4096 .i32) (x1 : Vec F S4096x512 .bf16) (x2 : Vec F S4096x512 .bf16) (x3 : Vec F S3x512 .f32) (x4 : Vec F S3x512 .f32) : Vec F S2x672x512 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 hc2 x0 x1 x2 x3 x4).2.1)

/-- Case A's pieces for scratch `arg8` cover it: 1 piece of `S2x672x512` tiling it. -/
theorem scover0_A_1 (c : Dev nD) (i : grid0.Coords) (arg1 : Memref sig .tc .vmem S1x336x4096 .i32) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S640x512 .bf16) (harg6 : arg6.IsWhole) (arg7 : Memref sig .tc .vmem S2x672x512 .f32) (harg7 : arg7.IsWhole) (arg8 : Memref sig .tc .vmem S2x672x512 .f32) (harg8 : arg8.IsWhole) (hc0 : cond0_0 i) (hc1 : cond0_1 i) (hc2 : ¬cond0_2 i)
    (x0 : Vec F S1x336x4096 .i32) (x1 : Vec F S4096x512 .bf16) (x2 : Vec F S4096x512 .bf16) (x3 : Vec F S3x512 .f32) (x4 : Vec F S3x512 .f32) (y : S2x672x512.Idx) :
    ∃ pc ∈ (kernelRun0_A c i arg1 harg1 arg2 harg2 arg3 harg3 arg4 harg4 arg5 harg5 arg6 harg6 arg7 harg7 arg8 harg8 hc0 hc1 hc2 x0 x1 x2 x3 x4).2.2.1, y ∈ pc.1.set :=
  View.cover_of_tiledL (kernelRun0_A c i arg1 harg1 arg2 harg2 arg3 harg3 arg4 harg4 arg5 harg5 arg6 harg6 arg7 harg7 arg8 harg8 hc0 hc1 hc2 x0 x1 x2 x3 x4).2.2.1 S2x672x512.size (by sl_kernel_rfl) y

/-- What case A leaves in scratch `arg8`: its pieces read back. -/
def sout0_A_1 (c : Dev nD) (i : grid0.Coords) (arg1 : Memref sig .tc .vmem S1x336x4096 .i32) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S640x512 .bf16) (harg6 : arg6.IsWhole) (arg7 : Memref sig .tc .vmem S2x672x512 .f32) (harg7 : arg7.IsWhole) (arg8 : Memref sig .tc .vmem S2x672x512 .f32) (harg8 : arg8.IsWhole) (hc0 : cond0_0 i) (hc1 : cond0_1 i) (hc2 : ¬cond0_2 i)
    (x0 : Vec F S1x336x4096 .i32) (x1 : Vec F S4096x512 .bf16) (x2 : Vec F S4096x512 .bf16) (x3 : Vec F S3x512 .f32) (x4 : Vec F S3x512 .f32) : Vec F S2x672x512 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 hc2 x0 x1 x2 x3 x4).2.2.1)

/-- Case B's pieces for output 5 tile its block (20 stores of `S32x512`), so they cover it. -/
theorem cover0_B_5 (c : Dev nD) (i : grid0.Coords) (arg1 : Memref sig .tc .vmem S1x336x4096 .i32) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S640x512 .bf16) (harg6 : arg6.IsWhole) (arg7 : Memref sig .tc .vmem S2x672x512 .f32) (harg7 : arg7.IsWhole) (arg8 : Memref sig .tc .vmem S2x672x512 .f32) (harg8 : arg8.IsWhole) (hc0 : ¬cond0_0 i) (hc1 : ¬cond0_1 i) (hc2 : cond0_2 i)
    (x0 : Vec F S1x336x4096 .i32) (x1 : Vec F S4096x512 .bf16) (x2 : Vec F S4096x512 .bf16) (x3 : Vec F S3x512 .f32) (x4 : Vec F S3x512 .f32) (xs0 : Vec F S2x672x512 .f32) (y : S640x512.Idx) :
    ∃ pc ∈ (kernelRun0_B c i arg1 harg1 arg2 harg2 arg3 harg3 arg4 harg4 arg5 harg5 arg6 harg6 arg7 harg7 arg8 harg8 hc0 hc1 hc2 x0 x1 x2 x3 x4 xs0).1, y ∈ pc.1.set :=
  View.cover_of_tiledL (kernelRun0_B c i arg1 harg1 arg2 harg2 arg3 harg3 arg4 harg4 arg5 harg5 arg6 harg6 arg7 harg7 arg8 harg8 hc0 hc1 hc2 x0 x1 x2 x3 x4 xs0).1 S32x512.size (by sl_kernel_rfl) y

/-- What case B leaves in output 5's staging buffer: its pieces read back. -/
def out0_B_5 (c : Dev nD) (i : grid0.Coords) (arg1 : Memref sig .tc .vmem S1x336x4096 .i32) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S640x512 .bf16) (harg6 : arg6.IsWhole) (arg7 : Memref sig .tc .vmem S2x672x512 .f32) (harg7 : arg7.IsWhole) (arg8 : Memref sig .tc .vmem S2x672x512 .f32) (harg8 : arg8.IsWhole) (hc0 : ¬cond0_0 i) (hc1 : ¬cond0_1 i) (hc2 : cond0_2 i)
    (x0 : Vec F S1x336x4096 .i32) (x1 : Vec F S4096x512 .bf16) (x2 : Vec F S4096x512 .bf16) (x3 : Vec F S3x512 .f32) (x4 : Vec F S3x512 .f32) (xs0 : Vec F S2x672x512 .f32) : Vec F S640x512 .bf16 :=
  VO0_5.read (Elt F) (VO0_5.writes (Elt F) VO0_5.junk (kernelRun0_B c i arg1 harg1 arg2 harg2 arg3 harg3 arg4 harg4 arg5 harg5 arg6 harg6 arg7 harg7 arg8 harg8 hc0 hc1 hc2 x0 x1 x2 x3 x4 xs0).1)

/-- Case B stores nothing into scratch `arg7`: it holds what the point before left. -/
def sout0_B_0 (c : Dev nD) (i : grid0.Coords) (arg1 : Memref sig .tc .vmem S1x336x4096 .i32) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S640x512 .bf16) (harg6 : arg6.IsWhole) (arg7 : Memref sig .tc .vmem S2x672x512 .f32) (harg7 : arg7.IsWhole) (arg8 : Memref sig .tc .vmem S2x672x512 .f32) (harg8 : arg8.IsWhole) (hc0 : ¬cond0_0 i) (hc1 : ¬cond0_1 i) (hc2 : cond0_2 i)
    (x0 : Vec F S1x336x4096 .i32) (x1 : Vec F S4096x512 .bf16) (x2 : Vec F S4096x512 .bf16) (x3 : Vec F S3x512 .f32) (x4 : Vec F S3x512 .f32) (xs0 : Vec F S2x672x512 .f32) : Vec F S2x672x512 .f32 := xs0

/-- Case B's pieces for scratch `arg8` cover it: 4 pieces of `S1x672x256` tiling it. -/
theorem scover0_B_1 (c : Dev nD) (i : grid0.Coords) (arg1 : Memref sig .tc .vmem S1x336x4096 .i32) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S640x512 .bf16) (harg6 : arg6.IsWhole) (arg7 : Memref sig .tc .vmem S2x672x512 .f32) (harg7 : arg7.IsWhole) (arg8 : Memref sig .tc .vmem S2x672x512 .f32) (harg8 : arg8.IsWhole) (hc0 : ¬cond0_0 i) (hc1 : ¬cond0_1 i) (hc2 : cond0_2 i)
    (x0 : Vec F S1x336x4096 .i32) (x1 : Vec F S4096x512 .bf16) (x2 : Vec F S4096x512 .bf16) (x3 : Vec F S3x512 .f32) (x4 : Vec F S3x512 .f32) (xs0 : Vec F S2x672x512 .f32) (y : S2x672x512.Idx) :
    ∃ pc ∈ (kernelRun0_B c i arg1 harg1 arg2 harg2 arg3 harg3 arg4 harg4 arg5 harg5 arg6 harg6 arg7 harg7 arg8 harg8 hc0 hc1 hc2 x0 x1 x2 x3 x4 xs0).2.2.1, y ∈ pc.1.set :=
  View.cover_of_tiledL (kernelRun0_B c i arg1 harg1 arg2 harg2 arg3 harg3 arg4 harg4 arg5 harg5 arg6 harg6 arg7 harg7 arg8 harg8 hc0 hc1 hc2 x0 x1 x2 x3 x4 xs0).2.2.1 S1x672x256.size (by sl_kernel_rfl) y

/-- What case B leaves in scratch `arg8`: its pieces read back. -/
def sout0_B_1 (c : Dev nD) (i : grid0.Coords) (arg1 : Memref sig .tc .vmem S1x336x4096 .i32) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S640x512 .bf16) (harg6 : arg6.IsWhole) (arg7 : Memref sig .tc .vmem S2x672x512 .f32) (harg7 : arg7.IsWhole) (arg8 : Memref sig .tc .vmem S2x672x512 .f32) (harg8 : arg8.IsWhole) (hc0 : ¬cond0_0 i) (hc1 : ¬cond0_1 i) (hc2 : cond0_2 i)
    (x0 : Vec F S1x336x4096 .i32) (x1 : Vec F S4096x512 .bf16) (x2 : Vec F S4096x512 .bf16) (x3 : Vec F S3x512 .f32) (x4 : Vec F S3x512 .f32) (xs0 : Vec F S2x672x512 .f32) : Vec F S2x672x512 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 hc2 x0 x1 x2 x3 x4 xs0).2.2.1)

/-- Case C's pieces for output 5 tile its block (20 stores of `S32x512`), so they cover it. -/
theorem cover0_C_5 (c : Dev nD) (i : grid0.Coords) (arg1 : Memref sig .tc .vmem S1x336x4096 .i32) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S640x512 .bf16) (harg6 : arg6.IsWhole) (arg7 : Memref sig .tc .vmem S2x672x512 .f32) (harg7 : arg7.IsWhole) (arg8 : Memref sig .tc .vmem S2x672x512 .f32) (harg8 : arg8.IsWhole) (hc0 : ¬cond0_0 i) (hc1 : cond0_1 i) (hc2 : ¬cond0_2 i)
    (x0 : Vec F S1x336x4096 .i32) (x1 : Vec F S4096x512 .bf16) (x2 : Vec F S4096x512 .bf16) (x3 : Vec F S3x512 .f32) (x4 : Vec F S3x512 .f32) (xs1 : Vec F S2x672x512 .f32) (y : S640x512.Idx) :
    ∃ pc ∈ (kernelRun0_C c i arg1 harg1 arg2 harg2 arg3 harg3 arg4 harg4 arg5 harg5 arg6 harg6 arg7 harg7 arg8 harg8 hc0 hc1 hc2 x0 x1 x2 x3 x4 xs1).1, y ∈ pc.1.set :=
  View.cover_of_tiledL (kernelRun0_C c i arg1 harg1 arg2 harg2 arg3 harg3 arg4 harg4 arg5 harg5 arg6 harg6 arg7 harg7 arg8 harg8 hc0 hc1 hc2 x0 x1 x2 x3 x4 xs1).1 S32x512.size (by sl_kernel_rfl) y

/-- What case C leaves in output 5's staging buffer: its pieces read back. -/
def out0_C_5 (c : Dev nD) (i : grid0.Coords) (arg1 : Memref sig .tc .vmem S1x336x4096 .i32) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S640x512 .bf16) (harg6 : arg6.IsWhole) (arg7 : Memref sig .tc .vmem S2x672x512 .f32) (harg7 : arg7.IsWhole) (arg8 : Memref sig .tc .vmem S2x672x512 .f32) (harg8 : arg8.IsWhole) (hc0 : ¬cond0_0 i) (hc1 : cond0_1 i) (hc2 : ¬cond0_2 i)
    (x0 : Vec F S1x336x4096 .i32) (x1 : Vec F S4096x512 .bf16) (x2 : Vec F S4096x512 .bf16) (x3 : Vec F S3x512 .f32) (x4 : Vec F S3x512 .f32) (xs1 : Vec F S2x672x512 .f32) : Vec F S640x512 .bf16 :=
  VO0_5.read (Elt F) (VO0_5.writes (Elt F) VO0_5.junk (kernelRun0_C c i arg1 harg1 arg2 harg2 arg3 harg3 arg4 harg4 arg5 harg5 arg6 harg6 arg7 harg7 arg8 harg8 hc0 hc1 hc2 x0 x1 x2 x3 x4 xs1).1)

/-- Case C's pieces for scratch `arg7` cover it: 4 pieces of `S1x672x256` tiling it. -/
theorem scover0_C_0 (c : Dev nD) (i : grid0.Coords) (arg1 : Memref sig .tc .vmem S1x336x4096 .i32) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S640x512 .bf16) (harg6 : arg6.IsWhole) (arg7 : Memref sig .tc .vmem S2x672x512 .f32) (harg7 : arg7.IsWhole) (arg8 : Memref sig .tc .vmem S2x672x512 .f32) (harg8 : arg8.IsWhole) (hc0 : ¬cond0_0 i) (hc1 : cond0_1 i) (hc2 : ¬cond0_2 i)
    (x0 : Vec F S1x336x4096 .i32) (x1 : Vec F S4096x512 .bf16) (x2 : Vec F S4096x512 .bf16) (x3 : Vec F S3x512 .f32) (x4 : Vec F S3x512 .f32) (xs1 : Vec F S2x672x512 .f32) (y : S2x672x512.Idx) :
    ∃ pc ∈ (kernelRun0_C c i arg1 harg1 arg2 harg2 arg3 harg3 arg4 harg4 arg5 harg5 arg6 harg6 arg7 harg7 arg8 harg8 hc0 hc1 hc2 x0 x1 x2 x3 x4 xs1).2.1, y ∈ pc.1.set :=
  View.cover_of_tiledL (kernelRun0_C c i arg1 harg1 arg2 harg2 arg3 harg3 arg4 harg4 arg5 harg5 arg6 harg6 arg7 harg7 arg8 harg8 hc0 hc1 hc2 x0 x1 x2 x3 x4 xs1).2.1 S1x672x256.size (by sl_kernel_rfl) y

/-- What case C leaves in scratch `arg7`: its pieces read back. -/
def sout0_C_0 (c : Dev nD) (i : grid0.Coords) (arg1 : Memref sig .tc .vmem S1x336x4096 .i32) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S640x512 .bf16) (harg6 : arg6.IsWhole) (arg7 : Memref sig .tc .vmem S2x672x512 .f32) (harg7 : arg7.IsWhole) (arg8 : Memref sig .tc .vmem S2x672x512 .f32) (harg8 : arg8.IsWhole) (hc0 : ¬cond0_0 i) (hc1 : cond0_1 i) (hc2 : ¬cond0_2 i)
    (x0 : Vec F S1x336x4096 .i32) (x1 : Vec F S4096x512 .bf16) (x2 : Vec F S4096x512 .bf16) (x3 : Vec F S3x512 .f32) (x4 : Vec F S3x512 .f32) (xs1 : Vec F S2x672x512 .f32) : Vec F S2x672x512 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 hc2 x0 x1 x2 x3 x4 xs1).2.1)

/-- Case C stores nothing into scratch `arg8`: it holds what the point before left. -/
def sout0_C_1 (c : Dev nD) (i : grid0.Coords) (arg1 : Memref sig .tc .vmem S1x336x4096 .i32) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S640x512 .bf16) (harg6 : arg6.IsWhole) (arg7 : Memref sig .tc .vmem S2x672x512 .f32) (harg7 : arg7.IsWhole) (arg8 : Memref sig .tc .vmem S2x672x512 .f32) (harg8 : arg8.IsWhole) (hc0 : ¬cond0_0 i) (hc1 : cond0_1 i) (hc2 : ¬cond0_2 i)
    (x0 : Vec F S1x336x4096 .i32) (x1 : Vec F S4096x512 .bf16) (x2 : Vec F S4096x512 .bf16) (x3 : Vec F S3x512 .f32) (x4 : Vec F S3x512 .f32) (xs1 : Vec F S2x672x512 .f32) : Vec F S2x672x512 .f32 := xs1

/-! ## What the outputs hold after each point -/

/-- What the output's block and the two kept buffers hold after each point: the point's case run at its buffers and blocks,
    over what the point before left. -/
def outsAt0 (c : Dev nD) : (n : ℕ) → n < cfg0.N → Vec F S640x512 .bf16 × Vec F S2x672x512 .f32 × Vec F S2x672x512 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (X0_1 m c ⟨0, hn⟩) (X0_2 m c ⟨0, hn⟩) (X0_3 m c ⟨0, hn⟩) (X0_4 m c ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (X0_1 m c ⟨0, hn⟩) (X0_2 m c ⟨0, hn⟩) (X0_3 m c ⟨0, hn⟩) (X0_4 m c ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (X0_1 m c ⟨0, hn⟩) (X0_2 m c ⟨0, hn⟩) (X0_3 m c ⟨0, hn⟩) (X0_4 m c ⟨0, hn⟩))
  | n + 1, hn =>
    if h0 : (n + 1) % 1093 = 0 then
      if h1 : (n + 1) % 2 = 0 then
        if h2 : (n + 1) % 2 = 1 then
          False.elim (by have hN : n + 1 < 1093 := lt_of_lt_of_eq hn (show cfg0.N = 1093 from N_0); omega)
        else
          (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (X0_1 m c ⟨n + 1, hn⟩) (X0_2 m c ⟨n + 1, hn⟩) (X0_3 m c ⟨n + 1, hn⟩) (X0_4 m c ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (X0_1 m c ⟨n + 1, hn⟩) (X0_2 m c ⟨n + 1, hn⟩) (X0_3 m c ⟨n + 1, hn⟩) (X0_4 m c ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (X0_1 m c ⟨n + 1, hn⟩) (X0_2 m c ⟨n + 1, hn⟩) (X0_3 m c ⟨n + 1, hn⟩) (X0_4 m c ⟨n + 1, hn⟩))
      else
        False.elim (by have hN : n + 1 < 1093 := lt_of_lt_of_eq hn (show cfg0.N = 1093 from N_0); omega)
    else
      if h1 : (n + 1) % 2 = 0 then
        if h2 : (n + 1) % 2 = 1 then
          False.elim (by have hN : n + 1 < 1093 := lt_of_lt_of_eq hn (show cfg0.N = 1093 from N_0); omega)
        else
          (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (X0_1 m c ⟨n + 1, hn⟩) (X0_2 m c ⟨n + 1, hn⟩) (X0_3 m c ⟨n + 1, hn⟩) (X0_4 m c ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (X0_1 m c ⟨n + 1, hn⟩) (X0_2 m c ⟨n + 1, hn⟩) (X0_3 m c ⟨n + 1, hn⟩) (X0_4 m c ⟨n + 1, hn⟩) (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (X0_1 m c ⟨n + 1, hn⟩) (X0_2 m c ⟨n + 1, hn⟩) (X0_3 m c ⟨n + 1, hn⟩) (X0_4 m c ⟨n + 1, hn⟩) (outsAt0 c n (Nat.lt_of_succ_lt hn)).2.2)
      else
        if h2 : (n + 1) % 2 = 1 then
          (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (X0_1 m c ⟨n + 1, hn⟩) (X0_2 m c ⟨n + 1, hn⟩) (X0_3 m c ⟨n + 1, hn⟩) (X0_4 m c ⟨n + 1, hn⟩) (outsAt0 c n (Nat.lt_of_succ_lt hn)).2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (X0_1 m c ⟨n + 1, hn⟩) (X0_2 m c ⟨n + 1, hn⟩) (X0_3 m c ⟨n + 1, hn⟩) (X0_4 m c ⟨n + 1, hn⟩) (outsAt0 c n (Nat.lt_of_succ_lt hn)).2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (X0_1 m c ⟨n + 1, hn⟩) (X0_2 m c ⟨n + 1, hn⟩) (X0_3 m c ⟨n + 1, hn⟩) (X0_4 m c ⟨n + 1, hn⟩) (outsAt0 c n (Nat.lt_of_succ_lt hn)).2.1)
        else
          False.elim (by have hN : n + 1 < 1093 := lt_of_lt_of_eq hn (show cfg0.N = 1093 from N_0); omega)

/-- `outsAt0` at a point of case A: that case's contents. -/
theorem outsAt0_A (c : Dev nD) (t : Fin cfg0.N) (h0 : t.val % 1093 = 0) (h1 : t.val % 2 = 0) (h2 : ¬t.val % 2 = 1) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (fun h => h2 ((hcond0_2 t).mp h)) (iblk m c 0 t) (X0_1 m c t) (X0_2 m c t) (X0_3 m c t) (X0_4 m c t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (fun h => h2 ((hcond0_2 t).mp h)) (iblk m c 0 t) (X0_1 m c t) (X0_2 m c t) (X0_3 m c t) (X0_4 m c t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (fun h => h2 ((hcond0_2 t).mp h)) (iblk m c 0 t) (X0_1 m c t) (X0_2 m c t) (X0_3 m c t) (X0_4 m c t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 1093 = 0) (h1 : ¬t.val % 2 = 0) (h2 : t.val % 2 = 1) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) (iblk m c 0 t) (X0_1 m c t) (X0_2 m c t) (X0_3 m c t) (X0_4 m c t) (outsAt0 m c (t.val - 1) (Nat.lt_of_le_of_lt (Nat.sub_le _ _) t.isLt)).2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) (iblk m c 0 t) (X0_1 m c t) (X0_2 m c t) (X0_3 m c t) (X0_4 m c t) (outsAt0 m c (t.val - 1) (Nat.lt_of_le_of_lt (Nat.sub_le _ _) t.isLt)).2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) (iblk m c 0 t) (X0_1 m c t) (X0_2 m c t) (X0_3 m c t) (X0_4 m c t) (outsAt0 m c (t.val - 1) (Nat.lt_of_le_of_lt (Nat.sub_le _ _) t.isLt)).2.1) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at a point of case C: that case's contents, over what the point before left. -/
theorem outsAt0_C (c : Dev nD) (t : Fin cfg0.N) (h0 : ¬t.val % 1093 = 0) (h1 : t.val % 2 = 0) (h2 : ¬t.val % 2 = 1) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (fun h => h2 ((hcond0_2 t).mp h)) (iblk m c 0 t) (X0_1 m c t) (X0_2 m c t) (X0_3 m c t) (X0_4 m c t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (fun h => h2 ((hcond0_2 t).mp h)) (iblk m c 0 t) (X0_1 m c t) (X0_2 m c t) (X0_3 m c t) (X0_4 m c t) (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (fun h => h2 ((hcond0_2 t).mp h)) (iblk m c 0 t) (X0_1 m c t) (X0_2 m c t) (X0_3 m c t) (X0_4 m c t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- What holds before a point: at the first, the kept buffers at anything; afterwards, each at what the point before left in
    it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

/-- Before the first point. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data: the arrays as the region finds them, each input's buffer at its block, the output's at what the body
    stores, the kept buffers between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => X0_3 m c t
    | ⟨4, _⟩ => X0_4 m c t
    | ⟨5, _⟩ => (outsAt0 m c t.val t.isLt).1
  Φ t := PhiS m c t.val (Nat.le_of_lt_succ t.isLt)
  q _ := fullShare
  owed _ := 0

/-- The proof data's arrays are what the region finds in them. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in the rows' buffer. -/
theorem after0_0 (c : Dev nD) (t : Fin cfg0.N) : (dats m 0 c).after 0 t = iblk m c 0 t := by dsimp only [dats]
/-- What the body leaves in the gate's weights' buffer. -/
theorem after0_1 (c : Dev nD) (t : Fin cfg0.N) : (dats m 0 c).after 1 t = X0_1 m c t := by dsimp only [dats]
/-- What the body leaves in the value's weights' buffer. -/
theorem after0_2 (c : Dev nD) (t : Fin cfg0.N) : (dats m 0 c).after 2 t = X0_2 m c t := by dsimp only [dats]
/-- What the body leaves in the gate's taps' buffer. -/
theorem after0_3 (c : Dev nD) (t : Fin cfg0.N) : (dats m 0 c).after 3 t = X0_3 m c t := by dsimp only [dats]
/-- What the body leaves in the value's taps' buffer. -/
theorem after0_4 (c : Dev nD) (t : Fin cfg0.N) : (dats m 0 c).after 4 t = X0_4 m c t := by dsimp only [dats]
/-- What the body leaves in the output's buffer. -/
theorem after0_5 (c : Dev nD) (t : Fin cfg0.N) : (dats m 0 c).after 5 t = (outsAt0 m c t.val t.isLt).1 := by dsimp only [dats]

/-- The rows' buffer holds its block at every point. -/
theorem before0_0 (c : Dev nD) (t : Fin cfg0.N) (d) : (dats m 0 c).before 0 t d = iblk m c 0 t :=
  before0_0_of m (dats m 0 c) (A_eq m c 0) (after0_0 m c) t d
/-- The gate's weights' buffer holds its block at every point. -/
theorem before0_1 (c : Dev nD) (t : Fin cfg0.N) (d) : (dats m 0 c).before 1 t d = X0_1 m c t :=
  before0_1_of m (dats m 0 c) (A_eq m c 1) (after0_1 m c) t d
/-- The value's weights' buffer holds its block at every point. -/
theorem before0_2 (c : Dev nD) (t : Fin cfg0.N) (d) : (dats m 0 c).before 2 t d = X0_2 m c t :=
  before0_2_of m (dats m 0 c) (A_eq m c 2) (after0_2 m c) t d
/-- The gate's taps' buffer holds its block at every point. -/
theorem before0_3 (c : Dev nD) (t : Fin cfg0.N) (d) : (dats m 0 c).before 3 t d = X0_3 m c t :=
  before0_3_of m (dats m 0 c) (A_eq m c 3) (after0_3 m c) t d
/-- The value's taps' buffer holds its block at every point. -/
theorem before0_4 (c : Dev nD) (t : Fin cfg0.N) (d) : (dats m 0 c).before 4 t d = X0_4 m c t :=
  before0_4_of m (dats m 0 c) (A_eq m c 4) (after0_4 m c) t d

/-! ## The body obligation, at a generic point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What the body leaves at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body at any point: the buffers hold their blocks, the point's number says which case it is in, that case's run applies,
    and the kept buffers pass from point to point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 1093 := lt_of_lt_of_eq t.isLt (show cfg0.N = 1093 from N_0)
  by_cases h0 : t.val % 1093 = 0
  · by_cases h1 : t.val % 2 = 0
    · by_cases h2 : t.val % 2 = 1
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_A t ((hcond0_0 t).mpr h0) ((hcond0_1 t).mpr h1) (fun h => h2 ((hcond0_2 t).mp h))], after0_5]
        by_cases hz : t.val = 0
        · rw [PhiS_castSucc m c t, PhiS_zero m c _ _ hz, PhiA0_eq]
          rw [outsAt0_A m c t h0 h1 h2]
          unfold out0_A_5 sout0_A_0 sout0_A_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩⟩
          iapply ((kernelRun0_A c (grid0.coords t) _ _ _ _ _ _ _ _ _ _ _ _ _ _ _ _ ((hcond0_0 t).mpr h0) ((hcond0_1 t).mpr h1) (fun h => h2 ((hcond0_2 t).mp h)) (iblk m c 0 t) (X0_1 m c t) (X0_2 m c t) (X0_3 m c t) (X0_4 m c t)).2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          iintro ⟨H0, H1, H2, H3, H4, ⟨%e5, H5⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_A_5 c _ _ _ _ _ _ _ _ _ _ _ _ _ _ _ _ _ _ _ _ _ _ _ _ _)
        · exfalso; have hN : t.val < 1093 := lt_of_lt_of_eq t.isLt (show cfg0.N = 1093 from N_0); omega
    · exfalso; omega
  · by_cases h1 : t.val % 2 = 0
    · by_cases h2 : t.val % 2 = 1
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1) (fun h => h2 ((hcond0_2 t).mp h))], after0_5]
        by_cases hz : t.val = 0
        · exfalso; have hN : t.val < 1093 := lt_of_lt_of_eq t.isLt (show cfg0.N = 1093 from N_0); omega
        · rw [PhiS_castSucc m c t, PhiS_pos m c _ _ hz]
          rw [outsAt0_C m c t h0 h1 h2]
          unfold out0_C_5 sout0_C_0 sout0_C_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩⟩
          iapply ((kernelRun0_C c (grid0.coords t) _ _ _ _ _ _ _ _ _ _ _ _ _ _ _ _ (fun h => h0 ((hcond0_0 t).mp h)) ((hcond0_1 t).mpr h1) (fun h => h2 ((hcond0_2 t).mp h)) (iblk m c 0 t) (X0_1 m c t) (X0_2 m c t) (X0_3 m c t) (X0_4 m c t) _).2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexists _; iexact HS0
          isplitl [HS1]; · iexact HS1
          iintro ⟨H0, H1, H2, H3, H4, ⟨%e5, H5⟩, ⟨%es0, HS0⟩, HS1⟩
          isplitl [HS0 HS1 Hg]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _)
              iexact HS1
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_C_5 c _ _ _ _ _ _ _ _ _ _ _ _ _ _ _ _ _ _ _ _ _ _ _ _ _ _)
    · by_cases h2 : t.val % 2 = 1
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_B t (fun h => h0 ((hcond0_0 t).mp h)) (fun h => h1 ((hcond0_1 t).mp h)) ((hcond0_2 t).mpr h2)], after0_5]
        by_cases hz : t.val = 0
        · exfalso; have hN : t.val < 1093 := lt_of_lt_of_eq t.isLt (show cfg0.N = 1093 from N_0); omega
        · rw [PhiS_castSucc m c t, PhiS_pos m c _ _ hz]
          rw [outsAt0_B m c t h0 h1 h2]
          unfold out0_B_5 sout0_B_0 sout0_B_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩⟩
          iapply ((kernelRun0_B c (grid0.coords t) _ _ _ _ _ _ _ _ _ _ _ _ _ _ _ _ (fun h => h0 ((hcond0_0 t).mp h)) (fun h => h1 ((hcond0_1 t).mp h)) ((hcond0_2 t).mpr h2) (iblk m c 0 t) (X0_1 m c t) (X0_2 m c t) (X0_3 m c t) (X0_4 m c t) _).2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexists _; iexact HS1
          iintro ⟨H0, H1, H2, H3, H4, ⟨%e5, H5⟩, HS0, ⟨%es1, HS1⟩⟩
          isplitl [HS0 HS1 Hg]
          · isplitl [HS0 HS1]
            · isplitl [HS0]
              · iexact HS0
              unfold owns; iexists _; isplitr
              swap; · iexact HS1
              ipureintro; exact View.read_writes_of_cover _ _ _ _ _ (scover0_B_1 c _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_B_5 c _ _ _ _ _ _ _ _ _ _ _ _ _ _ _ _ _ _ _ _ _ _ _ _ _ _)
      · exfalso; omega

/-- The body the launch calls at a point. -/
theorem defs₀_row (t : Fin cfg0.N) :
    defs₀ (F := F) .tc cfg0.body (cfg0.bodyArgs t (cfg0.slots t)) = bodyAt0 t := by
  unfold defs₀; rw [Defs.onTc_tc]

/-- The body's triple at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is what holds before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the kept buffers' contents can be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 1093 := N_0; omega)

/-! ## The run and the frame -/

set_option backward.isDefEq.respectTransparency.types false in
/-- The run of the whole program, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- From any memory with zero counters the program ends with every array of the pipeline at what the proof data say and every
    other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Up

end
-- ==== Proof.UpSpec.lean ====
/-
  The packed rows, the convolution over rows and the gate, as functions of numbers.
-/
module

public import Idealize.ShloMosaic.PureOps
public import Idealize.ShloMosaic.Lib.Pointwise

@[expose] public section

noncomputable section

open scoped BigOperators

namespace Cert.Up

open Idealize.ShloMosaic

/-- Row `r` of a pair of rows packed in one word: the low half for an even row, the high half for an odd one. -/
def half (w : BitVec 32) (r : ℕ) : EReal := Ideal.ofBits .bf16 (w.extractLsb' (16 * (r % 2)) 16)

/-- A convolution of three rows at a column. -/
def conv (w0 w1 w2 p0 p1 p2 : EReal) : EReal := w0 * p0 + w1 * p1 + w2 * p2

/-- The gated product: `silu g * v`. -/
def gate (g v : EReal) : EReal := g * Ideal.div 1 (1 + Ideal.exp (0 - g)) * v

end Cert.Up

end
-- ==== Proof.UpBody.lean ====
/-
  The gated projection's kernel body, read at an entry.
-/
module

public import proofs.«01_k».proof.Proof.UpSpec
public import proofs.«01_k».proof.Proof.Gen.Kernel5Ideal.Skeleton
public import Idealize.ShloMosaic.Lib.BitcastPair
public import Idealize.ShloMosaic.Lib.IdealHost

@[expose] public section

noncomputable section

open scoped BigOperators

namespace Cert.Up

open Idealize.ShloMosaic Cert.Kernel5Ideal Cert.Kernel5Ideal.Gen

/-- Row `r` of a block of packed rows. -/
def brow (x : S1x336x4096.Idx → BitVec 32) (r : Fin 672) (k : Fin 4096) : EReal :=
  half (x (ix3 0 ⟨r.val / 2, by omega⟩ k)) r.val

/-- The unpacked rows the body multiplies. -/
theorem pay6_at (x : S1x336x4096.Idx → BitVec 32) (r : Fin 672) (k : Fin 4096) :
    k0_pay6 (F := Ideal) x (ix2 r k) = brow x r k := by
  unfold k0_pay6 brow half
  show Ideal.ofBits .bf16 (bitcast _ _ _ _ _) = _
  rw [bitcast_32_16]
  have hr : r.val < 672 := r.isLt
  show Ideal.ofBits .bf16 (BitVec.extractLsb' (16 * (r.val % 2)) 16 _) = _
  refine congrArg (fun w => Ideal.ofBits .bf16 (BitVec.extractLsb' (16 * (r.val % 2)) 16 w)) ?_
  refine shapeCast_apply _ _ _ _ ?_
  rw [Shape.rowMajor_val_two, Shape.rowMajor_val_three]
  show (0 * 336 + r.val / 2) * 4096 + k.val = r.val / 2 * 4096 + k.val
  omega

/-- A product the body stores, at an entry. -/
theorem pay27_at (x : FVec Ideal S672x4096 .bf16) (w : S4096x256.Idx → EReal) (i : Fin 1) (r : Fin 672) (b : Fin 256) :
    k0_pay27 (F := Ideal) x w (ix3 i r b) = ∑ k : Fin 4096, x (ix2 r k) * w (ix2 k b) := by
  pointwise [k0_pay27]

/-- The body's products are this one: those of the gate's and the value's columns, halves first and second, at even points. -/
theorem pay_even : (∀ x w, k0_pay7 (F := Ideal) x w = k0_pay27 (k0_pay6 x) w)
    ∧ k0_pay42 (F := Ideal) = k0_pay27 ∧ k0_pay62 (F := Ideal) = k0_pay27 :=
  ⟨fun _ _ => rfl, rfl, rfl⟩

/-- The same at odd points. -/
theorem pay_odd : (∀ x w, k0_pay82 (F := Ideal) x w = k0_pay27 (k0_pay6 x) w) ∧ k0_pay81 (F := Ideal) = k0_pay6
    ∧ k0_pay102 (F := Ideal) = k0_pay27 ∧ k0_pay117 (F := Ideal) = k0_pay27 ∧ k0_pay137 (F := Ideal) = k0_pay27 :=
  ⟨fun _ _ => rfl, rfl, rfl, rfl, rfl⟩

end Cert.Up

end
-- ==== Proof.UpCells.lean ====
/-
  The gated projection's body, entry by entry: what it stores in the two buffers it keeps between grid points, and what it
  stores in the output's block.
-/
module

public import proofs.«01_k».proof.Proof.UpBody
public import Idealize.ShloMosaic.Lib.Pipeline.ValueKit.Basic
public import Idealize.ShloMosaic.Lib.Pointwise

@[expose] public section

noncomputable section

open scoped BigOperators

namespace Cert.Up

open Idealize.ShloMosaic Cert.Kernel5Ideal Cert.Kernel5Ideal.Gen

/-- Half `h`, row `r` and column `b` of a kept buffer. -/
def rd (P : S2x672x512.Idx → EReal) (h r : ℕ) (b : Fin 512) : EReal :=
  if p : h < 2 ∧ r < 672 then P (ix3 ⟨h, p.1⟩ ⟨r, p.2⟩ b) else 0

/-- An entry of a kept buffer, by its half, row and column. -/
theorem eq_rd (P : S2x672x512.Idx → EReal) (h : Fin 2) (r : ℕ) (hr : r < 672) (b : Fin 512) :
    P (ix3 h ⟨r, hr⟩ b) = rd P h.val r b := by
  unfold rd
  rw [dif_pos ⟨h.isLt, hr⟩]

/-- The output's row `n` and column `b`, from the taps and a kept buffer: the gate of two convolutions of its rows. -/
def cell (x3 x4 : S3x512.Idx → EReal) (P : S2x672x512.Idx → EReal) (n : ℕ) (b : Fin 512) : EReal :=
  gate (conv (x3 (ix2 0 b)) (x3 (ix2 1 b)) (x3 (ix2 2 b)) (rd P 0 (15 + n) b) (rd P 0 (16 + n) b) (rd P 0 (17 + n) b))
    (conv (x4 (ix2 0 b)) (x4 (ix2 1 b)) (x4 (ix2 2 b)) (rd P 1 (15 + n) b) (rd P 1 (16 + n) b) (rd P 1 (17 + n) b))

/-- The output's block. -/
def outv (x3 x4 : S3x512.Idx → EReal) (P : S2x672x512.Idx → EReal) : S640x512.Idx → EReal :=
  fun y => cell x3 x4 P (y 0).val (y 1)

/-- The output's block at an entry of the 32 rows from row `o`. -/
theorem outv_emb (x3 x4 : S3x512.Idx → EReal) (P : S2x672x512.Idx → EReal) (o : ℕ) (inb) (a : Fin 32) (b : Fin 512) :
    outv x3 x4 P ((Rect.unit (s := S640x512) ![o, 0] ![32, 512] inb).emb (ix2 a b)) = cell x3 x4 P (o + a.val) b := by
  show cell x3 x4 P (o + 1 * a.val) ⟨0 + 1 * b.val, _⟩ = _
  congr 1
  · omega
  · exact Fin.ext (show 0 + 1 * b.val = b.val by omega)

/-- A statement of every entry of 32 rows, from its pairs of coordinates. -/
theorem forall_ix2 {P : S32x512.Idx → Prop} (h : ∀ (a : Fin 32) (b : Fin 512), P (ix2 a b)) (x : S32x512.Idx) : P x := by
  rw [eq_ix2 x]
  exact h _ _

/-- A kept buffer's entries: the rows' products with the gate's columns, then with the value's. -/
def scr (x0 : S1x336x4096.Idx → BitVec 32) (x1 x2 : S4096x512.Idx → EReal) : S2x672x512.Idx → EReal :=
  fun y => ∑ k : Fin 4096, brow x0 (y 1) k * (if (y 0).val = 0 then x1 else x2) (ix2 k (y 2))

/-- A load of the rows' words reads them. -/
theorem ld_rows (x : S1x336x4096.Idx → BitVec 32) (inb) :
    View.ld (Val := Elt Ideal) (e' := .i32) x (Rect.unit (s := S1x336x4096) ![0, 0, 0] ![1, 336, 4096] inb) = x := by
  funext y
  refine congrArg x ((eq_ix3 _).trans (Eq.trans ?_ (eq_ix3 y).symm))
  congr 1
  · exact Fin.ext (show 0 + 1 * (y 0).val = (y 0).val by omega)
  · exact Fin.ext (show 0 + 1 * (y 1).val = (y 1).val by omega)
  · exact Fin.ext (show 0 + 1 * (y 2).val = (y 2).val by omega)

/-- A product stored in half `h` of a kept buffer, at the 256 columns from column `o`, is the buffer's part there. -/
theorem scr_piece (x0 : S1x336x4096.Idx → BitVec 32) (x1 x2 w : S4096x512.Idx → EReal) (h o : ℕ) (inb) (inbw)
    (hw : (if h = 0 then x1 else x2) = w) (x : S1x672x256.Idx) :
    k0_pay27 (F := Ideal) (k0_pay6 x0)
        (View.ld (Val := Elt Ideal) (e' := .bf16) w (Rect.unit (s := S4096x512) ![0, o] ![4096, 256] inbw)) x
      = scr x0 x1 x2 ((Rect.unit (s := S2x672x512) ![h, 0, o] ![1, 672, 256] inb).emb x) := by
  refine (congrArg _ (eq_ix3 x)).trans ((pay27_at _ _ _ _ _).trans ?_)
  have x0' : (x 0).val < 1 := (x 0).isLt
  unfold scr
  refine Finset.sum_congr rfl fun k _ => congrArg₂ (· * ·) ?_ ?_
  · refine (pay6_at _ _ _).trans ?_
    exact congrArg (brow x0 · k) (Fin.ext (show (x 1).val = 0 + 1 * (x 1).val by omega))
  · rw [← hw]
    show (if h = 0 then x1 else x2) _ = (if h + 1 * (x 0).val = 0 then x1 else x2) _
    rw [show h + 1 * (x 0).val = h by omega]
    refine congrArg _ ((eq_ix2 _).trans ?_)
    congr 1
    exact Fin.ext (show 0 + 1 * k.val = k.val by omega)

end Cert.Up

end
-- ==== Proof.UpOut.lean ====
/-
  What the gated projection's body stores in each of its cases: the products in the buffer that the point fills, and, from
  the other buffer, the output's block.
-/
module

public import proofs.«01_k».proof.Proof.UpFrame
public import proofs.«01_k».proof.Proof.UpCells

@[expose] public section

set_option maxRecDepth 16384

noncomputable section

namespace Cert.Up

open Idealize.ShloMosaic Cert.Kernel5Ideal Cert.Kernel5Ideal.Gen

variable (c : Dev nD) (i : grid0.Coords)
  (arg1 : Memref sig .tc .vmem S1x336x4096 .i32) (harg1 : arg1.IsWhole)
  (arg2 : Memref sig .tc .vmem S4096x512 .bf16) (harg2 : arg2.IsWhole)
  (arg3 : Memref sig .tc .vmem S4096x512 .bf16) (harg3 : arg3.IsWhole)
  (arg4 : Memref sig .tc .vmem S3x512 .f32) (harg4 : arg4.IsWhole)
  (arg5 : Memref sig .tc .vmem S3x512 .f32) (harg5 : arg5.IsWhole)
  (arg6 : Memref sig .tc .vmem S640x512 .bf16) (harg6 : arg6.IsWhole)
  (arg7 : Memref sig .tc .vmem S2x672x512 .f32) (harg7 : arg7.IsWhole)
  (arg8 : Memref sig .tc .vmem S2x672x512 .f32) (harg8 : arg8.IsWhole)
  (x0 : Vec Ideal S1x336x4096 .i32) (x1 x2 : Vec Ideal S4096x512 .bf16) (x3 x4 : Vec Ideal S3x512 .f32)
  (xs : Vec Ideal S2x672x512 .f32)

/-- The first point fills the first buffer with its products. -/
theorem scr_A (hc0 : cond0_0 i) (hc1 : cond0_1 i) (hc2 : ¬cond0_2 i) :
    sout0_A_0 c i arg1 harg1 arg2 harg2 arg3 harg3 arg4 harg4 arg5 harg5 arg6 harg6 arg7 harg7 arg8 harg8 hc0 hc1 hc2 x0 x1 x2 x3 x4 = scr x0 x1 x2 := by
  unfold sout0_A_0
  rw [View.read_writes_eq_canon _ _ _ (scover0_A_0 c i arg1 harg1 arg2 harg2 arg3 harg3 arg4 harg4 arg5 harg5 arg6 harg6 arg7 harg7 arg8 harg8 hc0 hc1 hc2 x0 x1 x2 x3 x4)]
  funext y
  refine View.canon_apply_of_pieces (scr x0 x1 x2) _ ?_ y
    (scover0_A_0 c i arg1 harg1 arg2 harg2 arg3 harg3 arg4 harg4 arg5 harg5 arg6 harg6 arg7 harg7 arg8 harg8 hc0 hc1 hc2 x0 x1 x2 x3 x4 y)
  unfold kernelRun0_A
  dsimp only
  sl_unfold_words
  simp only [View.readAt_eq_ld, harg1.read_unread, harg2.read_unread, harg3.read_unread, harg4.read_unread, harg5.read_unread, ld_rows,
    pay_even.1, pay_even.2.1, pay_even.2.2]
  simp only [List.forall_mem_cons]
  refine ⟨?_, ?_, ?_, ?_, fun p hp => absurd hp List.not_mem_nil⟩
  all_goals exact scr_piece x0 x1 x2 _ _ _ _ _ rfl

/-- An odd point fills the second buffer with its products. -/
theorem scr_B (hc0 : ¬cond0_0 i) (hc1 : ¬cond0_1 i) (hc2 : cond0_2 i) :
    sout0_B_1 c i arg1 harg1 arg2 harg2 arg3 harg3 arg4 harg4 arg5 harg5 arg6 harg6 arg7 harg7 arg8 harg8 hc0 hc1 hc2 x0 x1 x2 x3 x4 xs = scr x0 x1 x2 := by
  unfold sout0_B_1
  rw [View.read_writes_eq_canon _ _ _ (scover0_B_1 c i arg1 harg1 arg2 harg2 arg3 harg3 arg4 harg4 arg5 harg5 arg6 harg6 arg7 harg7 arg8 harg8 hc0 hc1 hc2 x0 x1 x2 x3 x4 xs)]
  funext y
  refine View.canon_apply_of_pieces (scr x0 x1 x2) _ ?_ y
    (scover0_B_1 c i arg1 harg1 arg2 harg2 arg3 harg3 arg4 harg4 arg5 harg5 arg6 harg6 arg7 harg7 arg8 harg8 hc0 hc1 hc2 x0 x1 x2 x3 x4 xs y)
  unfold kernelRun0_B
  dsimp only
  sl_unfold_words
  simp only [View.readAt_eq_ld, harg1.read_unread, harg2.read_unread, harg3.read_unread, harg4.read_unread, harg5.read_unread, ld_rows,
    pay_odd.1, pay_odd.2.1, pay_odd.2.2.1, pay_odd.2.2.2.1, pay_odd.2.2.2.2]
  simp only [List.forall_mem_cons]
  refine ⟨?_, ?_, ?_, ?_, fun p hp => absurd hp List.not_mem_nil⟩
  all_goals exact scr_piece x0 x1 x2 _ _ _ _ _ rfl

/-- An even point fills the first buffer with its products. -/
theorem scr_C (hc0 : ¬cond0_0 i) (hc1 : cond0_1 i) (hc2 : ¬cond0_2 i) :
    sout0_C_0 c i arg1 harg1 arg2 harg2 arg3 harg3 arg4 harg4 arg5 harg5 arg6 harg6 arg7 harg7 arg8 harg8 hc0 hc1 hc2 x0 x1 x2 x3 x4 xs = scr x0 x1 x2 := by
  unfold sout0_C_0
  rw [View.read_writes_eq_canon _ _ _ (scover0_C_0 c i arg1 harg1 arg2 harg2 arg3 harg3 arg4 harg4 arg5 harg5 arg6 harg6 arg7 harg7 arg8 harg8 hc0 hc1 hc2 x0 x1 x2 x3 x4 xs)]
  funext y
  refine View.canon_apply_of_pieces (scr x0 x1 x2) _ ?_ y
    (scover0_C_0 c i arg1 harg1 arg2 harg2 arg3 harg3 arg4 harg4 arg5 harg5 arg6 harg6 arg7 harg7 arg8 harg8 hc0 hc1 hc2 x0 x1 x2 x3 x4 xs y)
  unfold kernelRun0_C
  dsimp only
  sl_unfold_words
  simp only [View.readAt_eq_ld, harg1.read_unread, harg2.read_unread, harg3.read_unread, harg4.read_unread, harg5.read_unread, ld_rows,
    pay_even.1, pay_even.2.1, pay_even.2.2]
  simp only [List.forall_mem_cons]
  refine ⟨?_, ?_, ?_, ?_, fun p hp => absurd hp List.not_mem_nil⟩
  all_goals exact scr_piece x0 x1 x2 _ _ _ _ _ rfl

/-- An odd point stores the output's block from the first buffer. -/
theorem out_B (hc0 : ¬cond0_0 i) (hc1 : ¬cond0_1 i) (hc2 : cond0_2 i) :
    out0_B_5 c i arg1 harg1 arg2 harg2 arg3 harg3 arg4 harg4 arg5 harg5 arg6 harg6 arg7 harg7 arg8 harg8 hc0 hc1 hc2 x0 x1 x2 x3 x4 xs = outv x3 x4 xs := by
  unfold out0_B_5
  rw [View.read_writes_eq_canon _ _ _ (cover0_B_5 c i arg1 harg1 arg2 harg2 arg3 harg3 arg4 harg4 arg5 harg5 arg6 harg6 arg7 harg7 arg8 harg8 hc0 hc1 hc2 x0 x1 x2 x3 x4 xs)]
  funext y
  refine View.canon_apply_of_pieces (outv x3 x4 xs) _ ?_ y
    (cover0_B_5 c i arg1 harg1 arg2 harg2 arg3 harg3 arg4 harg4 arg5 harg5 arg6 harg6 arg7 harg7 arg8 harg8 hc0 hc1 hc2 x0 x1 x2 x3 x4 xs y)
  unfold kernelRun0_B
  dsimp only
  sl_unfold_words
  simp only [View.readAt_eq_ld, harg1.read_unread, harg2.read_unread, harg3.read_unread, harg4.read_unread, harg5.read_unread,
    harg7.read_unread]
  simp only [List.forall_mem_cons]
  refine ⟨?_, ?_, ?_, ?_, ?_, ?_, ?_, ?_, ?_, ?_, ?_, ?_, ?_, ?_, ?_, ?_, ?_, ?_, ?_, ?_, fun p hp => absurd hp List.not_mem_nil⟩
  all_goals
    refine forall_ix2 (fun a b => ?_)
    rw [outv_emb]
    unfold cell gate conv
    pointwise [k0_pay2, k0_pay3, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106,
      k0_pay107, k0_pay108, k0_pay109, k0_pay110, k0_pay111, k0_pay112, k0_pay113, k0_pay114, k0_pay115,
      k0_pay116, k0_pay117, k0_pay118, k0_pay119, k0_pay120, k0_pay121, k0_pay122, k0_pay123, k0_pay124,
      k0_pay125, k0_pay126, k0_pay127, k0_pay128, k0_pay129, k0_pay130, k0_pay131, k0_pay132, k0_pay133,
      k0_pay134, k0_pay135, k0_pay136, k0_pay137, k0_pay138, k0_pay139, k0_pay140, k0_pay141, k0_pay142,
      k0_pay143, k0_pay144, k0_pay145, k0_pay146, k0_pay147, k0_pay148, k0_pay149, k0_pay150, k0_pay151,
      k0_pay152, k0_pay153]
    simp only [eq_rd xs, Fin.isValue, Fin.val_zero, Fin.val_one, ← Nat.add_assoc, Nat.reduceAdd]

/-- An even point stores the output's block from the second buffer. -/
theorem out_C (hc0 : ¬cond0_0 i) (hc1 : cond0_1 i) (hc2 : ¬cond0_2 i) :
    out0_C_5 c i arg1 harg1 arg2 harg2 arg3 harg3 arg4 harg4 arg5 harg5 arg6 harg6 arg7 harg7 arg8 harg8 hc0 hc1 hc2 x0 x1 x2 x3 x4 xs = outv x3 x4 xs := by
  unfold out0_C_5
  rw [View.read_writes_eq_canon _ _ _ (cover0_C_5 c i arg1 harg1 arg2 harg2 arg3 harg3 arg4 harg4 arg5 harg5 arg6 harg6 arg7 harg7 arg8 harg8 hc0 hc1 hc2 x0 x1 x2 x3 x4 xs)]
  funext y
  refine View.canon_apply_of_pieces (outv x3 x4 xs) _ ?_ y
    (cover0_C_5 c i arg1 harg1 arg2 harg2 arg3 harg3 arg4 harg4 arg5 harg5 arg6 harg6 arg7 harg7 arg8 harg8 hc0 hc1 hc2 x0 x1 x2 x3 x4 xs y)
  unfold kernelRun0_C
  dsimp only
  sl_unfold_words
  simp only [View.readAt_eq_ld, harg1.read_unread, harg2.read_unread, harg3.read_unread, harg4.read_unread, harg5.read_unread,
    harg8.read_unread]
  simp only [List.forall_mem_cons]
  refine ⟨?_, ?_, ?_, ?_, ?_, ?_, ?_, ?_, ?_, ?_, ?_, ?_, ?_, ?_, ?_, ?_, ?_, ?_, ?_, ?_, fun p hp => absurd hp List.not_mem_nil⟩
  all_goals
    refine forall_ix2 (fun a b => ?_)
    rw [outv_emb]
    unfold cell gate conv
    pointwise [k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22,
      k0_pay23, k0_pay24, k0_pay25, k0_pay26, k0_pay27, k0_pay28, k0_pay29, k0_pay30, k0_pay31, k0_pay32,
      k0_pay33, k0_pay34, k0_pay35, k0_pay36, k0_pay37, k0_pay38, k0_pay39, k0_pay40, k0_pay41, k0_pay42,
      k0_pay43, k0_pay44, k0_pay45, k0_pay46, k0_pay47, k0_pay48, k0_pay49, k0_pay50, k0_pay51, k0_pay52,
      k0_pay53, k0_pay54, k0_pay55, k0_pay56, k0_pay57, k0_pay58, k0_pay59, k0_pay60, k0_pay61, k0_pay62,
      k0_pay63, k0_pay64, k0_pay65, k0_pay66, k0_pay67, k0_pay68, k0_pay69, k0_pay70, k0_pay71, k0_pay72,
      k0_pay73, k0_pay74, k0_pay75, k0_pay76, k0_pay77, k0_pay78]
    simp only [eq_rd xs, Fin.isValue, Fin.val_zero, Fin.val_one, ← Nat.add_assoc, Nat.reduceAdd]

end Cert.Up

end
-- ==== Proof.UpKept.lean ====
/-
  The gated projection's two kept buffers alternate: after each point, one holds the point's products, and the next point
  stores the output's block from it.
-/
module

public import proofs.«01_k».proof.Proof.UpOut

@[expose] public section

set_option maxRecDepth 16384

noncomputable section

namespace Cert.Up

open Idealize.ShloMosaic Cert.Kernel5Ideal Cert.Kernel5Ideal.Gen

variable (m : (ℓ : Loc nD τ sig) → Buf (Elt Ideal) ℓ) (c : Dev nD)

/-- A point's products. -/
def products (t : Fin cfg0.N) : S2x672x512.Idx → EReal := scr (iblk m c 0 t) (X0_1 m c t) (X0_2 m c t)

/-- The first component of a triple. -/
theorem first_of {α β γ : Type} {p : α × β × γ} {x : α} {y : β} {z : γ} (h : p = (x, y, z)) : p.1 = x := by rw [h]

/-- The second component of a triple. -/
theorem second_of {α β γ : Type} {p : α × β × γ} {x : α} {y : β} {z : γ} (h : p = (x, y, z)) : p.2.1 = y := by rw [h]

/-- The third component of a triple. -/
theorem third_of {α β γ : Type} {p : α × β × γ} {x : α} {y : β} {z : γ} (h : p = (x, y, z)) : p.2.2 = z := by rw [h]

/-- After an even point, the first buffer holds its products. -/
theorem kept_even (t : Fin cfg0.N) (h1 : t.val % 2 = 0) : (outsAt0 m c t.val t.isLt).2.1 = products m c t := by
  have h2 : ¬t.val % 2 = 1 := by omega
  unfold products
  by_cases h0 : t.val % 1093 = 0
  · refine (second_of (outsAt0_A m c t h0 h1 h2)).trans ?_
    exact scr_A c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _)
      (iblk m c 0 t) (X0_1 m c t) (X0_2 m c t) (X0_3 m c t) (X0_4 m c t)
      ((hcond0_0 t).mpr h0) ((hcond0_1 t).mpr h1) (fun h => h2 ((hcond0_2 t).mp h))
  · refine (second_of (outsAt0_C m c t h0 h1 h2)).trans ?_
    exact scr_C c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _)
      (iblk m c 0 t) (X0_1 m c t) (X0_2 m c t) (X0_3 m c t) (X0_4 m c t)
      (outsAt0 m c (t.val - 1) (Nat.lt_of_le_of_lt (Nat.sub_le _ _) t.isLt)).2.2
      (fun h => h0 ((hcond0_0 t).mp h)) ((hcond0_1 t).mpr h1) (fun h => h2 ((hcond0_2 t).mp h))

/-- After an odd point, the second buffer holds its products. -/
theorem kept_odd (t : Fin cfg0.N) (h2 : t.val % 2 = 1) : (outsAt0 m c t.val t.isLt).2.2 = products m c t := by
  have hN : t.val < 1093 := lt_of_lt_of_eq t.isLt N_0
  have h0 : ¬t.val % 1093 = 0 := by omega
  have h1 : ¬t.val % 2 = 0 := by omega
  unfold products
  refine (third_of (outsAt0_B m c t h0 h1 h2)).trans ?_
  exact scr_B c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _)
      (iblk m c 0 t) (X0_1 m c t) (X0_2 m c t) (X0_3 m c t) (X0_4 m c t)
      (outsAt0 m c (t.val - 1) (Nat.lt_of_le_of_lt (Nat.sub_le _ _) t.isLt)).2.1
      (fun h => h0 ((hcond0_0 t).mp h)) (fun h => h1 ((hcond0_1 t).mp h)) ((hcond0_2 t).mpr h2)

/-- What a point after the first stores in the output's block: computed from the products of the point before it. -/
theorem stored (t s : Fin cfg0.N) (hs : s.val = t.val - 1) (ht : 1 ≤ t.val) :
    (outsAt0 m c t.val t.isLt).1 = outv (X0_3 m c t) (X0_4 m c t) (products m c s) := by
  have hN : t.val < 1093 := lt_of_lt_of_eq t.isLt N_0
  have h0 : ¬t.val % 1093 = 0 := by omega
  obtain rfl : s = ⟨t.val - 1, Nat.lt_of_le_of_lt (Nat.sub_le _ _) t.isLt⟩ := Fin.ext hs
  by_cases h1 : t.val % 2 = 0
  · have h2 : ¬t.val % 2 = 1 := by omega
    rw [← kept_odd m c ⟨t.val - 1, _⟩ (show (t.val - 1) % 2 = 1 by omega)]
    refine (first_of (outsAt0_C m c t h0 h1 h2)).trans ?_
    exact out_C c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _)
      (iblk m c 0 t) (X0_1 m c t) (X0_2 m c t) (X0_3 m c t) (X0_4 m c t)
      (outsAt0 m c (t.val - 1) (Nat.lt_of_le_of_lt (Nat.sub_le _ _) t.isLt)).2.2
      (fun h => h0 ((hcond0_0 t).mp h)) ((hcond0_1 t).mpr h1) (fun h => h2 ((hcond0_2 t).mp h))
  · have h2 : t.val % 2 = 1 := by omega
    rw [← kept_even m c ⟨t.val - 1, _⟩ (show (t.val - 1) % 2 = 0 by omega)]
    refine (first_of (outsAt0_B m c t h0 h1 h2)).trans ?_
    exact out_B c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _)
      (iblk m c 0 t) (X0_1 m c t) (X0_2 m c t) (X0_3 m c t) (X0_4 m c t)
      (outsAt0 m c (t.val - 1) (Nat.lt_of_le_of_lt (Nat.sub_le _ _) t.isLt)).2.1
      (fun h => h0 ((hcond0_0 t).mp h)) (fun h => h1 ((hcond0_1 t).mp h)) ((hcond0_2 t).mpr h2)

end Cert.Up

end
-- ==== Proof.UpIndex.lean ====
/-
  Where the gated projection's blocks lie at each grid point.
-/
module

public import proofs.«01_k».proof.Proof.UpFrame

@[expose] public section

set_option maxRecDepth 16384

noncomputable section

namespace Cert.Up

open Idealize.ShloMosaic Idealize.ShloMosaic.Pipeline Cert.Kernel5Ideal Cert.Kernel5Ideal.Gen

/-- The rows' block at a grid point: its panel. -/
theorem index0 : ∀ t : Fin cfg0.N, win0_0.index t 0 = min t.val 1091 % 52 ∧ win0_0.index t 1 = 0 ∧ win0_0.index t 2 = 0 := by
  decide +kernel

/-- The gate's weights at a grid point: every row, its column block. -/
theorem index1 : ∀ t : Fin cfg0.N, win0_1.index t 0 = 0 ∧ win0_1.index t 1 = min t.val 1091 / 52 := by decide +kernel

/-- The value's weights at a grid point. -/
theorem index2 : ∀ t : Fin cfg0.N, win0_2.index t 0 = 0 ∧ win0_2.index t 1 = min t.val 1091 / 52 := by decide +kernel

/-- The gate's taps at a grid point: the column block of the point before. -/
theorem index3 : ∀ t : Fin cfg0.N, win0_3.index t 0 = 0 ∧ win0_3.index t 1 = (t.val - 1) / 52 := by decide +kernel

/-- The value's taps at a grid point. -/
theorem index4 : ∀ t : Fin cfg0.N, win0_4.index t 0 = 0 ∧ win0_4.index t 1 = (t.val - 1) / 52 := by decide +kernel

/-- The output's block at a grid point: that of the point before. -/
theorem index5 : ∀ t : Fin cfg0.N, win0_5.index t 0 = (t.val - 1) % 52 ∧ win0_5.index t 1 = (t.val - 1) / 52 := by
  decide +kernel

/-- The output's block is written back at every point but the first. -/
theorem flush5 : ∀ t : Fin cfg0.N, (cfg0.win 5).flush t = decide (1 ≤ t.val) := by decide +kernel

/-- No block of the output that a grid point reaches is cut. -/
theorem xsize5 : ∀ t : Fin cfg0.N, ∀ a, (cfg0.win 5).xsize (cfg0.grid.coords t) a = (cfg0.win 5).size a := by decide +kernel

end Cert.Up

end
-- ==== Proof.UpRef.lean ====
/-
  The reference of the gated projection, read at an entry.
-/
module

public import proofs.«01_k».proof.Proof.UpSpec
public import proofs.«01_k».proof.Proof.Gen.Reference5Ideal.Read
public import Idealize.ShloMosaic.Lib.BitcastConvert
public import Idealize.ShloMosaic.Lib.KernelVsHost
public import Idealize.ShloMosaic.Lib.IdealHost

@[expose] public section

noncomputable section

open scoped BigOperators

namespace Cert.Up

open Idealize.ShloMosaic Cert.Reference5Ideal Cert.Reference5Ideal.Read

/-- Row `r` of panel `p`, unpacked. -/
def row (X : S52x336x4096.Idx → BitVec 32) (p : Fin 52) (r : Fin 672) (k : Fin 4096) : EReal :=
  half (X (ix3 p ⟨r.val / 2, by omega⟩ k)) r.val

/-- The projection of row `r` of panel `p` onto column `s`. -/
def proj (X : S52x336x4096.Idx → BitVec 32) (W : S4096x22016.Idx → EReal) (p : Fin 52) (r : Fin 672) (s : Fin 22016) : EReal :=
  ∑ k : Fin 4096, row X p r k * W (ix2 k s)

/-- The reference's projection, at an entry. -/
theorem ref_proj (X : S52x336x4096.Idx → BitVec 32) (W : S4096x22016.Idx → EReal) (p : Fin 52) (r : Fin 672) (s : Fin 22016) :
    val_main_v4 (F := Ideal) X W (ix3 p r s) = proj X W p r s := by
  rw [val_main_v4_apply]
  refine Finset.sum_congr rfl fun k _ => congrArg₂ (· * ·) ?_ (congrArg W (eq_ix2 _))
  rw [val_main_v3_apply, val_main_v2_apply, val_main_v1_apply]
  unfold val_main_v0 row half
  show Ideal.ofBits .bf16 (Host.bitcastConvertNarrow _ _ _ _ _) = _
  rw [Host.bitcastConvertNarrow_apply]
  have hp : p.val < 52 := p.isLt
  have hr : r.val < 672 := r.isLt
  have hk : k.val < 4096 := k.isLt
  have e : ((p.val * 672 + r.val) * 4096 + k.val) / 4096 % 2 = r.val % 2 := by omega
  show Ideal.ofBits .bf16 (BitVec.extractLsb' (((p.val * 672 + r.val) * 4096 + k.val) / 4096 % 2 * 16) 16 (X _)) = _
  rw [e, Nat.mul_comm]
  refine congrArg (fun w => Ideal.ofBits .bf16 (BitVec.extractLsb' (16 * (r.val % 2)) 16 w)) (congrArg X ?_)
  refine (eq_ix3 _).trans (congr (congrArg₂ ix3 (Fin.ext ?_) (Fin.ext ?_)) (Fin.ext ?_))
  · show ((p.val * 672 + r.val) * 4096 + k.val) / 2752512 = p.val
    omega
  · show ((p.val * 672 + r.val) * 4096 + k.val) / 8192 % 336 = r.val / 2
    omega
  · show ((p.val * 672 + r.val) * 4096 + k.val) % 4096 = k.val
    omega

/-- The padded projection at an inner row is the projection one row before. -/
theorem ref_pad (X : S52x336x4096.Idx → BitVec 32) (W : S4096x22016.Idx → EReal) (i : S52x674x22016.Idx)
    (p : Fin 52) (r : Fin 672) (s : Fin 22016) (h0 : (i 0).val = p.val) (h1 : (i 1).val = r.val + 1) (h2 : (i 2).val = s.val) :
    val_main_v5 (F := Ideal) X W i = proj X W p r s := by
  rw [← ref_proj]
  unfold val_main_v5
  refine pad_apply_of_inside _ _ _ _ _ _ _ _ (ix3 p r s) fun a => ?_
  match a with
  | ⟨0, _⟩ => show (i 0).val = 0 + p.val * 1; omega
  | ⟨1, _⟩ => show (i 1).val = 1 + r.val * 1; omega
  | ⟨2, _⟩ => show (i 2).val = 0 + s.val * 1; omega

/-- The reference's convolution at a row that has both neighbours. -/
theorem ref_conv (X : S52x336x4096.Idx → BitVec 32) (W : S4096x22016.Idx → EReal) (K : S3x22016.Idx → EReal)
    (i : S52x672x22016.Idx) (p : Fin 52) (r0 r1 r2 : Fin 672) (s : Fin 22016) (h0 : (i 0).val = p.val)
    (h1 : (i 1).val = r1.val) (h2 : (i 2).val = s.val) (e0 : r0.val + 1 = r1.val) (e2 : r1.val + 1 = r2.val) :
    val_main_v25 (F := Ideal) X W K i
      = conv (K (ix2 0 s)) (K (ix2 1 s)) (K (ix2 2 s)) (proj X W p r0 s) (proj X W p r1 s) (proj X W p r2 s) := by
  have hs : s.val < 22016 := s.isLt
  rw [val_main_v25_apply, val_main_v18_apply, val_main_v11_apply, val_main_v17_apply, val_main_v24_apply,
    val_main_v10_apply, val_main_v9_apply, val_main_v7_apply, val_main_v6_apply, val_main_v8_apply,
    val_main_v16_apply, val_main_v15_apply, val_main_v13_apply, val_main_v12_apply, val_main_v14_apply,
    val_main_v23_apply, val_main_v22_apply, val_main_v20_apply, val_main_v19_apply, val_main_v21_apply]
  rw [ref_pad X W (idx_main_v8 i) p r0 s h0 (by show (i 1).val = _; omega) h2,
    ref_pad X W (idx_main_v14 i) p r1 s h0 (by show 1 + (i 1).val = _; omega) h2,
    ref_pad X W (idx_main_v21 i) p r2 s h0 (by show 2 + (i 1).val = _; omega) h2]
  unfold conv
  refine congrArg₂ (· + ·) (congrArg₂ (· + ·) ?_ ?_) ?_ <;> refine congrArg (· * _) (congrArg K ?_)
  all_goals
    refine (eq_ix2 _).trans (congrArg₂ ix2 (Fin.ext ?_) (Fin.ext ?_))
    · rfl
    · show (i 2).val % 22016 = s.val
      omega

/-- The reference's output, read at an entry. -/
theorem ref_at (X : S52x336x4096.Idx → BitVec 32) (W : S4096x22016.Idx → EReal) (K : S3x22016.Idx → EReal)
    (i : S33280x11008.Idx) (p : Fin 52) (r0 r1 r2 : Fin 672) (s s' : Fin 22016) (hp : (i 0).val / 640 = p.val)
    (h1 : (i 0).val % 640 + 16 = r1.val) (e0 : r0.val + 1 = r1.val) (e2 : r1.val + 1 = r2.val) (hs : (i 1).val = s.val)
    (hs' : (i 1).val + 11008 = s'.val) :
    val_main_v32 (F := Ideal) X W K i
      = gate (conv (K (ix2 0 s)) (K (ix2 1 s)) (K (ix2 2 s)) (proj X W p r0 s) (proj X W p r1 s) (proj X W p r2 s))
          (conv (K (ix2 0 s')) (K (ix2 1 s')) (K (ix2 2 s')) (proj X W p r0 s') (proj X W p r1 s') (proj X W p r2 s')) := by
  have i0 : (i 0).val < 33280 := (i 0).isLt
  have i1 : (i 1).val < 11008 := (i 1).isLt
  rw [val_main_v32_apply, val_main_v31_apply, val_main_v30_apply, val_main_v29_apply, val_main_v28_apply,
    val_main_v26_apply, val_main_v27_apply, val_main_call1_v5_apply, val_main_call1_v4_apply, val_main_call1_v3_apply,
    val_main_call1_v2_apply, val_main_call1_v1_apply, val_main_call1_v0_apply, val_main_v26_apply,
    val_main_call1_cst_apply, val_main_call1_cst_0_apply]
  have a0 : ((i 0).val * 11008 + (i 1).val) / 7045120 = p.val := by omega
  have a1 : 16 + ((i 0).val * 11008 + (i 1).val) / 11008 % 640 = r1.val := by omega
  have a2 : ((i 0).val * 11008 + (i 1).val) % 11008 = s.val := by omega
  have a2' : 11008 + ((i 0).val * 11008 + (i 1).val) % 11008 = s'.val := by omega
  rw [ref_conv X W K (idx_main_v26 (idx_main_v30 (idx_main_v31 i))) p r0 r1 r2 s a0 a1 a2 e0 e2,
    ref_conv X W K (idx_main_v27 (idx_main_v30 (idx_main_v31 i))) p r0 r1 r2 s' a0 a1 a2' e0 e2]
  unfold gate
  rw [zero_sub]
  have one : (FloatOps.ofBits (F := Ideal) .f32 0x3F800000#32 : EReal) = 1 := Idealize.ShloMosaic.Ideal.ofBits_one_f32
  rw [one]
  rfl

end Cert.Up

end
-- ==== Proof.UpArr.lean ====
/-
  The blocks the gated projection's grid points read and write, as parts of the arrays.
-/
module

public import proofs.«01_k».proof.Proof.UpKept
public import proofs.«01_k».proof.Proof.UpIndex
public import proofs.«01_k».proof.Proof.UpRef
public import Idealize.ShloMosaic.Lib.Pipeline.ValueKit.Basic
public import Idealize.ShloMosaic.Lib.Pipeline.Value

@[expose] public section

set_option maxRecDepth 16384

noncomputable section

open scoped BigOperators

namespace Cert.Up

open Idealize.ShloMosaic Idealize.ShloMosaic.Pipeline Cert.Kernel5Ideal Cert.Kernel5Ideal.Gen

variable (m : (ℓ : Loc nD τ sig) → Buf (Elt Ideal) ℓ) (c : Dev nD)

/-- The packed rows a device is launched with. -/
def argX : S52x336x4096.Idx → BitVec 32 := m (c.tc.loc main_arg0)

/-- The weights it is launched with. -/
def argW : S4096x22016.Idx → EReal := m (c.tc.loc main_arg1)

/-- The taps it is launched with. -/
def argK : S3x22016.Idx → EReal := m (c.tc.loc main_arg2)

/-- 4096 rows' columns from a given one, read at an entry. -/
theorem sliceW_at (x : S4096x22016.Idx → EReal) (o : ℕ) (h) (y : S4096x11008.Idx) (k : Fin 4096) (s : Fin 22016)
    (hk : (y 0).val = k.val) (hs : s.val = o + (y 1).val) :
    extractStridedSlice (s := S4096x22016) S4096x11008 ![0, o] x h y = x (ix2 k s) := by
  refine congrArg x ((eq_ix2 _).trans (congrArg₂ ix2 (Fin.ext ?_) (Fin.ext ?_)))
  · show 0 + (y 0).val = k.val
    omega
  · exact hs.symm

/-- 3 rows' columns from a given one, read at an entry. -/
theorem sliceK_at (x : S3x22016.Idx → EReal) (o : ℕ) (h) (y : S3x11008.Idx) (k : Fin 3) (s : Fin 22016)
    (hk : (y 0).val = k.val) (hs : s.val = o + (y 1).val) :
    extractStridedSlice (s := S3x22016) S3x11008 ![0, o] x h y = x (ix2 k s) := by
  refine congrArg x ((eq_ix2 _).trans (congrArg₂ ix2 (Fin.ext ?_) (Fin.ext ?_)))
  · show 0 + (y 0).val = k.val
    omega
  · exact hs.symm

/-- The host code's weights of the gate: the first half of the columns. -/
theorem V_main_v1 (y : S4096x11008.Idx) (k : Fin 4096) (s : Fin 22016) (hk : (y 0).val = k.val)
    (hs : s.val = 0 + (y 1).val) : (V m c main_v1 : S4096x11008.Idx → EReal) y = argW m c (ix2 k s) := by
  unfold V
  simp only [hostOps0]
  after_results
  exact sliceW_at (argW m c) 0 Facts₀.slices_S4096x22016_S4096x11008_0_0 y k s hk hs

/-- The host code's weights of the value: the second half of the columns. -/
theorem V_main_v3 (y : S4096x11008.Idx) (k : Fin 4096) (s : Fin 22016) (hk : (y 0).val = k.val)
    (hs : s.val = 11008 + (y 1).val) : (V m c main_v3 : S4096x11008.Idx → EReal) y = argW m c (ix2 k s) := by
  unfold V
  simp only [hostOps0]
  after_results
  exact sliceW_at (argW m c) 11008 Facts₀.slices_S4096x22016_S4096x11008_0_11008 y k s hk hs

/-- The host code's taps of the gate. -/
theorem V_main_v4 (y : S3x11008.Idx) (k : Fin 3) (s : Fin 22016) (hk : (y 0).val = k.val)
    (hs : s.val = 0 + (y 1).val) : (V m c main_v4 : S3x11008.Idx → EReal) y = argK m c (ix2 k s) := by
  unfold V
  simp only [hostOps0]
  after_results
  exact sliceK_at (argK m c) 0 _ y k s hk hs

/-- The host code's taps of the value. -/
theorem V_main_v5 (y : S3x11008.Idx) (k : Fin 3) (s : Fin 22016) (hk : (y 0).val = k.val)
    (hs : s.val = 11008 + (y 1).val) : (V m c main_v5 : S3x11008.Idx → EReal) y = argK m c (ix2 k s) := by
  unfold V
  simp only [hostOps0]
  after_results
  exact sliceK_at (argK m c) 11008 _ y k s hk hs

/-- The rows' block of a grid point, at an entry. -/
theorem X0_at (t : Fin cfg0.N) (p : Fin 52) (hp : min t.val 1091 % 52 = p.val) (r : Fin 336) (k : Fin 4096) :
    (iblk m c 0 t : S1x336x4096.Idx → BitVec 32) (ix3 0 r k) = argX m c (ix3 p r k) := by
  obtain ⟨i0, i1, i2⟩ := index0 t
  unfold iblk
  rw [View.read_apply]
  show V m c main_arg0 _ = _
  rw [Gen.V_main_arg0]
  refine congrArg (argX m c) ((eq_ix3 _).trans ?_)
  congr 1
  · refine Fin.ext ?_
    show win0_0.index t 0 * 1 + 1 * 0 = p.val
    omega
  · refine Fin.ext ?_
    show win0_0.index t 1 * 336 + 1 * r.val = r.val
    omega
  · refine Fin.ext ?_
    show win0_0.index t 2 * 4096 + 1 * k.val = k.val
    omega

/-- The gate's weights of a grid point, at an entry. -/
theorem X1_at (t : Fin cfg0.N) (k : Fin 4096) (b : Fin 512) (s : Fin 22016)
    (hs : s.val = 0 + (min t.val 1091 / 52 * 512 + b.val)) :
    (X0_1 m c t : S4096x512.Idx → EReal) (ix2 k b) = argW m c (ix2 k s) := by
  obtain ⟨i0, i1⟩ := index1 t
  unfold X0_1 Pipeline.Window.fill
  rw [dif_pos (moved0_1 t _)]
  unfold iblk
  rw [View.read_apply]
  refine V_main_v1 m c _ k s ?_ (hs.trans (congrArg (0 + ·) ?_))
  · show win0_1.index t 0 * 4096 + 1 * k.val = k.val
    omega
  · show _ = win0_1.index t 1 * 512 + 1 * b.val
    omega

/-- The value's weights of a grid point, at an entry. -/
theorem X2_at (t : Fin cfg0.N) (k : Fin 4096) (b : Fin 512) (s : Fin 22016)
    (hs : s.val = 11008 + (min t.val 1091 / 52 * 512 + b.val)) :
    (X0_2 m c t : S4096x512.Idx → EReal) (ix2 k b) = argW m c (ix2 k s) := by
  obtain ⟨i0, i1⟩ := index2 t
  unfold X0_2 Pipeline.Window.fill
  rw [dif_pos (moved0_2 t _)]
  unfold iblk
  rw [View.read_apply]
  refine V_main_v3 m c _ k s ?_ (hs.trans (congrArg (11008 + ·) ?_))
  · show win0_2.index t 0 * 4096 + 1 * k.val = k.val
    omega
  · show _ = win0_2.index t 1 * 512 + 1 * b.val
    omega

/-- The gate's taps of a grid point, at an entry. -/
theorem X3_at (t : Fin cfg0.N) (k : Fin 3) (b : Fin 512) (s : Fin 22016)
    (hs : s.val = 0 + ((t.val - 1) / 52 * 512 + b.val)) :
    (X0_3 m c t : S3x512.Idx → EReal) (ix2 k b) = argK m c (ix2 k s) := by
  obtain ⟨i0, i1⟩ := index3 t
  unfold X0_3 Pipeline.Window.fill
  rw [dif_pos (moved0_3 t _)]
  unfold iblk
  rw [View.read_apply]
  refine V_main_v4 m c _ k s ?_ (hs.trans (congrArg (0 + ·) ?_))
  · show win0_3.index t 0 * 3 + 1 * k.val = k.val
    omega
  · show _ = win0_3.index t 1 * 512 + 1 * b.val
    omega

/-- The value's taps of a grid point, at an entry. -/
theorem X4_at (t : Fin cfg0.N) (k : Fin 3) (b : Fin 512) (s : Fin 22016)
    (hs : s.val = 11008 + ((t.val - 1) / 52 * 512 + b.val)) :
    (X0_4 m c t : S3x512.Idx → EReal) (ix2 k b) = argK m c (ix2 k s) := by
  obtain ⟨i0, i1⟩ := index4 t
  unfold X0_4 Pipeline.Window.fill
  rw [dif_pos (moved0_4 t _)]
  unfold iblk
  rw [View.read_apply]
  refine V_main_v5 m c _ k s ?_ (hs.trans (congrArg (11008 + ·) ?_))
  · show win0_4.index t 0 * 3 + 1 * k.val = k.val
    omega
  · show _ = win0_4.index t 1 * 512 + 1 * b.val
    omega

end Cert.Up

end
-- ==== Proof.Up.lean ====
/-
  The gated projection: the kernel's output array is the reference's at every column the call writes.
-/
module

public import proofs.«01_k».proof.Defs
public import proofs.«01_k».proof.Proof.UpArr
public import proofs.«01_k».proof.Proof.Gen.Reference5Ideal.Run
public import proofs.«01_k».proof.Proof.Gen.On_columns_written
public import Idealize.ShloMosaic.Adequacy
public import Idealize.ShloMosaic.Init

@[expose] public section

set_option maxRecDepth 16384

noncomputable section

open scoped BigOperators

namespace Cert.Up

open Idealize.ShloMosaic Idealize.ShloMosaic.Pipeline Idealize.SL.Sem Cert.Kernel5Ideal Cert.Kernel5Ideal.Gen

variable (m : (ℓ : Loc nD τ sig) → Buf (Elt Ideal) ℓ) (c : Dev nD)

/-- A grid point's products, at an entry: its panel's row times a column of the weights. -/
theorem products_at (t : Fin cfg0.N) (ht : t.val ≤ 1091) (p : Fin 52) (hp : t.val % 52 = p.val) (h : Fin 2) (r : Fin 672)
    (b : Fin 512) (s : Fin 22016) (hs : s.val = h.val * 11008 + (t.val / 52 * 512 + b.val)) :
    products m c t (ix3 h r b) = proj (argX m c) (argW m c) p r s := by
  have hm : min t.val 1091 = t.val := Nat.min_eq_left ht
  unfold products scr proj
  refine Finset.sum_congr rfl fun k _ => congrArg₂ (· * ·) ?_ ?_
  · exact congrArg (half · r.val) (X0_at m c t p (by rw [hm]; exact hp) _ k)
  · show (if h.val = 0 then X0_1 m c t else X0_2 m c t : S4096x512.Idx → EReal) (ix2 k b) = _
    by_cases h0 : h.val = 0
    · rw [if_pos h0]
      exact X1_at m c t k b s (by rw [hm]; omega)
    · rw [if_neg h0]
      exact X2_at m c t k b s (by rw [hm]; omega)

/-- A kept buffer read by numbers, at coordinates. -/
theorem rd_of (P : S2x672x512.Idx → EReal) (h : Fin 2) (r : ℕ) (r' : Fin 672) (e : r = r'.val) (b : Fin 512) :
    rd P h.val r b = P (ix3 h r' b) := by
  subst e
  exact (eq_rd P h r'.val r'.isLt b).symm

/-- The output's entry a grid point computes, from the arrays. -/
theorem cell_at (t s : Fin cfg0.N) (hs : s.val = t.val - 1) (ht : 1 ≤ t.val) (n : ℕ) (b : Fin 512) (p : Fin 52)
    (hp : (t.val - 1) % 52 = p.val) (r0 r1 r2 : Fin 672) (e0 : 15 + n = r0.val) (e1 : 16 + n = r1.val)
    (e2 : 17 + n = r2.val) (g v : Fin 22016) (hg : g.val = 0 + ((t.val - 1) / 52 * 512 + b.val))
    (hv : v.val = 11008 + ((t.val - 1) / 52 * 512 + b.val)) :
    cell (X0_3 m c t) (X0_4 m c t) (products m c s) n b
      = gate (conv (argK m c (ix2 0 g)) (argK m c (ix2 1 g)) (argK m c (ix2 2 g)) (proj (argX m c) (argW m c) p r0 g)
            (proj (argX m c) (argW m c) p r1 g) (proj (argX m c) (argW m c) p r2 g))
          (conv (argK m c (ix2 0 v)) (argK m c (ix2 1 v)) (argK m c (ix2 2 v)) (proj (argX m c) (argW m c) p r0 v)
            (proj (argX m c) (argW m c) p r1 v) (proj (argX m c) (argW m c) p r2 v)) := by
  have hN : t.val < 1093 := lt_of_lt_of_eq t.isLt N_0
  have G : ∀ (n : ℕ) (r : Fin 672), n = r.val → rd (products m c s) 0 n b = proj (argX m c) (argW m c) p r g :=
    fun n r e => (rd_of _ 0 n r e b).trans
      (products_at m c s (by omega) p (by rw [hs]; exact hp) 0 r b g (by rw [hs, hg]; rfl))
  have W : ∀ (n : ℕ) (r : Fin 672), n = r.val → rd (products m c s) 1 n b = proj (argX m c) (argW m c) p r v :=
    fun n r e => (rd_of _ 1 n r e b).trans
      (products_at m c s (by omega) p (by rw [hs]; exact hp) 1 r b v (by rw [hs, hv]; rfl))
  unfold cell
  rw [G _ r0 e0, G _ r1 e1, G _ r2 e2, W _ r0 e0, W _ r1 e1, W _ r2 e2]
  exact congrArg₂ gate
    (by rw [X3_at m c t 0 b g hg, X3_at m c t 1 b g hg, X3_at m c t 2 b g hg])
    (by rw [X4_at m c t 0 b v hv, X4_at m c t 1 b v hv, X4_at m c t 2 b v hv])

/-- The output array: the reference's function of the arguments. -/
def outG : S33280x11008.Idx → EReal :=
  Cert.Reference5Ideal.Read.val_main_v32 (F := Ideal) (argX m c) (argW m c) (argK m c)

/-- What a grid point after the first writes back is its block of the output array. -/
theorem flushed_eq (t : Fin cfg0.N) (hf : (cfg0.win 5).flush t = true) :
    (dats m 0 c).flushed 5 t = ((cfg0.win 5).blk t).view.read (Elt Ideal) (outG m c) := by
  have ht : 1 ≤ t.val := of_decide_eq_true ((flush5 t).symm.trans hf)
  have hN : t.val < 1093 := lt_of_lt_of_eq t.isLt N_0
  have hs : t.val - 1 < cfg0.N := lt_of_le_of_lt (Nat.sub_le _ _) t.isLt
  show (cfg0.win 5).cut (grid0.coords t) ((dats m 0 c).after 5 t) = _
  rw [after0_5, stored m c t ⟨t.val - 1, hs⟩ rfl ht]
  funext y
  rw [View.read_apply]
  have y0 : (y 0).val < 640 := lt_of_lt_of_eq (y 0).isLt (xsize5 t 0)
  have y1 : (y 1).val < 512 := lt_of_lt_of_eq (y 1).isLt (xsize5 t 1)
  obtain ⟨i0, i1⟩ := index5 t
  have e0 : ((((cfg0.win 5).blk t).view.emb y) 0).val = (t.val - 1) % 52 * 640 + (y 0).val := by
    show win0_5.index t 0 * 640 + 1 * (y 0).val = _
    rw [i0, Nat.one_mul]
  have e1 : ((((cfg0.win 5).blk t).view.emb y) 1).val = (t.val - 1) / 52 * 512 + (y 1).val := by
    show win0_5.index t 1 * 512 + 1 * (y 1).val = _
    rw [i1, Nat.one_mul]
  have hp : (t.val - 1) % 52 < 52 := by omega
  have hg : (t.val - 1) / 52 * 512 + (y 1).val < 22016 := by omega
  have hv : 11008 + ((t.val - 1) / 52 * 512 + (y 1).val) < 22016 := by omega
  refine (cell_at m c t ⟨t.val - 1, hs⟩ rfl ht (y 0).val ⟨(y 1).val, y1⟩ ⟨_, hp⟩ rfl ⟨15 + (y 0).val, by omega⟩
    ⟨16 + (y 0).val, by omega⟩ ⟨17 + (y 0).val, by omega⟩ rfl rfl rfl ⟨_, hg⟩ ⟨_, hv⟩ (Nat.zero_add _).symm rfl).trans
    (Eq.symm ?_)
  refine ref_at (argX m c) (argW m c) (argK m c) (((cfg0.win 5).blk t).view.emb y) ⟨_, hp⟩ ⟨15 + (y 0).val, by omega⟩
    ⟨16 + (y 0).val, by omega⟩ ⟨17 + (y 0).val, by omega⟩ ⟨_, hg⟩ ⟨_, hv⟩ ?_ ?_ ?_ ?_ ?_ ?_
  · rw [e0]
    show _ = (t.val - 1) % 52
    omega
  · rw [e0]
    show _ = 16 + (y 0).val
    omega
  · show 15 + (y 0).val + 1 = 16 + (y 0).val
    omega
  · show 16 + (y 0).val + 1 = 17 + (y 0).val
    omega
  · exact e1
  · rw [e1]
    exact Nat.add_comm _ _

/-- THE OUTPUT ARRAY at the end of the grid, at a column the call writes. -/
theorem final (i : S33280x11008.Idx) (h1 : (i 1).val < 10752) : (dats m 0 c).arrAt 5 cfg0.N i = outG m c i := by
  have h0 : (i 0).val < 33280 := (i 0).isLt
  have hN : (i 1).val / 512 * 52 + (i 0).val / 640 + 1 < cfg0.N :=
    lt_of_lt_of_eq (show (i 1).val / 512 * 52 + (i 0).val / 640 + 1 < 1093 by omega) N_0.symm
  refine (dats m 0 c).arrAt_apply_of_mem 5 (outG m c) (fun t hf => flushed_eq m c t hf) cfg0.N ⟨_, hN⟩ i hN
    ((flush5 _).trans (decide_eq_true (Nat.le_add_left _ _))) ?_
  show i ∈ ((View.whole main_v6).slice (win0_5.rect ⟨_, hN⟩)).set
  rw [View.set_slice_whole, Rect.mem_set_unit]
  obtain ⟨i0, i1⟩ := index5 ⟨_, hN⟩
  intro a
  match a with
  | ⟨0, _⟩ =>
    show win0_5.index ⟨_, hN⟩ 0 * 640 ≤ (i 0).val
      ∧ (i 0).val < win0_5.index ⟨_, hN⟩ 0 * 640 + (cfg0.win 5).xsize (cfg0.grid.coords ⟨_, hN⟩) 0
    rw [i0, xsize5 ⟨_, hN⟩ 0]
    show ((i 1).val / 512 * 52 + (i 0).val / 640 + 1 - 1) % 52 * 640 ≤ (i 0).val
      ∧ (i 0).val < ((i 1).val / 512 * 52 + (i 0).val / 640 + 1 - 1) % 52 * 640 + 640
    omega
  | ⟨1, _⟩ =>
    show win0_5.index ⟨_, hN⟩ 1 * 512 ≤ (i 1).val
      ∧ (i 1).val < win0_5.index ⟨_, hN⟩ 1 * 512 + (cfg0.win 5).xsize (cfg0.grid.coords ⟨_, hN⟩) 1
    rw [i1, xsize5 ⟨_, hN⟩ 1]
    show ((i 1).val / 512 * 52 + (i 0).val / 640 + 1 - 1) / 52 * 512 ≤ (i 1).val
      ∧ (i 1).val < ((i 1).val / 512 * 52 + (i 0).val / 640 + 1 - 1) / 52 * 512 + 512
    omega

/-- The claim's test whether the call writes a column. -/
theorem cmp_columns : ∀ n : Fin 11008, Scalar.cmpi .slt (BitVec.ofNat 32 n.val) 10752#32 = 1#1 → n.val < 10752 := by
  decide +kernel

/-- The columns the claim is on are those the call writes. -/
theorem column_lt (x0 : IVec S52x336x4096 32) (x1 : FVec Ideal S4096x22016 .f32) (x2 : FVec Ideal S3x22016 .f32)
    (i : S33280x11008.Idx) (h : Cert.On_columns_written.fn (F := Ideal) x0 x1 x2 i = 1#1) : (i 1).val < 10752 :=
  cmp_columns (i 1) h

/-- The kernel's run: its output array as the grid leaves it, its arguments as launched. -/
theorem run_blocks (ρ : Dev nD → PrngReg) :
    θ_run defs (onTc (τ := τ) (main (F := Ideal))) ⟨m, fun _ => 0, ρ⟩ fun r => ∀ c : Dev nD,
      r.2.mem (c.tc.loc main_v6) = (dats m 0 c).arrAt 5 cfg0.N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun _ h c => ⟨(h c).1 5,
      ((h c).1 0).trans (((dats m 0 c).arrAt_in 0 rfl _).trans ((A_eq m c 0).trans (Gen.V_main_arg0 m c))),
      ((h c).2 main_arg1 (Pipeline.mem_restRefs_of main_arg1 (by decide) (by decide))).trans (Gen.V_main_arg1 m c),
      ((h c).2 main_arg2 (Pipeline.mem_restRefs_of main_arg2 (by decide) (by decide))).trans (Gen.V_main_arg2 m c)⟩)
    (run_main m ρ)

/-- The ideal kernel's frame. -/
theorem frame_pi : Cert.quiescent_Kernel5Ideal := fun m g _ => Cert.Up.frame m g

/-- The reference's frame. -/
theorem frame_ri : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- THE VALUE: kernel and reference compute the same function of the arguments, at every column the call writes. -/
theorem algebraic : Cert.algebraic_Kernel5Ideal_Reference5Ideal_on_columns_written := by
  intro m g m' g' _ hagree
  refine ⟨fun c => outG m c, ?_, ?_⟩
  · exact (θ_run Cert.Kernel5Ideal.defs _ _).mono
      (fun _ h c => ⟨fun i hi => (congrFun (h c).1 i).trans (final m c i (column_lt _ _ _ i hi)), (h c).2⟩)
      (run_blocks m g)
  · refine (θ_run Cert.Reference5Ideal.defs _ _).mono (fun _ h c => ⟨fun i _ => (congrFun (h c).1 i).trans ?_, (h c).2⟩)
      (Cert.Reference5Ideal.Value.run (F := Ideal) m' g')
    rw [Cert.Reference5Ideal.Read.val_main_v32_eq, (hagree c).1, (hagree c).2.1, (hagree c).2.2]
    rfl

end Cert.Up

end
-- ==== Proof.UpTransfer.lean ====
/-
  The gated projection's kernel and its ideal form are the same program, so the frame of one is that of the other.
-/
module

public import proofs.«01_k».proof.Defs
public import proofs.«01_k».proof.Proof.UpFrame
public import proofs.«01_k».proof.Proof.Gen.Kernel5
public import proofs.«01_k».proof.Proof.Gen.Kernel5Ideal

@[expose] public section

noncomputable section

namespace Cert.Up

open Idealize.ShloMosaic

set_option maxHeartbeats 4000000 in
/-- The two programs' bodies are the same. -/
theorem defs0_eq {F : FTy → Type} [FloatOps F] : (Cert.Kernel5.defs₀ (F := F)) = Cert.Kernel5Ideal.defs₀ (F := F) := by
  unfold Cert.Kernel5.defs₀ Cert.Kernel5Ideal.defs₀
  refine congrArg Defs.onTc (funext fun l => funext fun x => ?_)
  match l, x with
  | 0, (t, s) => rfl
  | ⟨_ + 1, h⟩, _ => exact absurd h (Nat.not_lt.2 (Nat.le_add_left _ _))

set_option maxHeartbeats 4000000 in
/-- With the launch around them, too. -/
theorem defs_eq {F : FTy → Type} [FloatOps F] : (Cert.Kernel5.defs (F := F)) = Cert.Kernel5Ideal.defs (F := F) :=
  congrArg (Pipeline.defs Cert.Kernel5Ideal.pcfgs) defs0_eq

set_option maxHeartbeats 4000000 in
/-- The kernel's frame, over bits. -/
theorem frame_p : Cert.quiescent_Kernel5 := fun m g _ => by
  have h := Cert.Up.frame (F := Bits) m g
  rw [← defs_eq] at h
  exact h

end Cert.Up

end
-- ==== Proof.HyCells.lean ====
/-
  The Hyena input product's body, entry by entry: what it stores in the two buffers it keeps between grid points, and what
  it stores in the two outputs' blocks.
-/
module

public import proofs.«01_k».proof.Proof.UpCells
public import proofs.«01_k».proof.Proof.Gen.Kernel6Ideal.Skeleton

@[expose] public section

noncomputable section

open scoped BigOperators

namespace Cert.Hy

open Cert.Up (brow conv half)
open Idealize.ShloMosaic Cert.Kernel6Ideal Cert.Kernel6Ideal.Gen

/-- The unpacked rows the body multiplies. -/
theorem pay4_at (x : S1x336x4096.Idx → BitVec 32) (r : Fin 672) (k : Fin 4096) :
    k0_pay4 (F := Ideal) x (ix2 r k) = brow x r k := Cert.Up.pay6_at x r k

/-- A product the body stores, at an entry. -/
theorem pay27_at (x : FVec Ideal S672x4096 .bf16) (w : S4096x256.Idx → EReal) (i : Fin 1) (r : Fin 672) (b : Fin 256) :
    k0_pay27 (F := Ideal) x w (ix3 i r b) = ∑ k : Fin 4096, x (ix2 r k) * w (ix2 k b) := by
  pointwise [k0_pay27]

/-- The body's products are this one, at even points. -/
theorem pay_even : (∀ x w, k0_pay5 (F := Ideal) x w = k0_pay27 (k0_pay4 x) w)
    ∧ k0_pay48 (F := Ideal) = k0_pay27 ∧ k0_pay68 (F := Ideal) = k0_pay27 ∧ k0_pay88 (F := Ideal) = k0_pay27
    ∧ ∀ x w, k0_pay2 (F := Ideal) (k0_pay109 x w) = k0_pay27 x w :=
  ⟨fun _ _ => rfl, rfl, rfl, rfl, fun _ _ => rfl⟩

/-- The same at odd points. -/
theorem pay_odd : (∀ x w, k0_pay111 (F := Ideal) x w = k0_pay27 (k0_pay4 x) w) ∧ k0_pay110 (F := Ideal) = k0_pay4
    ∧ k0_pay133 (F := Ideal) = k0_pay27 ∧ k0_pay154 (F := Ideal) = k0_pay27 ∧ k0_pay174 (F := Ideal) = k0_pay27
    ∧ k0_pay194 (F := Ideal) = k0_pay27 ∧ ∀ x w, k0_pay3 (F := Ideal) (k0_pay215 x w) = k0_pay27 x w :=
  ⟨fun _ _ => rfl, rfl, rfl, rfl, rfl, rfl, fun _ _ => rfl⟩

/-- Third `h`, row `r` and column `b` of a kept buffer. -/
def rd (P : S3x672x512.Idx → EReal) (h r : ℕ) (b : Fin 512) : EReal :=
  if p : h < 3 ∧ r < 672 then P (ix3 ⟨h, p.1⟩ ⟨r, p.2⟩ b) else 0

/-- An entry of a kept buffer, by its third, row and column. -/
theorem eq_rd (P : S3x672x512.Idx → EReal) (h : Fin 3) (r : ℕ) (hr : r < 672) (b : Fin 512) :
    P (ix3 h ⟨r, hr⟩ b) = rd P h.val r b := by
  unfold rd
  rw [dif_pos ⟨h.isLt, hr⟩]

/-- The convolution of a third's rows, for the output's row `n` and column `b`, from its taps and a kept buffer. -/
def conv3 (x : S3x512.Idx → EReal) (P : S3x672x512.Idx → EReal) (h n : ℕ) (b : Fin 512) : EReal :=
  conv (x (ix2 0 b)) (x (ix2 1 b)) (x (ix2 2 b)) (rd P h (15 + n) b) (rd P h (16 + n) b) (rd P h (17 + n) b)

/-- A block of an output, from a function of its rows and columns. -/
def blockOf (f : ℕ → Fin 512 → EReal) : S640x512.Idx → EReal := fun y => f (y 0).val (y 1)

/-- A block at an entry of the 32 rows from row `o`. -/
theorem blockOf_emb (f : ℕ → Fin 512 → EReal) (o : ℕ) (inb) (a : Fin 32) (b : Fin 512) :
    blockOf f ((Rect.unit (s := S640x512) ![o, 0] ![32, 512] inb).emb (ix2 a b)) = f (o + a.val) b := by
  show f (o + 1 * a.val) ⟨0 + 1 * b.val, _⟩ = _
  congr 1
  · omega
  · exact Fin.ext (show 0 + 1 * b.val = b.val by omega)

/-- The first output's block. -/
def outx (x4 : S3x512.Idx → EReal) (P : S3x672x512.Idx → EReal) : S640x512.Idx → EReal :=
  blockOf fun n b => conv3 x4 P 0 n b

/-- The second output's block. -/
def outv (x5 x6 : S3x512.Idx → EReal) (P : S3x672x512.Idx → EReal) : S640x512.Idx → EReal :=
  blockOf fun n b => conv3 x6 P 2 n b * conv3 x5 P 1 n b

/-- The weights of a third. -/
def pick (x1 x2 x3 : S4096x512.Idx → EReal) (h : ℕ) : S4096x512.Idx → EReal :=
  if h = 0 then x1 else if h = 1 then x2 else x3

/-- A kept buffer's entries: the rows' products with each third's columns. -/
def scr (x0 : S1x336x4096.Idx → BitVec 32) (x1 x2 x3 : S4096x512.Idx → EReal) : S3x672x512.Idx → EReal :=
  fun y => ∑ k : Fin 4096, brow x0 (y 1) k * pick x1 x2 x3 (y 0).val (ix2 k (y 2))

/-- A product stored in third `h` of a kept buffer, at the 256 columns from column `o`, is the buffer's part there. -/
theorem scr_piece (x0 : S1x336x4096.Idx → BitVec 32) (x1 x2 x3 w : S4096x512.Idx → EReal) (h o : ℕ) (inb) (inbw)
    (hw : pick x1 x2 x3 h = w) (x : S1x672x256.Idx) :
    k0_pay27 (F := Ideal) (k0_pay4 x0)
        (View.ld (Val := Elt Ideal) (e' := .bf16) w (Rect.unit (s := S4096x512) ![0, o] ![4096, 256] inbw)) x
      = scr x0 x1 x2 x3 ((Rect.unit (s := S3x672x512) ![h, 0, o] ![1, 672, 256] inb).emb x) := by
  refine (congrArg _ (eq_ix3 x)).trans ((pay27_at _ _ _ _ _).trans ?_)
  have x0' : (x 0).val < 1 := (x 0).isLt
  unfold scr
  refine Finset.sum_congr rfl fun k _ => congrArg₂ (· * ·) ?_ ?_
  · refine (pay4_at _ _ _).trans ?_
    exact congrArg (brow x0 · k) (Fin.ext (show (x 1).val = 0 + 1 * (x 1).val by omega))
  · rw [← hw]
    show pick x1 x2 x3 h _ = pick x1 x2 x3 (h + 1 * (x 0).val) _
    rw [show h + 1 * (x 0).val = h by omega]
    refine congrArg _ ((eq_ix2 _).trans ?_)
    congr 1
    exact Fin.ext (show 0 + 1 * k.val = k.val by omega)

end Cert.Hy

end
-- ==== Proof.HyScr.lean ====
/-
  What the Hyena input product's body stores in the buffer that a point fills: the point's products.
-/
module

public import proofs.«01_k».proof.Proof.Gen.Kernel6Ideal.Frame
public import proofs.«01_k».proof.Proof.HyCells

@[expose] public section

set_option maxRecDepth 16384

noncomputable section

namespace Cert.Hy

open Idealize.ShloMosaic Cert.Kernel6Ideal Cert.Kernel6Ideal.Gen

variable (c : Dev nD) (i : grid0.Coords)
  (arg1 : Memref sig .tc .vmem S1x336x4096 .i32) (harg1 : arg1.IsWhole)
  (arg2 : Memref sig .tc .vmem S4096x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S3x512 .f32) (harg5 : arg5.IsWhole)
  (arg6 : Memref sig .tc .vmem S3x512 .f32) (harg6 : arg6.IsWhole)
  (arg7 : Memref sig .tc .vmem S3x512 .f32) (harg7 : arg7.IsWhole)
  (arg8 : Memref sig .tc .vmem S640x512 .f32) (harg8 : arg8.IsWhole)
  (arg9 : Memref sig .tc .vmem S640x512 .f32) (harg9 : arg9.IsWhole)
  (arg10 : Memref sig .tc .vmem S3x672x512 .f32) (harg10 : arg10.IsWhole)
  (arg11 : Memref sig .tc .vmem S3x672x512 .f32) (harg11 : arg11.IsWhole)
  (x0 : Vec Ideal S1x336x4096 .i32) (x1 x2 x3 : Vec Ideal S4096x512 .bf16) (x4 x5 x6 : Vec Ideal S3x512 .f32)
  (xs : Vec Ideal S3x672x512 .f32)

/-- The first point fills the first buffer with its products. -/
theorem scr_A (hc0 : cond0_0 i) (hc1 : cond0_1 i) (hc2 : ¬cond0_2 i) :
    sout0_A_0 c i arg1 harg1 arg2 harg2 arg3 harg3 arg4 harg4 arg5 harg5 arg6 harg6 arg7 harg7 arg8 harg8 arg9 harg9 arg10 harg10 arg11 harg11 hc0 hc1 hc2 x0 x1 x2 x3 x4 x5 x6 = scr x0 x1 x2 x3 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 hc2 x0 x1 x2 x3 x4 x5 x6)]
  funext y
  refine View.canon_apply_of_pieces (scr x0 x1 x2 x3) _ ?_ y
    (scover0_A_0 c i arg1 harg1 arg2 harg2 arg3 harg3 arg4 harg4 arg5 harg5 arg6 harg6 arg7 harg7 arg8 harg8 arg9 harg9 arg10 harg10 arg11 harg11 hc0 hc1 hc2 x0 x1 x2 x3 x4 x5 x6 y)
  unfold kernelRun0_A
  dsimp only
  sl_unfold_words
  simp only [View.readAt_eq_ld, harg1.read_unread, harg2.read_unread, harg3.read_unread, harg4.read_unread, harg5.read_unread, harg6.read_unread, harg7.read_unread,
    Cert.Up.ld_rows, pay_even.1, pay_even.2.1, pay_even.2.2.1, pay_even.2.2.2.1, pay_even.2.2.2.2]
  simp only [List.forall_mem_cons]
  refine ⟨?_, ?_, ?_, ?_, ?_, ?_, fun p hp => absurd hp List.not_mem_nil⟩
  all_goals exact scr_piece x0 x1 x2 x3 _ _ _ _ _ rfl

/-- An odd point fills the second buffer with its products. -/
theorem scr_B (hc0 : ¬cond0_0 i) (hc1 : ¬cond0_1 i) (hc2 : cond0_2 i) :
    sout0_B_1 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs = scr x0 x1 x2 x3 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs)]
  funext y
  refine View.canon_apply_of_pieces (scr x0 x1 x2 x3) _ ?_ y
    (scover0_B_1 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs y)
  unfold kernelRun0_B
  dsimp only
  sl_unfold_words
  simp only [View.readAt_eq_ld, harg1.read_unread, harg2.read_unread, harg3.read_unread, harg4.read_unread, harg5.read_unread, harg6.read_unread, harg7.read_unread,
    Cert.Up.ld_rows, pay_odd.1, pay_odd.2.1, pay_odd.2.2.1, pay_odd.2.2.2.1, pay_odd.2.2.2.2.1, pay_odd.2.2.2.2.2.1, pay_odd.2.2.2.2.2.2]
  simp only [List.forall_mem_cons]
  refine ⟨?_, ?_, ?_, ?_, ?_, ?_, fun p hp => absurd hp List.not_mem_nil⟩
  all_goals exact scr_piece x0 x1 x2 x3 _ _ _ _ _ rfl

/-- An even point fills the first buffer with its products. -/
theorem scr_C (hc0 : ¬cond0_0 i) (hc1 : cond0_1 i) (hc2 : ¬cond0_2 i) :
    sout0_C_0 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs = scr x0 x1 x2 x3 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs)]
  funext y
  refine View.canon_apply_of_pieces (scr x0 x1 x2 x3) _ ?_ y
    (scover0_C_0 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs y)
  unfold kernelRun0_C
  dsimp only
  sl_unfold_words
  simp only [View.readAt_eq_ld, harg1.read_unread, harg2.read_unread, harg3.read_unread, harg4.read_unread, harg5.read_unread, harg6.read_unread, harg7.read_unread,
    Cert.Up.ld_rows, pay_even.1, pay_even.2.1, pay_even.2.2.1, pay_even.2.2.2.1, pay_even.2.2.2.2]
  simp only [List.forall_mem_cons]
  refine ⟨?_, ?_, ?_, ?_, ?_, ?_, fun p hp => absurd hp List.not_mem_nil⟩
  all_goals exact scr_piece x0 x1 x2 x3 _ _ _ _ _ rfl

end Cert.Hy

end
-- ==== Proof.HyOutB.lean ====
/-
  What the Hyena input product's body stores in the outputs' blocks at an odd point, from the first kept buffer.
-/
module

public import proofs.«01_k».proof.Proof.Gen.Kernel6Ideal.Frame
public import proofs.«01_k».proof.Proof.HyCells

@[expose] public section

set_option maxRecDepth 16384

noncomputable section

namespace Cert.Hy

open Idealize.ShloMosaic Cert.Kernel6Ideal Cert.Kernel6Ideal.Gen

variable (c : Dev nD) (i : grid0.Coords)
  (arg1 : Memref sig .tc .vmem S1x336x4096 .i32) (harg1 : arg1.IsWhole)
  (arg2 : Memref sig .tc .vmem S4096x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S3x512 .f32) (harg5 : arg5.IsWhole)
  (arg6 : Memref sig .tc .vmem S3x512 .f32) (harg6 : arg6.IsWhole)
  (arg7 : Memref sig .tc .vmem S3x512 .f32) (harg7 : arg7.IsWhole)
  (arg8 : Memref sig .tc .vmem S640x512 .f32) (harg8 : arg8.IsWhole)
  (arg9 : Memref sig .tc .vmem S640x512 .f32) (harg9 : arg9.IsWhole)
  (arg10 : Memref sig .tc .vmem S3x672x512 .f32) (harg10 : arg10.IsWhole)
  (arg11 : Memref sig .tc .vmem S3x672x512 .f32) (harg11 : arg11.IsWhole)
  (x0 : Vec Ideal S1x336x4096 .i32) (x1 x2 x3 : Vec Ideal S4096x512 .bf16) (x4 x5 x6 : Vec Ideal S3x512 .f32)
  (xs : Vec Ideal S3x672x512 .f32)

/-- The first output's block. -/
theorem outx_B (hc0 : ¬cond0_0 i) (hc1 : ¬cond0_1 i) (hc2 : cond0_2 i) :
    out0_B_7 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs = outx x4 xs := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs)]
  funext y
  refine View.canon_apply_of_pieces (outx x4 xs) _ ?_ y
    (cover0_B_7 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs y)
  unfold kernelRun0_B
  dsimp only
  sl_unfold_words
  simp only [View.readAt_eq_ld, harg1.read_unread, harg2.read_unread, harg3.read_unread, harg4.read_unread, harg5.read_unread, harg6.read_unread, harg7.read_unread,
    harg10.read_unread]
  simp only [List.forall_mem_cons]
  refine ⟨?_, ?_, ?_, ?_, ?_, ?_, ?_, ?_, ?_, ?_, ?_, ?_, ?_, ?_, ?_, ?_, ?_, ?_, ?_, ?_, fun p hp => absurd hp List.not_mem_nil⟩
  all_goals
    refine Cert.Up.forall_ix2 (fun a b => ?_)
    refine Eq.trans ?_ (blockOf_emb _ _ _ a b).symm
    unfold conv3 Cert.Up.conv
    pointwise [k0_pay3, k0_pay110, k0_pay111, k0_pay112, k0_pay113, k0_pay114, k0_pay115, k0_pay116, k0_pay117,
      k0_pay118, k0_pay119, k0_pay120, k0_pay121, k0_pay122, k0_pay123, k0_pay124, k0_pay125, k0_pay126, k0_pay127,
      k0_pay128, k0_pay129, k0_pay130, k0_pay131, k0_pay132, k0_pay133, k0_pay134, k0_pay135, k0_pay136, k0_pay137,
      k0_pay138, k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156, k0_pay157,
      k0_pay158, k0_pay159, k0_pay160, k0_pay161, k0_pay162, k0_pay163, k0_pay164, k0_pay165, k0_pay166, k0_pay167,
      k0_pay168, k0_pay169, k0_pay170, k0_pay171, k0_pay172, k0_pay173, k0_pay174, k0_pay175, k0_pay176, k0_pay177,
      k0_pay178, k0_pay179, k0_pay180, k0_pay181, k0_pay182, k0_pay183, k0_pay184, k0_pay185, k0_pay186, k0_pay187,
      k0_pay188, k0_pay189, k0_pay190, k0_pay191, k0_pay192, k0_pay193, k0_pay194, k0_pay195, k0_pay196, k0_pay197,
      k0_pay198, k0_pay199, k0_pay200, k0_pay201, k0_pay202, k0_pay203, k0_pay204, k0_pay205, k0_pay206, k0_pay207,
      k0_pay208, k0_pay209, k0_pay210, k0_pay211, k0_pay212, k0_pay213, k0_pay214, k0_pay215]
    simp only [eq_rd xs, Fin.isValue, Fin.val_zero, Fin.val_one, Fin.val_two, ← Nat.add_assoc, Nat.reduceAdd]

/-- The second output's block. -/
theorem outv_B (hc0 : ¬cond0_0 i) (hc1 : ¬cond0_1 i) (hc2 : cond0_2 i) :
    out0_B_8 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs = outv x5 x6 xs := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs)]
  funext y
  refine View.canon_apply_of_pieces (outv x5 x6 xs) _ ?_ y
    (cover0_B_8 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs y)
  unfold kernelRun0_B
  dsimp only
  sl_unfold_words
  simp only [View.readAt_eq_ld, harg1.read_unread, harg2.read_unread, harg3.read_unread, harg4.read_unread, harg5.read_unread, harg6.read_unread, harg7.read_unread,
    harg10.read_unread]
  simp only [List.forall_mem_cons]
  refine ⟨?_, ?_, ?_, ?_, ?_, ?_, ?_, ?_, ?_, ?_, ?_, ?_, ?_, ?_, ?_, ?_, ?_, ?_, ?_, ?_, fun p hp => absurd hp List.not_mem_nil⟩
  all_goals
    refine Cert.Up.forall_ix2 (fun a b => ?_)
    refine Eq.trans ?_ (blockOf_emb _ _ _ a b).symm
    unfold conv3 Cert.Up.conv
    pointwise [k0_pay3, k0_pay110, k0_pay111, k0_pay112, k0_pay113, k0_pay114, k0_pay115, k0_pay116, k0_pay117,
      k0_pay118, k0_pay119, k0_pay120, k0_pay121, k0_pay122, k0_pay123, k0_pay124, k0_pay125, k0_pay126, k0_pay127,
      k0_pay128, k0_pay129, k0_pay130, k0_pay131, k0_pay132, k0_pay133, k0_pay134, k0_pay135, k0_pay136, k0_pay137,
      k0_pay138, k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156, k0_pay157,
      k0_pay158, k0_pay159, k0_pay160, k0_pay161, k0_pay162, k0_pay163, k0_pay164, k0_pay165, k0_pay166, k0_pay167,
      k0_pay168, k0_pay169, k0_pay170, k0_pay171, k0_pay172, k0_pay173, k0_pay174, k0_pay175, k0_pay176, k0_pay177,
      k0_pay178, k0_pay179, k0_pay180, k0_pay181, k0_pay182, k0_pay183, k0_pay184, k0_pay185, k0_pay186, k0_pay187,
      k0_pay188, k0_pay189, k0_pay190, k0_pay191, k0_pay192, k0_pay193, k0_pay194, k0_pay195, k0_pay196, k0_pay197,
      k0_pay198, k0_pay199, k0_pay200, k0_pay201, k0_pay202, k0_pay203, k0_pay204, k0_pay205, k0_pay206, k0_pay207,
      k0_pay208, k0_pay209, k0_pay210, k0_pay211, k0_pay212, k0_pay213, k0_pay214, k0_pay215]
    simp only [eq_rd xs, Fin.isValue, Fin.val_zero, Fin.val_one, Fin.val_two, ← Nat.add_assoc, Nat.reduceAdd]

end Cert.Hy

end
-- ==== Proof.HyOutC.lean ====
/-
  What the Hyena input product's body stores in the outputs' blocks at an even point, from the second kept buffer.
-/
module

public import proofs.«01_k».proof.Proof.Gen.Kernel6Ideal.Frame
public import proofs.«01_k».proof.Proof.HyCells

@[expose] public section

set_option maxRecDepth 16384

noncomputable section

namespace Cert.Hy

open Idealize.ShloMosaic Cert.Kernel6Ideal Cert.Kernel6Ideal.Gen

variable (c : Dev nD) (i : grid0.Coords)
  (arg1 : Memref sig .tc .vmem S1x336x4096 .i32) (harg1 : arg1.IsWhole)
  (arg2 : Memref sig .tc .vmem S4096x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S3x512 .f32) (harg5 : arg5.IsWhole)
  (arg6 : Memref sig .tc .vmem S3x512 .f32) (harg6 : arg6.IsWhole)
  (arg7 : Memref sig .tc .vmem S3x512 .f32) (harg7 : arg7.IsWhole)
  (arg8 : Memref sig .tc .vmem S640x512 .f32) (harg8 : arg8.IsWhole)
  (arg9 : Memref sig .tc .vmem S640x512 .f32) (harg9 : arg9.IsWhole)
  (arg10 : Memref sig .tc .vmem S3x672x512 .f32) (harg10 : arg10.IsWhole)
  (arg11 : Memref sig .tc .vmem S3x672x512 .f32) (harg11 : arg11.IsWhole)
  (x0 : Vec Ideal S1x336x4096 .i32) (x1 x2 x3 : Vec Ideal S4096x512 .bf16) (x4 x5 x6 : Vec Ideal S3x512 .f32)
  (xs : Vec Ideal S3x672x512 .f32)

/-- The first output's block. -/
theorem outx_C (hc0 : ¬cond0_0 i) (hc1 : cond0_1 i) (hc2 : ¬cond0_2 i) :
    out0_C_7 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs = outx x4 xs := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs)]
  funext y
  refine View.canon_apply_of_pieces (outx x4 xs) _ ?_ y
    (cover0_C_7 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs y)
  unfold kernelRun0_C
  dsimp only
  sl_unfold_words
  simp only [View.readAt_eq_ld, harg1.read_unread, harg2.read_unread, harg3.read_unread, harg4.read_unread, harg5.read_unread, harg6.read_unread, harg7.read_unread,
    harg11.read_unread]
  simp only [List.forall_mem_cons]
  refine ⟨?_, ?_, ?_, ?_, ?_, ?_, ?_, ?_, ?_, ?_, ?_, ?_, ?_, ?_, ?_, ?_, ?_, ?_, ?_, ?_, fun p hp => absurd hp List.not_mem_nil⟩
  all_goals
    refine Cert.Up.forall_ix2 (fun a b => ?_)
    refine Eq.trans ?_ (blockOf_emb _ _ _ a b).symm
    unfold conv3 Cert.Up.conv
    pointwise [k0_pay2, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35,
      k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66, k0_pay67, k0_pay68,
      k0_pay69, k0_pay70, k0_pay71, k0_pay72, k0_pay73, k0_pay74, k0_pay75, k0_pay76, k0_pay77, k0_pay78, k0_pay79,
      k0_pay80, k0_pay81, k0_pay82, k0_pay83, k0_pay84, k0_pay85, k0_pay86, k0_pay87, k0_pay88, k0_pay89, k0_pay90,
      k0_pay91, k0_pay92, k0_pay93, k0_pay94, k0_pay95, k0_pay96, k0_pay97, k0_pay98, k0_pay99, k0_pay100, k0_pay101,
      k0_pay102, k0_pay103, k0_pay104, k0_pay105, k0_pay106, k0_pay107, k0_pay108, k0_pay109]
    simp only [eq_rd xs, Fin.isValue, Fin.val_zero, Fin.val_one, Fin.val_two, ← Nat.add_assoc, Nat.reduceAdd]

/-- The second output's block. -/
theorem outv_C (hc0 : ¬cond0_0 i) (hc1 : cond0_1 i) (hc2 : ¬cond0_2 i) :
    out0_C_8 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs = outv x5 x6 xs := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs)]
  funext y
  refine View.canon_apply_of_pieces (outv x5 x6 xs) _ ?_ y
    (cover0_C_8 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs y)
  unfold kernelRun0_C
  dsimp only
  sl_unfold_words
  simp only [View.readAt_eq_ld, harg1.read_unread, harg2.read_unread, harg3.read_unread, harg4.read_unread, harg5.read_unread, harg6.read_unread, harg7.read_unread,
    harg11.read_unread]
  simp only [List.forall_mem_cons]
  refine ⟨?_, ?_, ?_, ?_, ?_, ?_, ?_, ?_, ?_, ?_, ?_, ?_, ?_, ?_, ?_, ?_, ?_, ?_, ?_, ?_, fun p hp => absurd hp List.not_mem_nil⟩
  all_goals
    refine Cert.Up.forall_ix2 (fun a b => ?_)
    refine Eq.trans ?_ (blockOf_emb _ _ _ a b).symm
    unfold conv3 Cert.Up.conv
    pointwise [k0_pay2, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35,
      k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66, k0_pay67, k0_pay68,
      k0_pay69, k0_pay70, k0_pay71, k0_pay72, k0_pay73, k0_pay74, k0_pay75, k0_pay76, k0_pay77, k0_pay78, k0_pay79,
      k0_pay80, k0_pay81, k0_pay82, k0_pay83, k0_pay84, k0_pay85, k0_pay86, k0_pay87, k0_pay88, k0_pay89, k0_pay90,
      k0_pay91, k0_pay92, k0_pay93, k0_pay94, k0_pay95, k0_pay96, k0_pay97, k0_pay98, k0_pay99, k0_pay100, k0_pay101,
      k0_pay102, k0_pay103, k0_pay104, k0_pay105, k0_pay106, k0_pay107, k0_pay108, k0_pay109]
    simp only [eq_rd xs, Fin.isValue, Fin.val_zero, Fin.val_one, Fin.val_two, ← Nat.add_assoc, Nat.reduceAdd]

end Cert.Hy

end
-- ==== Proof.HyKept.lean ====
/-
  The Hyena input product's two kept buffers alternate: after each point, one holds the point's products, and the next
  point stores the outputs' blocks from it.
-/
module

public import proofs.«01_k».proof.Proof.HyScr
public import proofs.«01_k».proof.Proof.HyOutB
public import proofs.«01_k».proof.Proof.HyOutC

@[expose] public section

set_option maxRecDepth 16384

noncomputable section

namespace Cert.Hy

open Idealize.ShloMosaic Cert.Kernel6Ideal Cert.Kernel6Ideal.Gen

variable (m : (ℓ : Loc nD τ sig) → Buf (Elt Ideal) ℓ) (c : Dev nD)

/-- A point's products. -/
def products (t : Fin cfg0.N) : S3x672x512.Idx → EReal := scr (iblk m c 0 t) (iblk m c 1 t) (iblk m c 2 t) (iblk m c 3 t)

/-- The third component of a tuple of four. -/
theorem third_of {α β γ δ : Type} {p : α × β × γ × δ} {x : α} {y : β} {z : γ} {w : δ} (h : p = (x, y, z, w)) :
    p.2.2.1 = z := by rw [h]

/-- The fourth component of a tuple of four. -/
theorem fourth_of {α β γ δ : Type} {p : α × β × γ × δ} {x : α} {y : β} {z : γ} {w : δ} (h : p = (x, y, z, w)) :
    p.2.2.2 = w := by rw [h]

/-- The first two components of a tuple of four. -/
theorem outs_of {α β γ δ : Type} {p : α × β × γ × δ} {x : α} {y : β} {z : γ} {w : δ} (h : p = (x, y, z, w)) :
    p.1 = x ∧ p.2.1 = y := by rw [h]; exact ⟨rfl, rfl⟩

/-- After an even point, the first buffer holds its products. -/
theorem kept_even (t : Fin cfg0.N) (h1 : t.val % 2 = 0) : (outsAt0 m c t.val t.isLt).2.2.1 = products m c t := by
  have h2 : ¬t.val % 2 = 1 := by omega
  unfold products
  by_cases h0 : t.val % 417 = 0
  · refine (third_of (outsAt0_A m c t h0 h1 h2)).trans ?_
    exact scr_A c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) scM0_0
      (Memref.isWhole_whole _) scM0_1 (Memref.isWhole_whole _) (iblk m c 0 t) (iblk m c 1 t) (iblk m c 2 t) (iblk m c
      3 t) (iblk m c 4 t) (iblk m c 5 t) (iblk m c 6 t)  ((hcond0_0 t).mpr h0) ((hcond0_1 t).mpr h1) (fun h => h2
      ((hcond0_2 t).mp h))
  · refine (third_of (outsAt0_C m c t h0 h1 h2)).trans ?_
    exact scr_C c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) scM0_0
      (Memref.isWhole_whole _) scM0_1 (Memref.isWhole_whole _) (iblk m c 0 t) (iblk m c 1 t) (iblk m c 2 t) (iblk m c
      3 t) (iblk m c 4 t) (iblk m c 5 t) (iblk m c 6 t) (outsAt0 m c (t.val - 1) (Nat.lt_of_le_of_lt (Nat.sub_le _ _)
      t.isLt)).2.2.2 (fun h => h0 ((hcond0_0 t).mp h)) ((hcond0_1 t).mpr h1) (fun h => h2 ((hcond0_2 t).mp h))

/-- After an odd point, the second buffer holds its products. -/
theorem kept_odd (t : Fin cfg0.N) (h2 : t.val % 2 = 1) : (outsAt0 m c t.val t.isLt).2.2.2 = products m c t := by
  have hN : t.val < 417 := lt_of_lt_of_eq t.isLt N_0
  have h0 : ¬t.val % 417 = 0 := by omega
  have h1 : ¬t.val % 2 = 0 := by omega
  unfold products
  refine (fourth_of (outsAt0_B m c t h0 h1 h2)).trans ?_
  exact scr_B c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) scM0_0
    (Memref.isWhole_whole _) scM0_1 (Memref.isWhole_whole _) (iblk m c 0 t) (iblk m c 1 t) (iblk m c 2 t) (iblk m c 3
    t) (iblk m c 4 t) (iblk m c 5 t) (iblk m c 6 t) (outsAt0 m c (t.val - 1) (Nat.lt_of_le_of_lt (Nat.sub_le _ _)
    t.isLt)).2.2.1 (fun h => h0 ((hcond0_0 t).mp h)) (fun h => h1 ((hcond0_1 t).mp h)) ((hcond0_2 t).mpr h2)

/-- What a point after the first stores in the outputs' blocks: computed from the products of the point before it. -/
theorem stored (t s : Fin cfg0.N) (hs : s.val = t.val - 1) (ht : 1 ≤ t.val) :
    (outsAt0 m c t.val t.isLt).1 = outx (iblk m c 4 t) (products m c s)
    ∧ (outsAt0 m c t.val t.isLt).2.1 = outv (iblk m c 5 t) (iblk m c 6 t) (products m c s) := by
  have hN : t.val < 417 := lt_of_lt_of_eq t.isLt N_0
  have h0 : ¬t.val % 417 = 0 := by omega
  obtain rfl : s = ⟨t.val - 1, Nat.lt_of_le_of_lt (Nat.sub_le _ _) t.isLt⟩ := Fin.ext hs
  by_cases h1 : t.val % 2 = 0
  · have h2 : ¬t.val % 2 = 1 := by omega
    rw [← kept_odd m c ⟨t.val - 1, _⟩ (show (t.val - 1) % 2 = 1 by omega)]
    refine (outs_of (outsAt0_C m c t h0 h1 h2)).imp (fun e => e.trans ?_) (fun e => e.trans ?_)
    · exact outx_C c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) (ms0_7 t) (hs0_7 t) (ms0_8 t) (hs0_8 t) scM0_0
        (Memref.isWhole_whole _) scM0_1 (Memref.isWhole_whole _) (iblk m c 0 t) (iblk m c 1 t) (iblk m c 2 t) (iblk m
        c 3 t) (iblk m c 4 t) (iblk m c 5 t) (iblk m c 6 t) (outsAt0 m c (t.val - 1) (Nat.lt_of_le_of_lt (Nat.sub_le _
        _) t.isLt)).2.2.2 (fun h => h0 ((hcond0_0 t).mp h)) ((hcond0_1 t).mpr h1) (fun h => h2 ((hcond0_2 t).mp h))
    · exact outv_C c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) (ms0_7 t) (hs0_7 t) (ms0_8 t) (hs0_8 t) scM0_0
        (Memref.isWhole_whole _) scM0_1 (Memref.isWhole_whole _) (iblk m c 0 t) (iblk m c 1 t) (iblk m c 2 t) (iblk m
        c 3 t) (iblk m c 4 t) (iblk m c 5 t) (iblk m c 6 t) (outsAt0 m c (t.val - 1) (Nat.lt_of_le_of_lt (Nat.sub_le _
        _) t.isLt)).2.2.2 (fun h => h0 ((hcond0_0 t).mp h)) ((hcond0_1 t).mpr h1) (fun h => h2 ((hcond0_2 t).mp h))
  · have h2 : t.val % 2 = 1 := by omega
    rw [← kept_even m c ⟨t.val - 1, _⟩ (show (t.val - 1) % 2 = 0 by omega)]
    refine (outs_of (outsAt0_B m c t h0 h1 h2)).imp (fun e => e.trans ?_) (fun e => e.trans ?_)
    · exact outx_B c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) (ms0_7 t) (hs0_7 t) (ms0_8 t) (hs0_8 t) scM0_0
        (Memref.isWhole_whole _) scM0_1 (Memref.isWhole_whole _) (iblk m c 0 t) (iblk m c 1 t) (iblk m c 2 t) (iblk m
        c 3 t) (iblk m c 4 t) (iblk m c 5 t) (iblk m c 6 t) (outsAt0 m c (t.val - 1) (Nat.lt_of_le_of_lt (Nat.sub_le _
        _) t.isLt)).2.2.1 (fun h => h0 ((hcond0_0 t).mp h)) (fun h => h1 ((hcond0_1 t).mp h)) ((hcond0_2 t).mpr h2)
    · exact outv_B c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) (ms0_7 t) (hs0_7 t) (ms0_8 t) (hs0_8 t) scM0_0
        (Memref.isWhole_whole _) scM0_1 (Memref.isWhole_whole _) (iblk m c 0 t) (iblk m c 1 t) (iblk m c 2 t) (iblk m
        c 3 t) (iblk m c 4 t) (iblk m c 5 t) (iblk m c 6 t) (outsAt0 m c (t.val - 1) (Nat.lt_of_le_of_lt (Nat.sub_le _
        _) t.isLt)).2.2.1 (fun h => h0 ((hcond0_0 t).mp h)) (fun h => h1 ((hcond0_1 t).mp h)) ((hcond0_2 t).mpr h2)

end Cert.Hy

end
-- ==== Proof.HyIndex.lean ====
/-
  Where the Hyena input product's blocks lie at each grid point.
-/
module

public import proofs.«01_k».proof.Proof.Gen.Kernel6Ideal.Points

@[expose] public section

set_option maxRecDepth 16384

noncomputable section

namespace Cert.Hy

open Idealize.ShloMosaic Idealize.ShloMosaic.Pipeline Cert.Kernel6Ideal Cert.Kernel6Ideal.Gen

/-- The rows' block at a grid point: its panel. -/
theorem index0 : ∀ t : Fin cfg0.N, win0_0.index t 0 = min t.val 415 % 52 ∧ win0_0.index t 1 = 0 ∧ win0_0.index t 2 = 0 := by
  decide +kernel

/-- The first third's weights at a grid point: every row, its column block. -/
theorem index1 : ∀ t : Fin cfg0.N, win0_1.index t 0 = 0 ∧ win0_1.index t 1 = min t.val 415 / 52 := by decide +kernel

/-- The second third's weights at a grid point. -/
theorem index2 : ∀ t : Fin cfg0.N, win0_2.index t 0 = 0 ∧ win0_2.index t 1 = min t.val 415 / 52 + 8 := by decide +kernel

/-- The last third's weights at a grid point. -/
theorem index3 : ∀ t : Fin cfg0.N, win0_3.index t 0 = 0 ∧ win0_3.index t 1 = min t.val 415 / 52 + 16 := by decide +kernel

/-- The first third's taps at a grid point: the column block of the point before. -/
theorem index4 : ∀ t : Fin cfg0.N, win0_4.index t 0 = 0 ∧ win0_4.index t 1 = (t.val - 1) / 52 := by decide +kernel

/-- The second third's taps at a grid point. -/
theorem index5 : ∀ t : Fin cfg0.N, win0_5.index t 0 = 0 ∧ win0_5.index t 1 = (t.val - 1) / 52 + 8 := by decide +kernel

/-- The last third's taps at a grid point. -/
theorem index6 : ∀ t : Fin cfg0.N, win0_6.index t 0 = 0 ∧ win0_6.index t 1 = (t.val - 1) / 52 + 16 := by decide +kernel

/-- The first output's block at a grid point: that of the point before. -/
theorem index7 : ∀ t : Fin cfg0.N, win0_7.index t 0 = (t.val - 1) % 52 ∧ win0_7.index t 1 = (t.val - 1) / 52 := by
  decide +kernel

/-- The first output's block is written back at every point but the first. -/
theorem flush7 : ∀ t : Fin cfg0.N, (cfg0.win 7).flush t = decide (1 ≤ t.val) := by decide +kernel

/-- No block of the first output is cut. -/
theorem xsize7 : ∀ t : Fin cfg0.N, ∀ a, (cfg0.win 7).xsize (cfg0.grid.coords t) a = (cfg0.win 7).size a := by decide +kernel

/-- The second output's block at a grid point: that of the point before. -/
theorem index8 : ∀ t : Fin cfg0.N, win0_8.index t 0 = (t.val - 1) % 52 ∧ win0_8.index t 1 = (t.val - 1) / 52 := by
  decide +kernel

/-- The second output's block is written back at every point but the first. -/
theorem flush8 : ∀ t : Fin cfg0.N, (cfg0.win 8).flush t = decide (1 ≤ t.val) := by decide +kernel

/-- No block of the second output is cut. -/
theorem xsize8 : ∀ t : Fin cfg0.N, ∀ a, (cfg0.win 8).xsize (cfg0.grid.coords t) a = (cfg0.win 8).size a := by decide +kernel

end Cert.Hy

end
-- ==== Proof.HyRef.lean ====
/-
  The reference of the Hyena input product, read at an entry.
-/
module

public import proofs.«01_k».proof.Proof.UpRef
public import proofs.«01_k».proof.Proof.Gen.Reference6Ideal.Read
public import Idealize.ShloMosaic.Lib.BitcastConvert
public import Idealize.ShloMosaic.Lib.KernelVsHost
public import Idealize.ShloMosaic.Lib.IdealHost

@[expose] public section

noncomputable section

open scoped BigOperators

namespace Cert.Hy

open Cert.Up (half conv row)
open Idealize.ShloMosaic Cert.Reference6Ideal Cert.Reference6Ideal.Read

/-- The projection of row `r` of panel `p` onto column `s`. -/
def proj (X : S52x336x4096.Idx → BitVec 32) (W : S4096x12288.Idx → EReal) (p : Fin 52) (r : Fin 672) (s : Fin 12288) : EReal :=
  ∑ k : Fin 4096, row X p r k * W (ix2 k s)

/-- The reference's projection, at an entry. -/
theorem ref_proj (X : S52x336x4096.Idx → BitVec 32) (W : S4096x12288.Idx → EReal) (p : Fin 52) (r : Fin 672) (s : Fin 12288) :
    val_main_v4 (F := Ideal) X W (ix3 p r s) = proj X W p r s := by
  rw [val_main_v4_apply]
  refine Finset.sum_congr rfl fun k _ => congrArg₂ (· * ·) ?_ (congrArg W (eq_ix2 _))
  rw [val_main_v3_apply, val_main_v2_apply, val_main_v1_apply]
  unfold val_main_v0 row half
  show Ideal.ofBits .bf16 (Host.bitcastConvertNarrow _ _ _ _ _) = _
  rw [Host.bitcastConvertNarrow_apply]
  have hp : p.val < 52 := p.isLt
  have hr : r.val < 672 := r.isLt
  have hk : k.val < 4096 := k.isLt
  have e : ((p.val * 672 + r.val) * 4096 + k.val) / 4096 % 2 = r.val % 2 := by omega
  show Ideal.ofBits .bf16 (BitVec.extractLsb' (((p.val * 672 + r.val) * 4096 + k.val) / 4096 % 2 * 16) 16 (X _)) = _
  rw [e, Nat.mul_comm]
  refine congrArg (fun w => Ideal.ofBits .bf16 (BitVec.extractLsb' (16 * (r.val % 2)) 16 w)) (congrArg X ?_)
  refine (eq_ix3 _).trans (congr (congrArg₂ ix3 (Fin.ext ?_) (Fin.ext ?_)) (Fin.ext ?_))
  · show ((p.val * 672 + r.val) * 4096 + k.val) / 2752512 = p.val
    omega
  · show ((p.val * 672 + r.val) * 4096 + k.val) / 8192 % 336 = r.val / 2
    omega
  · show ((p.val * 672 + r.val) * 4096 + k.val) % 4096 = k.val
    omega

/-- The padded projection at an inner row is the projection one row before. -/
theorem ref_pad (X : S52x336x4096.Idx → BitVec 32) (W : S4096x12288.Idx → EReal) (i : S52x674x12288.Idx)
    (p : Fin 52) (r : Fin 672) (s : Fin 12288) (h0 : (i 0).val = p.val) (h1 : (i 1).val = r.val + 1) (h2 : (i 2).val = s.val) :
    val_main_v5 (F := Ideal) X W i = proj X W p r s := by
  rw [← ref_proj]
  unfold val_main_v5
  refine pad_apply_of_inside _ _ _ _ _ _ _ _ (ix3 p r s) fun a => ?_
  match a with
  | ⟨0, _⟩ => show (i 0).val = 0 + p.val * 1; omega
  | ⟨1, _⟩ => show (i 1).val = 1 + r.val * 1; omega
  | ⟨2, _⟩ => show (i 2).val = 0 + s.val * 1; omega

/-- The reference's convolution at a row that has both neighbours. -/
theorem ref_conv (X : S52x336x4096.Idx → BitVec 32) (W : S4096x12288.Idx → EReal) (K : S3x12288.Idx → EReal)
    (i : S52x672x12288.Idx) (p : Fin 52) (r0 r1 r2 : Fin 672) (s : Fin 12288) (h0 : (i 0).val = p.val)
    (h1 : (i 1).val = r1.val) (h2 : (i 2).val = s.val) (e0 : r0.val + 1 = r1.val) (e2 : r1.val + 1 = r2.val) :
    val_main_v25 (F := Ideal) X W K i
      = conv (K (ix2 0 s)) (K (ix2 1 s)) (K (ix2 2 s)) (proj X W p r0 s) (proj X W p r1 s) (proj X W p r2 s) := by
  have hs : s.val < 12288 := s.isLt
  rw [val_main_v25_apply, val_main_v18_apply, val_main_v11_apply, val_main_v17_apply, val_main_v24_apply,
    val_main_v10_apply, val_main_v9_apply, val_main_v7_apply, val_main_v6_apply, val_main_v8_apply,
    val_main_v16_apply, val_main_v15_apply, val_main_v13_apply, val_main_v12_apply, val_main_v14_apply,
    val_main_v23_apply, val_main_v22_apply, val_main_v20_apply, val_main_v19_apply, val_main_v21_apply]
  rw [ref_pad X W (idx_main_v8 i) p r0 s h0 (by show (i 1).val = _; omega) h2,
    ref_pad X W (idx_main_v14 i) p r1 s h0 (by show 1 + (i 1).val = _; omega) h2,
    ref_pad X W (idx_main_v21 i) p r2 s h0 (by show 2 + (i 1).val = _; omega) h2]
  unfold conv
  refine congrArg₂ (· + ·) (congrArg₂ (· + ·) ?_ ?_) ?_ <;> refine congrArg (· * _) (congrArg K ?_)
  all_goals
    refine (eq_ix2 _).trans (congrArg₂ ix2 (Fin.ext ?_) (Fin.ext ?_))
    · rfl
    · show (i 2).val % 12288 = s.val
      omega

/-- The reference's first output, read at an entry: the convolution of the first third of the columns. -/
theorem ref_first (X : S52x336x4096.Idx → BitVec 32) (W : S4096x12288.Idx → EReal) (K : S3x12288.Idx → EReal)
    (i : S33280x4096.Idx) (p : Fin 52) (r0 r1 r2 : Fin 672) (s : Fin 12288) (hp : (i 0).val / 640 = p.val)
    (h1 : (i 0).val % 640 + 16 = r1.val) (e0 : r0.val + 1 = r1.val) (e2 : r1.val + 1 = r2.val) (hs : (i 1).val = s.val) :
    val_main_v30 (F := Ideal) X W K i
      = conv (K (ix2 0 s)) (K (ix2 1 s)) (K (ix2 2 s)) (proj X W p r0 s) (proj X W p r1 s) (proj X W p r2 s) := by
  have i0 : (i 0).val < 33280 := (i 0).isLt
  have i1 : (i 1).val < 4096 := (i 1).isLt
  rw [val_main_v30_apply, val_main_v29_apply, val_main_v26_apply]
  have a0 : ((i 0).val * 4096 + (i 1).val) / 2621440 = p.val := by omega
  have a1 : 16 + ((i 0).val * 4096 + (i 1).val) / 4096 % 640 = r1.val := by omega
  have a2 : ((i 0).val * 4096 + (i 1).val) % 4096 = s.val := by omega
  exact ref_conv X W K (idx_main_v26 (idx_main_v29 (idx_main_v30 i))) p r0 r1 r2 s a0 a1 a2 e0 e2

/-- The reference's second output, read at an entry: the last third's convolution times the middle third's. -/
theorem ref_second (X : S52x336x4096.Idx → BitVec 32) (W : S4096x12288.Idx → EReal) (K : S3x12288.Idx → EReal)
    (i : S33280x4096.Idx) (p : Fin 52) (r0 r1 r2 : Fin 672) (s s' : Fin 12288) (hp : (i 0).val / 640 = p.val)
    (h1 : (i 0).val % 640 + 16 = r1.val) (e0 : r0.val + 1 = r1.val) (e2 : r1.val + 1 = r2.val)
    (hs : (i 1).val + 4096 = s.val) (hs' : (i 1).val + 8192 = s'.val) :
    val_main_v33 (F := Ideal) X W K i
      = conv (K (ix2 0 s')) (K (ix2 1 s')) (K (ix2 2 s')) (proj X W p r0 s') (proj X W p r1 s') (proj X W p r2 s')
        * conv (K (ix2 0 s)) (K (ix2 1 s)) (K (ix2 2 s)) (proj X W p r0 s) (proj X W p r1 s) (proj X W p r2 s) := by
  have i0 : (i 0).val < 33280 := (i 0).isLt
  have i1 : (i 1).val < 4096 := (i 1).isLt
  rw [val_main_v33_apply, val_main_v32_apply, val_main_v31_apply, val_main_v28_apply, val_main_v27_apply]
  have a0 : ((i 0).val * 4096 + (i 1).val) / 2621440 = p.val := by omega
  have a1 : 16 + ((i 0).val * 4096 + (i 1).val) / 4096 % 640 = r1.val := by omega
  have a2 : 4096 + ((i 0).val * 4096 + (i 1).val) % 4096 = s.val := by omega
  have a2' : 8192 + ((i 0).val * 4096 + (i 1).val) % 4096 = s'.val := by omega
  rw [ref_conv X W K (idx_main_v28 (idx_main_v32 (idx_main_v33 i))) p r0 r1 r2 s' a0 a1 a2' e0 e2,
    ref_conv X W K (idx_main_v27 (idx_main_v32 (idx_main_v33 i))) p r0 r1 r2 s a0 a1 a2 e0 e2]
  rfl

end Cert.Hy

end
-- ==== Proof.HyArr.lean ====
/-
  The blocks the Hyena input product's grid points read and write, as parts of the arrays.
-/
module

public import proofs.«01_k».proof.Proof.HyKept
public import proofs.«01_k».proof.Proof.HyIndex
public import proofs.«01_k».proof.Proof.HyRef
public import Idealize.ShloMosaic.Lib.Pipeline.ValueKit.Basic
public import Idealize.ShloMosaic.Lib.Pipeline.Value

@[expose] public section

set_option maxRecDepth 16384

noncomputable section

open scoped BigOperators

namespace Cert.Hy

open Idealize.ShloMosaic Idealize.ShloMosaic.Pipeline Cert.Kernel6Ideal Cert.Kernel6Ideal.Gen

variable (m : (ℓ : Loc nD τ sig) → Buf (Elt Ideal) ℓ) (c : Dev nD)

/-- The packed rows a device is launched with. -/
def argX : S52x336x4096.Idx → BitVec 32 := m (c.tc.loc main_arg0)

/-- The weights it is launched with. -/
def argW : S4096x12288.Idx → EReal := m (c.tc.loc main_arg1)

/-- The taps it is launched with. -/
def argK : S3x12288.Idx → EReal := m (c.tc.loc main_arg2)

/-- The host code's weights are the argument's. -/
theorem V_main_v0 : (V m c main_v0 : S4096x12288.Idx → EReal) = argW m c := by
  unfold V
  simp only [hostOps0]
  after_results
  rfl

/-- The rows' block of a grid point, at an entry. -/
theorem X0_at (t : Fin cfg0.N) (p : Fin 52) (hp : min t.val 415 % 52 = p.val) (r : Fin 336) (k : Fin 4096) :
    (iblk m c 0 t : S1x336x4096.Idx → BitVec 32) (ix3 0 r k) = argX m c (ix3 p r k) := by
  obtain ⟨i0, i1, i2⟩ := index0 t
  unfold iblk
  rw [View.read_apply]
  show V m c main_arg0 _ = _
  rw [Gen.V_main_arg0]
  refine congrArg (argX m c) ((eq_ix3 _).trans ?_)
  congr 1
  · refine Fin.ext ?_
    show win0_0.index t 0 * 1 + 1 * 0 = p.val
    omega
  · refine Fin.ext ?_
    show win0_0.index t 1 * 336 + 1 * r.val = r.val
    omega
  · refine Fin.ext ?_
    show win0_0.index t 2 * 4096 + 1 * k.val = k.val
    omega

/-- The first third's weights of a grid point, at an entry. -/
theorem X1_at (t : Fin cfg0.N) (k : Fin 4096) (b : Fin 512) (s : Fin 12288)
    (hs : s.val = 0 + (min t.val 415 / 52 * 512 + b.val)) :
    (iblk m c 1 t : S4096x512.Idx → EReal) (ix2 k b) = argW m c (ix2 k s) := by
  obtain ⟨i0, i1⟩ := index1 t
  unfold iblk
  rw [View.read_apply]
  show V m c main_v0 _ = _
  rw [V_main_v0]
  refine congrArg (argW m c) ((eq_ix2 _).trans (congrArg₂ ix2 (Fin.ext ?_) (Fin.ext ?_)))
  · show win0_1.index t 0 * 4096 + 1 * k.val = k.val
    omega
  · show win0_1.index t 1 * 512 + 1 * b.val = s.val
    omega

/-- The second third's weights of a grid point, at an entry. -/
theorem X2_at (t : Fin cfg0.N) (k : Fin 4096) (b : Fin 512) (s : Fin 12288)
    (hs : s.val = 4096 + (min t.val 415 / 52 * 512 + b.val)) :
    (iblk m c 2 t : S4096x512.Idx → EReal) (ix2 k b) = argW m c (ix2 k s) := by
  obtain ⟨i0, i1⟩ := index2 t
  unfold iblk
  rw [View.read_apply]
  show V m c main_v0 _ = _
  rw [V_main_v0]
  refine congrArg (argW m c) ((eq_ix2 _).trans (congrArg₂ ix2 (Fin.ext ?_) (Fin.ext ?_)))
  · show win0_2.index t 0 * 4096 + 1 * k.val = k.val
    omega
  · show win0_2.index t 1 * 512 + 1 * b.val = s.val
    omega

/-- The last third's weights of a grid point, at an entry. -/
theorem X3_at (t : Fin cfg0.N) (k : Fin 4096) (b : Fin 512) (s : Fin 12288)
    (hs : s.val = 8192 + (min t.val 415 / 52 * 512 + b.val)) :
    (iblk m c 3 t : S4096x512.Idx → EReal) (ix2 k b) = argW m c (ix2 k s) := by
  obtain ⟨i0, i1⟩ := index3 t
  unfold iblk
  rw [View.read_apply]
  show V m c main_v0 _ = _
  rw [V_main_v0]
  refine congrArg (argW m c) ((eq_ix2 _).trans (congrArg₂ ix2 (Fin.ext ?_) (Fin.ext ?_)))
  · show win0_3.index t 0 * 4096 + 1 * k.val = k.val
    omega
  · show win0_3.index t 1 * 512 + 1 * b.val = s.val
    omega

/-- The first third's taps of a grid point, at an entry. -/
theorem X4_at (t : Fin cfg0.N) (k : Fin 3) (b : Fin 512) (s : Fin 12288)
    (hs : s.val = 0 + ((t.val - 1) / 52 * 512 + b.val)) :
    (iblk m c 4 t : S3x512.Idx → EReal) (ix2 k b) = argK m c (ix2 k s) := by
  obtain ⟨i0, i1⟩ := index4 t
  unfold iblk
  rw [View.read_apply]
  show V m c main_arg2 _ = _
  rw [Gen.V_main_arg2]
  refine congrArg (argK m c) ((eq_ix2 _).trans (congrArg₂ ix2 (Fin.ext ?_) (Fin.ext ?_)))
  · show win0_4.index t 0 * 3 + 1 * k.val = k.val
    omega
  · show win0_4.index t 1 * 512 + 1 * b.val = s.val
    omega

/-- The second third's taps of a grid point, at an entry. -/
theorem X5_at (t : Fin cfg0.N) (k : Fin 3) (b : Fin 512) (s : Fin 12288)
    (hs : s.val = 4096 + ((t.val - 1) / 52 * 512 + b.val)) :
    (iblk m c 5 t : S3x512.Idx → EReal) (ix2 k b) = argK m c (ix2 k s) := by
  obtain ⟨i0, i1⟩ := index5 t
  unfold iblk
  rw [View.read_apply]
  show V m c main_arg2 _ = _
  rw [Gen.V_main_arg2]
  refine congrArg (argK m c) ((eq_ix2 _).trans (congrArg₂ ix2 (Fin.ext ?_) (Fin.ext ?_)))
  · show win0_5.index t 0 * 3 + 1 * k.val = k.val
    omega
  · show win0_5.index t 1 * 512 + 1 * b.val = s.val
    omega

/-- The last third's taps of a grid point, at an entry. -/
theorem X6_at (t : Fin cfg0.N) (k : Fin 3) (b : Fin 512) (s : Fin 12288)
    (hs : s.val = 8192 + ((t.val - 1) / 52 * 512 + b.val)) :
    (iblk m c 6 t : S3x512.Idx → EReal) (ix2 k b) = argK m c (ix2 k s) := by
  obtain ⟨i0, i1⟩ := index6 t
  unfold iblk
  rw [View.read_apply]
  show V m c main_arg2 _ = _
  rw [Gen.V_main_arg2]
  refine congrArg (argK m c) ((eq_ix2 _).trans (congrArg₂ ix2 (Fin.ext ?_) (Fin.ext ?_)))
  · show win0_6.index t 0 * 3 + 1 * k.val = k.val
    omega
  · show win0_6.index t 1 * 512 + 1 * b.val = s.val
    omega

end Cert.Hy

end
-- ==== Proof.Hy.lean ====
/-
  The Hyena input product: the kernel's two output arrays are the reference's.
-/
module

public import proofs.«01_k».proof.Defs
public import proofs.«01_k».proof.Proof.HyArr
public import proofs.«01_k».proof.Proof.Gen.Reference6Ideal.Run
public import Idealize.ShloMosaic.Adequacy
public import Idealize.ShloMosaic.Init

@[expose] public section

set_option maxRecDepth 16384

noncomputable section

open scoped BigOperators

namespace Cert.Hy

open Cert.Up (half conv)
open Idealize.ShloMosaic Idealize.ShloMosaic.Pipeline Idealize.SL.Sem Cert.Kernel6Ideal Cert.Kernel6Ideal.Gen

variable (m : (ℓ : Loc nD τ sig) → Buf (Elt Ideal) ℓ) (c : Dev nD)

/-- The weights of each third. -/
theorem pick_of (x1 x2 x3 : S4096x512.Idx → EReal) :
    pick x1 x2 x3 0 = x1 ∧ pick x1 x2 x3 1 = x2 ∧ pick x1 x2 x3 2 = x3 := ⟨rfl, rfl, rfl⟩

/-- A grid point's weights of a third, at an entry. -/
theorem pick_at (t : Fin cfg0.N) (ht : t.val ≤ 415) (h : Fin 3) (k : Fin 4096) (b : Fin 512) (s : Fin 12288)
    (hs : s.val = h.val * 4096 + (t.val / 52 * 512 + b.val)) :
    pick (iblk m c 1 t) (iblk m c 2 t) (iblk m c 3 t) h.val (ix2 k b) = argW m c (ix2 k s) := by
  have hm : min t.val 415 = t.val := Nat.min_eq_left ht
  have h3 : h.val < 3 := h.isLt
  obtain e | e | e : h.val = 0 ∨ h.val = 1 ∨ h.val = 2 := by omega
  · rw [e, (pick_of _ _ _).1]
    exact X1_at m c t k b s (by omega)
  · rw [e, (pick_of _ _ _).2.1]
    exact X2_at m c t k b s (by omega)
  · rw [e, (pick_of _ _ _).2.2]
    exact X3_at m c t k b s (by omega)

/-- A grid point's products, at an entry: its panel's row times a column of the weights. -/
theorem products_at (t : Fin cfg0.N) (ht : t.val ≤ 415) (p : Fin 52) (hp : t.val % 52 = p.val) (h : Fin 3) (r : Fin 672)
    (b : Fin 512) (s : Fin 12288) (hs : s.val = h.val * 4096 + (t.val / 52 * 512 + b.val)) :
    products m c t (ix3 h r b) = proj (argX m c) (argW m c) p r s := by
  have hm : min t.val 415 = t.val := Nat.min_eq_left ht
  unfold products scr proj
  refine Finset.sum_congr rfl fun k _ => congrArg₂ (· * ·) ?_ ?_
  · exact congrArg (half · r.val) (X0_at m c t p (by rw [hm]; exact hp) _ k)
  · exact pick_at m c t ht h k b s hs

/-- A kept buffer read by numbers, at coordinates. -/
theorem rd_of (P : S3x672x512.Idx → EReal) (h : Fin 3) (r : ℕ) (r' : Fin 672) (e : r = r'.val) (b : Fin 512) :
    rd P h.val r b = P (ix3 h r' b) := by
  subst e
  exact (eq_rd P h r'.val r'.isLt b).symm

/-- A third's convolution at an entry of an output's block, from the arrays. -/
theorem conv3_at (t s : Fin cfg0.N) (hs : s.val = t.val - 1) (ht : 1 ≤ t.val) (x : S3x512.Idx → EReal) (h : Fin 3)
    (n : ℕ) (hn : n < 640) (b : Fin 512) (hp : (t.val - 1) % 52 < 52) (g : Fin 12288)
    (hg : g.val = h.val * 4096 + ((t.val - 1) / 52 * 512 + b.val)) (hx : ∀ k, x (ix2 k b) = argK m c (ix2 k g)) :
    conv3 x (products m c s) h.val n b
      = conv (argK m c (ix2 0 g)) (argK m c (ix2 1 g)) (argK m c (ix2 2 g))
          (proj (argX m c) (argW m c) ⟨_, hp⟩ ⟨15 + n, by omega⟩ g) (proj (argX m c) (argW m c) ⟨_, hp⟩ ⟨16 + n, by omega⟩ g)
          (proj (argX m c) (argW m c) ⟨_, hp⟩ ⟨17 + n, by omega⟩ g) := by
  have hN : t.val < 417 := lt_of_lt_of_eq t.isLt N_0
  have G : ∀ (n : ℕ) (r : Fin 672), n = r.val → rd (products m c s) h.val n b = proj (argX m c) (argW m c) ⟨_, hp⟩ r g :=
    fun n r e => (rd_of _ h n r e b).trans
      (products_at m c s (by omega) ⟨_, hp⟩ (by rw [hs]) h r b g (by rw [hs, hg]))
  unfold conv3
  rw [hx, hx, hx, G (15 + n) ⟨15 + n, by omega⟩ rfl, G (16 + n) ⟨16 + n, by omega⟩ rfl, G (17 + n) ⟨17 + n, by omega⟩ rfl]

/-- The first output array: the reference's function of the arguments. -/
def outX : S33280x4096.Idx → EReal :=
  Cert.Reference6Ideal.Read.val_main_v30 (F := Ideal) (argX m c) (argW m c) (argK m c)

/-- The second output array: the reference's function of the arguments. -/
def outV : S33280x4096.Idx → EReal :=
  Cert.Reference6Ideal.Read.val_main_v33 (F := Ideal) (argX m c) (argW m c) (argK m c)

/-- What a grid point after the first writes back is its block of the first output array. -/
theorem flushed7_eq (t : Fin cfg0.N) (hf : (cfg0.win 7).flush t = true) :
    (dats m 0 c).flushed 7 t = ((cfg0.win 7).blk t).view.read (Elt Ideal) (outX m c) := by
  have ht : 1 ≤ t.val := of_decide_eq_true ((flush7 t).symm.trans hf)
  have hN : t.val < 417 := lt_of_lt_of_eq t.isLt N_0
  have hs : t.val - 1 < cfg0.N := lt_of_le_of_lt (Nat.sub_le _ _) t.isLt
  show (cfg0.win 7).cut (grid0.coords t) ((dats m 0 c).after 7 t) = _
  rw [after0_7, (stored m c t ⟨t.val - 1, hs⟩ rfl ht).1]
  funext y
  rw [View.read_apply]
  have y0 : (y 0).val < 640 := lt_of_lt_of_eq (y 0).isLt (xsize7 t 0)
  have y1 : (y 1).val < 512 := lt_of_lt_of_eq (y 1).isLt (xsize7 t 1)
  obtain ⟨i0, i1⟩ := index7 t
  have e0 : ((((cfg0.win 7).blk t).view.emb y) 0).val = (t.val - 1) % 52 * 640 + (y 0).val := by
    show win0_7.index t 0 * 640 + 1 * (y 0).val = _
    rw [i0, Nat.one_mul]
  have e1 : ((((cfg0.win 7).blk t).view.emb y) 1).val = (t.val - 1) / 52 * 512 + (y 1).val := by
    show win0_7.index t 1 * 512 + 1 * (y 1).val = _
    rw [i1, Nat.one_mul]
  have hp : (t.val - 1) % 52 < 52 := by omega
  have hg : 0 + ((t.val - 1) / 52 * 512 + (y 1).val) < 12288 := by omega
  refine (conv3_at m c t ⟨t.val - 1, hs⟩ rfl ht _ 0 (y 0).val y0 ⟨(y 1).val, y1⟩ hp ⟨_, hg⟩ rfl
    fun k => X4_at m c t k _ _ rfl).trans (Eq.symm ?_)
  refine ref_first (argX m c) (argW m c) (argK m c) (((cfg0.win 7).blk t).view.emb y) ⟨_, hp⟩ ⟨15 + (y 0).val, by omega⟩
    ⟨16 + (y 0).val, by omega⟩ ⟨17 + (y 0).val, by omega⟩ ⟨_, hg⟩ ?_ ?_ ?_ ?_ ?_
  · rw [e0]
    show _ = (t.val - 1) % 52
    omega
  · rw [e0]
    show _ = 16 + (y 0).val
    omega
  · show 15 + (y 0).val + 1 = 16 + (y 0).val
    omega
  · show 16 + (y 0).val + 1 = 17 + (y 0).val
    omega
  · rw [e1]
    exact (Nat.zero_add _).symm

/-- What a grid point after the first writes back is its block of the second output array. -/
theorem flushed8_eq (t : Fin cfg0.N) (hf : (cfg0.win 8).flush t = true) :
    (dats m 0 c).flushed 8 t = ((cfg0.win 8).blk t).view.read (Elt Ideal) (outV m c) := by
  have ht : 1 ≤ t.val := of_decide_eq_true ((flush8 t).symm.trans hf)
  have hN : t.val < 417 := lt_of_lt_of_eq t.isLt N_0
  have hs : t.val - 1 < cfg0.N := lt_of_le_of_lt (Nat.sub_le _ _) t.isLt
  show (cfg0.win 8).cut (grid0.coords t) ((dats m 0 c).after 8 t) = _
  rw [after0_8, (stored m c t ⟨t.val - 1, hs⟩ rfl ht).2]
  funext y
  rw [View.read_apply]
  have y0 : (y 0).val < 640 := lt_of_lt_of_eq (y 0).isLt (xsize8 t 0)
  have y1 : (y 1).val < 512 := lt_of_lt_of_eq (y 1).isLt (xsize8 t 1)
  obtain ⟨i0, i1⟩ := index8 t
  have e0 : ((((cfg0.win 8).blk t).view.emb y) 0).val = (t.val - 1) % 52 * 640 + (y 0).val := by
    show win0_8.index t 0 * 640 + 1 * (y 0).val = _
    rw [i0, Nat.one_mul]
  have e1 : ((((cfg0.win 8).blk t).view.emb y) 1).val = (t.val - 1) / 52 * 512 + (y 1).val := by
    show win0_8.index t 1 * 512 + 1 * (y 1).val = _
    rw [i1, Nat.one_mul]
  have hp : (t.val - 1) % 52 < 52 := by omega
  have hg : 4096 + ((t.val - 1) / 52 * 512 + (y 1).val) < 12288 := by omega
  have hv : 8192 + ((t.val - 1) / 52 * 512 + (y 1).val) < 12288 := by omega
  refine (congrArg₂ (· * ·)
    (conv3_at m c t ⟨t.val - 1, hs⟩ rfl ht _ 2 (y 0).val y0 ⟨(y 1).val, y1⟩ hp ⟨_, hv⟩ rfl fun k => X6_at m c t k _ _ rfl)
    (conv3_at m c t ⟨t.val - 1, hs⟩ rfl ht _ 1 (y 0).val y0 ⟨(y 1).val, y1⟩ hp ⟨_, hg⟩ rfl fun k => X5_at m c t k _ _ rfl)).trans
    (Eq.symm ?_)
  refine ref_second (argX m c) (argW m c) (argK m c) (((cfg0.win 8).blk t).view.emb y) ⟨_, hp⟩ ⟨15 + (y 0).val, by omega⟩
    ⟨16 + (y 0).val, by omega⟩ ⟨17 + (y 0).val, by omega⟩ ⟨_, hg⟩ ⟨_, hv⟩ ?_ ?_ ?_ ?_ ?_ ?_
  · rw [e0]
    show _ = (t.val - 1) % 52
    omega
  · rw [e0]
    show _ = 16 + (y 0).val
    omega
  · show 15 + (y 0).val + 1 = 16 + (y 0).val
    omega
  · show 16 + (y 0).val + 1 = 17 + (y 0).val
    omega
  · rw [e1]
    exact Nat.add_comm _ _
  · rw [e1]
    exact Nat.add_comm _ _

/-- The grid point that writes an entry of an output's block. -/
theorem point_lt (i : S33280x4096.Idx) : (i 1).val / 512 * 52 + (i 0).val / 640 + 1 < cfg0.N := by
  have h0 : (i 0).val < 33280 := (i 0).isLt
  have h1 : (i 1).val < 4096 := (i 1).isLt
  exact lt_of_lt_of_eq (show (i 1).val / 512 * 52 + (i 0).val / 640 + 1 < 417 by omega) N_0.symm

/-- THE FIRST OUTPUT ARRAY at the end of the grid. -/
theorem final7 : (dats m 0 c).arrAt 7 cfg0.N = outX m c := by
  funext i
  have h0 : (i 0).val < 33280 := (i 0).isLt
  have h1 : (i 1).val < 4096 := (i 1).isLt
  have hN := point_lt i
  refine (dats m 0 c).arrAt_apply_of_mem 7 (outX m c) (fun t hf => flushed7_eq m c t hf) cfg0.N ⟨_, hN⟩ i hN
    ((flush7 _).trans (decide_eq_true (Nat.le_add_left _ _))) ?_
  show i ∈ ((View.whole main_v1_0).slice (win0_7.rect ⟨_, hN⟩)).set
  rw [View.set_slice_whole, Rect.mem_set_unit]
  obtain ⟨i0, i1⟩ := index7 ⟨_, hN⟩
  intro a
  match a with
  | ⟨0, _⟩ =>
    show win0_7.index ⟨_, hN⟩ 0 * 640 ≤ (i 0).val
      ∧ (i 0).val < win0_7.index ⟨_, hN⟩ 0 * 640 + (cfg0.win 7).xsize (cfg0.grid.coords ⟨_, hN⟩) 0
    rw [i0, xsize7 ⟨_, hN⟩ 0]
    show ((i 1).val / 512 * 52 + (i 0).val / 640 + 1 - 1) % 52 * 640 ≤ (i 0).val
      ∧ (i 0).val < ((i 1).val / 512 * 52 + (i 0).val / 640 + 1 - 1) % 52 * 640 + 640
    omega
  | ⟨1, _⟩ =>
    show win0_7.index ⟨_, hN⟩ 1 * 512 ≤ (i 1).val
      ∧ (i 1).val < win0_7.index ⟨_, hN⟩ 1 * 512 + (cfg0.win 7).xsize (cfg0.grid.coords ⟨_, hN⟩) 1
    rw [i1, xsize7 ⟨_, hN⟩ 1]
    show ((i 1).val / 512 * 52 + (i 0).val / 640 + 1 - 1) / 52 * 512 ≤ (i 1).val
      ∧ (i 1).val < ((i 1).val / 512 * 52 + (i 0).val / 640 + 1 - 1) / 52 * 512 + 512
    omega

/-- THE SECOND OUTPUT ARRAY at the end of the grid. -/
theorem final8 : (dats m 0 c).arrAt 8 cfg0.N = outV m c := by
  funext i
  have h0 : (i 0).val < 33280 := (i 0).isLt
  have h1 : (i 1).val < 4096 := (i 1).isLt
  have hN := point_lt i
  refine (dats m 0 c).arrAt_apply_of_mem 8 (outV m c) (fun t hf => flushed8_eq m c t hf) cfg0.N ⟨_, hN⟩ i hN
    ((flush8 _).trans (decide_eq_true (Nat.le_add_left _ _))) ?_
  show i ∈ ((View.whole main_v1_1).slice (win0_8.rect ⟨_, hN⟩)).set
  rw [View.set_slice_whole, Rect.mem_set_unit]
  obtain ⟨i0, i1⟩ := index8 ⟨_, hN⟩
  intro a
  match a with
  | ⟨0, _⟩ =>
    show win0_8.index ⟨_, hN⟩ 0 * 640 ≤ (i 0).val
      ∧ (i 0).val < win0_8.index ⟨_, hN⟩ 0 * 640 + (cfg0.win 8).xsize (cfg0.grid.coords ⟨_, hN⟩) 0
    rw [i0, xsize8 ⟨_, hN⟩ 0]
    show ((i 1).val / 512 * 52 + (i 0).val / 640 + 1 - 1) % 52 * 640 ≤ (i 0).val
      ∧ (i 0).val < ((i 1).val / 512 * 52 + (i 0).val / 640 + 1 - 1) % 52 * 640 + 640
    omega
  | ⟨1, _⟩ =>
    show win0_8.index ⟨_, hN⟩ 1 * 512 ≤ (i 1).val
      ∧ (i 1).val < win0_8.index ⟨_, hN⟩ 1 * 512 + (cfg0.win 8).xsize (cfg0.grid.coords ⟨_, hN⟩) 1
    rw [i1, xsize8 ⟨_, hN⟩ 1]
    show ((i 1).val / 512 * 52 + (i 0).val / 640 + 1 - 1) / 52 * 512 ≤ (i 1).val
      ∧ (i 1).val < ((i 1).val / 512 * 52 + (i 0).val / 640 + 1 - 1) / 52 * 512 + 512
    omega

/-- The kernel's run: its output arrays are the reference's functions of its arguments, which end as launched. -/
theorem run_blocks (ρ : Dev nD → PrngReg) :
    θ_run defs (onTc (τ := τ) (main (F := Ideal))) ⟨m, fun _ => 0, ρ⟩ fun r => ∀ c : Dev nD,
      r.2.mem (c.tc.loc main_v1_0) = outX m c
      ∧ r.2.mem (c.tc.loc main_v1_1) = outV m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun _ h c => ⟨((h c).1 7).trans (final7 m c), ((h c).1 8).trans (final8 m c),
      ((h c).1 0).trans (((dats m 0 c).arrAt_in 0 rfl _).trans ((A_eq m c 0).trans (Gen.V_main_arg0 m c))),
      ((h c).2 main_arg1 (Pipeline.mem_restRefs_of main_arg1 (by decide) (by decide))).trans (Gen.V_main_arg1 m c),
      ((h c).1 4).trans (((dats m 0 c).arrAt_in 4 rfl _).trans ((A_eq m c 4).trans (Gen.V_main_arg2 m c)))⟩)
    (run_main m ρ)

/-- The ideal kernel's frame. -/
theorem frame_pi : Cert.quiescent_Kernel6Ideal := fun m g _ => Cert.Kernel6Ideal.Gen.frame m g

/-- The reference's frame. -/
theorem frame_ri : Cert.quiescent_Reference6Ideal := fun m g _ =>
  (θ_run Cert.Reference6Ideal.defs _ _).mono
    (fun r h => ⟨fun c => (h c).2.2, sem_eq_zero_of_no_sems (by decide) r.2⟩)
    (Cert.Reference6Ideal.Value.run (F := Ideal) m g)

/-- THE VALUE: kernel and reference compute the same two functions of the arguments. -/
theorem algebraic : Cert.algebraic_Kernel6Ideal_Reference6Ideal := by
  intro m g m' g' _ hagree
  refine ⟨fun c => outX m c, fun c => outV m c, run_blocks m g, ?_⟩
  refine (θ_run Cert.Reference6Ideal.defs _ _).mono
    (fun _ h c => ⟨(h c).1.trans ?_, (h c).2.1.trans ?_, (h c).2.2⟩) (Cert.Reference6Ideal.Value.run (F := Ideal) m' g')
  · rw [Cert.Reference6Ideal.Read.val_main_v30_eq, (hagree c).1, (hagree c).2.1, (hagree c).2.2]
    rfl
  · rw [Cert.Reference6Ideal.Read.val_main_v33_eq, (hagree c).1, (hagree c).2.1, (hagree c).2.2]
    rfl

end Cert.Hy

end
-- ==== Proof.HyTransfer.lean ====
/-
  The Hyena input product's kernel and its ideal form are the same program, so the frame of one is that of the other.
-/
module

public import proofs.«01_k».proof.Defs
public import proofs.«01_k».proof.Proof.Gen.Kernel6Ideal.Frame
public import proofs.«01_k».proof.Proof.Gen.Kernel6
public import proofs.«01_k».proof.Proof.Gen.Kernel6Ideal

@[expose] public section

noncomputable section

namespace Cert.Hy

open Idealize.ShloMosaic

set_option maxHeartbeats 4000000 in
/-- The two programs' bodies are the same. -/
theorem defs0_eq {F : FTy → Type} [FloatOps F] : (Cert.Kernel6.defs₀ (F := F)) = Cert.Kernel6Ideal.defs₀ (F := F) := by
  unfold Cert.Kernel6.defs₀ Cert.Kernel6Ideal.defs₀
  refine congrArg Defs.onTc (funext fun l => funext fun x => ?_)
  match l, x with
  | 0, (t, s) => rfl
  | ⟨_ + 1, h⟩, _ => exact absurd h (Nat.not_lt.2 (Nat.le_add_left _ _))

set_option maxHeartbeats 4000000 in
/-- With the launch around them, too. -/
theorem defs_eq {F : FTy → Type} [FloatOps F] : (Cert.Kernel6.defs (F := F)) = Cert.Kernel6Ideal.defs (F := F) :=
  congrArg (Pipeline.defs Cert.Kernel6Ideal.pcfgs) defs0_eq

set_option maxHeartbeats 4000000 in
/-- The kernel's frame, over bits. -/
theorem frame_p : Cert.quiescent_Kernel6 := fun m g _ => by
  have h := Cert.Kernel6Ideal.Gen.frame (F := Bits) m g
  rw [← defs_eq] at h
  exact h

end Cert.Hy

end
-- ==== Proof.Norm.lean ====
/-
  The root-mean-square norm of one row over the extended reals, and the body of the kernel's last norm read at an entry.
-/
module

public import proofs.«01_k».proof.Proof.Gen.Kernel7Ideal.Value
public import Idealize.ShloMosaic.Lib.Pipeline.ValueKit.Basic
public import Idealize.ShloMosaic.Lib.Pointwise

@[expose] public section

noncomputable section

open scoped BigOperators

namespace Cert.Norm

open Idealize.ShloMosaic Cert.Kernel7Ideal Cert.Kernel7Ideal.Gen

/-- One entry of the norm of the row `x`: the entry, over the root of the row's mean square plus a small constant, times the
weight `g`. -/
def normAt (x : Fin 4096 → EReal) (g : EReal) (s : Fin 4096) : EReal :=
  x s * (FloatOps.rsqrt (F := Ideal) (φ := .f32) (FloatOps.addf (F := Ideal) (φ := .f32) (FloatOps.divf (F := Ideal) (φ := .f32)
    (∑ k : Fin 4096, x k * x k) (Ideal.ofBits .f32 0x45800000#32)) (Ideal.ofBits .f32 0x358637BD#32))) * g

/-- The block a grid point stores, read at an entry: the norm of the row. -/
theorem out_at (x0 : Vec Ideal S256x4096 .f32) (x1 : Vec Ideal S1x4096 .f32) (a : Fin 256) (b : Fin 4096) :
    out0_2 (F := Ideal) x0 x1 (ix2 a b) = normAt (fun k => x0 (ix2 a k)) (x1 (ix2 0 b)) b := by
  unfold out0_2
  rw [View.canon_cons_unit_lit _ _ _ (by decide), View.ld_unit_lit _ _ (by decide), View.ld_unit_lit _ _ (by decide)]
  unfold normAt
  pointwise [k0_pay1]

/-- The norm's output array: row `r` is the norm of row `src r` of the input. -/
def normArr (src : Fin 16384 → Fin 33280) (X : S33280x4096.Idx → EReal) (G : S4096.Idx → EReal) : S16384x4096.Idx → EReal :=
  fun i => normAt (fun k => X (ix2 (src (i 0)) k)) (G (ix1 (i 1))) (i 1)

/-- A block computed from the arrays' entries holds the output array's entry. -/
theorem block_of (src : Fin 16384 → Fin 33280) (X : S33280x4096.Idx → EReal) (G : S4096.Idx → EReal)
    (x0 : Vec Ideal S256x4096 .f32) (x1 : Vec Ideal S1x4096 .f32) (a : Fin 256) (b : Fin 4096) (i : S16384x4096.Idx)
    (hb : b = i 1) (h0 : ∀ k : Fin 4096, x0 (ix2 a k) = X (ix2 (src (i 0)) k)) (h1 : x1 (ix2 0 b) = G (ix1 b)) :
    out0_2 (F := Ideal) x0 x1 (ix2 a b) = normArr src X G i := by
  rw [out_at, h1, funext h0, hb]
  rfl

/-- The weights laid out as one row, read at an entry. -/
theorem weights_row (G : S4096.Idx → EReal) (b : Fin 4096) :
    shapeCast S1x4096 (G : FVec Ideal S4096 .f32) shapeCasts_S4096_S1x4096 (ix2 0 b) = G (ix1 b) := by
  refine shapeCast_apply _ _ (ix2 0 b) (ix1 b) ?_
  rw [Shape.rowMajor_val_one, Shape.rowMajor_val_two]
  show b.val = 0 * 4096 + b.val
  omega

/-- A row of the output lies in the block of 256 rows that is counted off for it. -/
theorem mem_block (i : S16384x4096.Idx) (u v : ℕ) (hu : u = (i 0).val / 256) (hv : v = 0) :
    (u * 256 ≤ (i 0).val ∧ (i 0).val < u * 256 + 256) ∧ (v * 4096 ≤ (i 1).val ∧ (i 1).val < v * 4096 + 4096) := by
  have h1 : (i 1).val < 4096 := (i 1).isLt
  omega

/-- The plain norm, with its sum starting from zero, is `normAt`. -/
theorem norm_eq (x : Fin 4096 → EReal) (g : EReal) (s : Fin 4096) :
    FloatOps.mulf (F := Ideal) (φ := .f32) (FloatOps.mulf (F := Ideal) (φ := .f32) (x s) (FloatOps.hostUnary (F := Ideal) (φ := .f32)
      .rsqrt (FloatOps.addf (F := Ideal) (φ := .f32) (FloatOps.hostDivf (F := Ideal) (φ := .f32)
        (Ideal.ofBits .f32 0x00000000#32 + ∑ k : Fin 4096, FloatOps.mulf (F := Ideal) (φ := .f32) (x k) (x k))
        (Ideal.ofBits .f32 0x45800000#32)) (Ideal.ofBits .f32 0x358637BD#32)))) g = normAt x g s := by
  rw [Ideal.ofBits_zero, zero_add]
  rfl

end Cert.Norm

end
-- ==== Proof.NormPrompt.lean ====
/-
  The last norm of the prompt: the kernel's output array is, entry by entry, the reference's.
-/
module

public import proofs.«01_k».proof.Defs
public import proofs.«01_k».proof.Proof.Norm
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import Idealize.ShloMosaic.Adequacy
public import Idealize.ShloMosaic.Init

@[expose] public section

noncomputable section

open scoped BigOperators

namespace Cert.NormPrompt

open Idealize.ShloMosaic Idealize.ShloMosaic.Pipeline Idealize.SL.Sem Cert.Kernel7Ideal Cert.Kernel7Ideal.Gen
open Cert.Norm (normArr block_of weights_row mem_block norm_eq)

/-- The input's block at a grid point: 256 tokens of one sequence of the prompt, every column. -/
theorem index0 : ∀ t : Fin cfg0.N, win0_0.index t 0 = 32 + 2080 * (t.val / 8) + 256 * (t.val % 8) ∧ win0_0.index t 1 = 0 := by
  decide +kernel

/-- The weights' block at a grid point: all of them. -/
theorem index1 : ∀ t : Fin cfg0.N, win0_1.index t 0 = 0 ∧ win0_1.index t 1 = 0 := by decide +kernel

/-- The output's block at a grid point. -/
theorem index2 : ∀ t : Fin cfg0.N, win0_2.index t 0 = t.val ∧ win0_2.index t 1 = 0 := by decide +kernel

/-- The input row that an output row is the norm of. -/
def src (r : Fin 16384) : Fin 33280 := ⟨32 + 2080 * (r.val / 2048) + r.val % 2048, by omega⟩

variable (m : (ℓ : Loc nD τ sig) → Buf (Elt Ideal) ℓ) (c : Dev nD)

/-- The hidden states a device is launched with. -/
def argX : S33280x4096.Idx → EReal := m (c.tc.loc main_arg0)

/-- The weights it is launched with. -/
def argG : S4096.Idx → EReal := m (c.tc.loc main_arg1)

/-- The output array. -/
def outG : S16384x4096.Idx → EReal := normArr src (argX m c) (argG m c)

/-- The host code's row of weights is the weights. -/
theorem V_main_v0 (b : Fin 4096) : (V m c main_v0 : S1x4096.Idx → EReal) (ix2 0 b) = argG m c (ix1 b) := by
  unfold V
  simp only [hostOps0]
  after_results
  exact weights_row (argG m c) b

/-- Window 0's block, read off the hidden states. -/
theorem blk0 (t : Fin cfg0.N) (a : Fin 256) (k : Fin 4096) (r : Fin 16384) (hr : r.val = t.val * 256 + a.val) :
    (iblk m c 0 t : S256x4096.Idx → EReal) (ix2 a k) = argX m c (ix2 (src r) k) := by
  unfold iblk
  rw [View.read_apply]
  show V m c main_arg0 _ = _
  rw [V_main_arg0]
  have ha := a.isLt
  refine congrArg (argX m c) ((eq_ix2 _).trans (congrArg₂ ix2 (Fin.ext ?_) (Fin.ext ?_)))
  · show win0_0.index t 0 + 1 * a.val = 32 + 2080 * (r.val / 2048) + r.val % 2048
    rw [(index0 t).1, hr]
    omega
  · show win0_0.index t 1 + 1 * k.val = _
    rw [(index0 t).2, Nat.one_mul, Nat.zero_add]

/-- Window 1's block, read off the weights. -/
theorem blk1 (t : Fin cfg0.N) (b : Fin 4096) : (iblk m c 1 t : S1x4096.Idx → EReal) (ix2 0 b) = argG m c (ix1 b) := by
  unfold iblk
  rw [View.read_apply, ← V_main_v0]
  refine congrArg (V m c main_v0 : S1x4096.Idx → EReal) ((eq_ix2 _).trans (congrArg₂ ix2 (Fin.ext ?_) (Fin.ext ?_)))
  · show win0_1.index t 0 * 1 + 1 * 0 = _
    rw [(index1 t).1]
    rfl
  · show win0_1.index t 1 * 4096 + 1 * b.val = _
    rw [(index1 t).2, Nat.one_mul, Nat.zero_mul, Nat.zero_add]

/-- What a grid point writes back is its block of the output array. -/
theorem flushed_eq (t : Fin cfg0.N) :
    (dats m 0 c).flushed 2 t = ((cfg0.win 2).blk t).view.read (Elt Ideal) (outG m c) := by
  rw [Value.flushed2]
  funext y
  rw [View.read_apply]
  obtain ⟨i0, i1⟩ := index2 t
  have e0 : ((((cfg0.win 2).blk t).view.emb y) 0).val = t.val * 256 + (y 0).val := by
    show win0_2.index t 0 * 256 + 1 * (y 0).val = _
    rw [i0, Nat.one_mul]
  have e1 : ((((cfg0.win 2).blk t).view.emb y) 1).val = (y 1).val := by
    show win0_2.index t 1 * 4096 + 1 * (y 1).val = _
    rw [i1, Nat.one_mul, Nat.zero_mul, Nat.zero_add]
  show out0_2 (F := Ideal) _ _ y = outG m c _
  refine (congrArg _ (eq_ix2 y)).trans ?_
  exact block_of src (argX m c) (argG m c) _ _ (y 0) (y 1) _ (Fin.ext e1.symm) (fun k => blk0 m c t _ k _ e0) (blk1 m c t _)

/-- THE OUTPUT ARRAY at the end of the grid. -/
theorem final : (dats m 0 c).arrAt 2 cfg0.N = outG m c :=
  (dats m 0 c).arrAt_eq_of_cover 2 (outG m c) (fun t _ => flushed_eq m c t) fun i => by
    have h0 : (i 0).val < 16384 := (i 0).isLt
    have ht : (i 0).val / 256 < 64 := by omega
    refine ⟨⟨_, ht⟩, flush0_2 _, ?_⟩
    show i ∈ ((View.whole main_v1).slice (win0_2.rect ⟨_, ht⟩)).set
    rw [View.set_slice_whole, Rect.mem_set_unit]
    have h := mem_block i _ _ (index2 ⟨_, ht⟩).1 (index2 ⟨_, ht⟩).2
    intro a
    match a with
    | ⟨0, _⟩ => exact h.1
    | ⟨1, _⟩ => exact h.2

open Cert.Reference7Ideal.Read in
/-- The reference's sequences without their unused rows, read at an entry. -/
theorem ref_rows (X : FVec Ideal S33280x4096 .f32) (i : Cert.Reference7Ideal.S8x2064x4096.Idx) (r : Fin 33280)
    (hr : r.val = 2080 * (i 0).val + 16 + (i 1).val) : val_main_v2 (F := Ideal) X i = X (ix2 r (i 2)) := by
  have h0 : (i 0).val < 8 := (i 0).isLt
  have h1 : (i 1).val < 2064 := (i 1).isLt
  have h2 : (i 2).val < 4096 := (i 2).isLt
  rw [val_main_v2_apply, val_main_v1_apply, val_main_v0_apply]
  refine congrArg X ((eq_ix2 _).trans (congrArg₂ ix2 (Fin.ext ?_) (Fin.ext ?_)))
  · show (((i 0).val * 2080 + (16 + (i 1).val)) * 4096 + (i 2).val) / 4096 = r.val
    omega
  · show (((i 0).val * 2080 + (16 + (i 1).val)) * 4096 + (i 2).val) % 4096 = (i 2).val
    omega

/-- The reference's output as a function of its two arguments. -/
abbrev refOut (X : FVec Ideal S33280x4096 .f32) (G : FVec Ideal S4096 .f32) : FVec Ideal S16384x4096 .f32 :=
  Cert.Reference7Ideal.Read.val_main_v17 (F := Ideal) X G

open Cert.Reference7Ideal.Read in
/-- The reference's output, read at an entry. -/
theorem ref_at (X : FVec Ideal S33280x4096 .f32) (G : FVec Ideal S4096 .f32) (i : S16384x4096.Idx) :
    refOut X G i = normArr src X G i := by
  have h0 : (i 0).val < 16384 := (i 0).isLt
  have h1 : (i 1).val < 4096 := (i 1).isLt
  have e1 : ((i 0).val * 4096 + (i 1).val) % 4096 = (i 1).val := by omega
  have er : ∀ k : Fin 4096, val_main_v2 (F := Ideal) X (idx_main_v4 (idx_main_v5 (idx_main_v11 (idx_main_v16 (idx_main_v17 i)))) k)
      = X (ix2 (src (i 0)) k) := fun k => ref_rows X _ _ (by
    show 32 + 2080 * ((i 0).val / 2048) + (i 0).val % 2048
      = 2080 * (((i 0).val * 4096 + (i 1).val) / 8388608) + 16 + (16 + ((i 0).val * 4096 + (i 1).val) / 4096 % 2048)
    omega)
  have ex : val_main_v2 (F := Ideal) X (idx_main_v16 (idx_main_v17 i)) = X (ix2 (src (i 0)) (i 1)) :=
    (congrArg _ (funext fun a => Fin.ext (match a with
      | ⟨0, _⟩ => rfl
      | ⟨1, _⟩ => rfl
      | ⟨2, _⟩ => e1))).trans (er (i 1))
  have eg : val_main_v14 (F := Ideal) G (idx_main_v16 (idx_main_v17 i)) = G (ix1 (i 1)) := by
    rw [val_main_v14_apply, val_main_v13_apply]
    exact congrArg G (funext fun a => Fin.ext (match a with | ⟨0, _⟩ => e1))
  unfold refOut
  rw [val_main_v17_apply, val_main_v16_apply, val_main_v15_apply, val_main_v12_apply, eg, ex, val_main_v11_apply,
    val_main_v10_apply, val_main_v9_apply, val_main_v8_apply, val_main_cst_1_apply, val_main_v7_apply, val_main_v6_apply,
    val_main_cst_0_apply, val_main_v5_apply, val_main_v4_apply, val_main_cst_apply]
  simp only [val_main_v3_apply, er]
  exact norm_eq (fun k => X (ix2 (src (i 0)) k)) (G (ix1 (i 1))) (i 1)

/-- The kernel's output array is the reference's. -/
theorem ker_out : outG m c = refOut (m (c.tc.loc main_arg0)) (m (c.tc.loc main_arg1)) :=
  funext fun i => (ref_at _ _ i).symm

/-- The kernel's frame. -/
theorem frame_p : Cert.quiescent_Kernel7 := fun m g _ => Cert.Kernel7.Gen.frame m g

/-- The ideal kernel's frame. -/
theorem frame_pi : Cert.quiescent_Kernel7Ideal := fun m g _ => Cert.Kernel7Ideal.Gen.frame m g

/-- The reference's frame. -/
theorem frame_ri : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

/-- THE VALUE: kernel and reference compute the same function of the arguments. -/
theorem algebraic : Cert.algebraic_Kernel7Ideal_Reference7Ideal := by
  intro m g m' g' _ hagree
  refine ⟨fun c => refOut (m (c.tc.loc main_arg0)) (m (c.tc.loc main_arg1)), ?_, ?_⟩
  · exact (θ_run Cert.Kernel7Ideal.defs _ _).mono
      (fun _ h c => ⟨((h c).1.trans (final m c)).trans (ker_out m c), (h c).2.1, (h c).2.2⟩)
      (Value.run_blocks m g)
  · refine (θ_run Cert.Reference7Ideal.defs _ _).mono (fun _ h c => ⟨(h c).1.trans ?_, (h c).2⟩)
      (Cert.Reference7Ideal.Value.run (F := Ideal) m' g')
    rw [Cert.Reference7Ideal.Read.val_main_v17_eq]
    obtain ⟨a0, a1⟩ := hagree c
    rw [a0, a1]

end Cert.NormPrompt

end
-- ==== Proof.NormSample.lean ====
/-
  The last norm of the sample: the kernel's output array is, entry by entry, the reference's.
-/
module

public import proofs.«01_k».proof.Defs
public import proofs.«01_k».proof.Proof.Norm
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import Idealize.ShloMosaic.Adequacy
public import Idealize.ShloMosaic.Init

@[expose] public section

noncomputable section

open scoped BigOperators

namespace Cert.NormSample

open Idealize.ShloMosaic Idealize.ShloMosaic.Pipeline Idealize.SL.Sem Cert.Kernel8Ideal Cert.Kernel8Ideal.Gen
open Cert.Norm (normArr block_of weights_row mem_block norm_eq)

/-- The input's block at a grid point: 256 tokens of one sequence of the sample, every column. -/
theorem index0 : ∀ t : Fin cfg0.N, win0_0.index t 0 = 16672 + 8224 * (t.val / 32) + 256 * (t.val % 32) ∧ win0_0.index t 1 = 0 := by
  decide +kernel

/-- The weights' block at a grid point: all of them. -/
theorem index1 : ∀ t : Fin cfg0.N, win0_1.index t 0 = 0 ∧ win0_1.index t 1 = 0 := by decide +kernel

/-- The output's block at a grid point. -/
theorem index2 : ∀ t : Fin cfg0.N, win0_2.index t 0 = t.val ∧ win0_2.index t 1 = 0 := by decide +kernel

/-- The input row that an output row is the norm of. -/
def src (r : Fin 16384) : Fin 33280 := ⟨16672 + 8224 * (r.val / 8192) + r.val % 8192, by omega⟩

variable (m : (ℓ : Loc nD τ sig) → Buf (Elt Ideal) ℓ) (c : Dev nD)

/-- The hidden states a device is launched with. -/
def argX : S33280x4096.Idx → EReal := m (c.tc.loc main_arg0)

/-- The weights it is launched with. -/
def argG : S4096.Idx → EReal := m (c.tc.loc main_arg1)

/-- The output array. -/
def outG : S16384x4096.Idx → EReal := normArr src (argX m c) (argG m c)

/-- The host code's row of weights is the weights. -/
theorem V_main_v0 (b : Fin 4096) : (V m c main_v0 : S1x4096.Idx → EReal) (ix2 0 b) = argG m c (ix1 b) := by
  unfold V
  simp only [hostOps0]
  after_results
  exact weights_row (argG m c) b

/-- Window 0's block, read off the hidden states. -/
theorem blk0 (t : Fin cfg0.N) (a : Fin 256) (k : Fin 4096) (r : Fin 16384) (hr : r.val = t.val * 256 + a.val) :
    (iblk m c 0 t : S256x4096.Idx → EReal) (ix2 a k) = argX m c (ix2 (src r) k) := by
  unfold iblk
  rw [View.read_apply]
  show V m c main_arg0 _ = _
  rw [V_main_arg0]
  have ha := a.isLt
  refine congrArg (argX m c) ((eq_ix2 _).trans (congrArg₂ ix2 (Fin.ext ?_) (Fin.ext ?_)))
  · show win0_0.index t 0 + 1 * a.val = 16672 + 8224 * (r.val / 8192) + r.val % 8192
    rw [(index0 t).1, hr]
    omega
  · show win0_0.index t 1 + 1 * k.val = _
    rw [(index0 t).2, Nat.one_mul, Nat.zero_add]

/-- Window 1's block, read off the weights. -/
theorem blk1 (t : Fin cfg0.N) (b : Fin 4096) : (iblk m c 1 t : S1x4096.Idx → EReal) (ix2 0 b) = argG m c (ix1 b) := by
  unfold iblk
  rw [View.read_apply, ← V_main_v0]
  refine congrArg (V m c main_v0 : S1x4096.Idx → EReal) ((eq_ix2 _).trans (congrArg₂ ix2 (Fin.ext ?_) (Fin.ext ?_)))
  · show win0_1.index t 0 * 1 + 1 * 0 = _
    rw [(index1 t).1]
    rfl
  · show win0_1.index t 1 * 4096 + 1 * b.val = _
    rw [(index1 t).2, Nat.one_mul, Nat.zero_mul, Nat.zero_add]

/-- What a grid point writes back is its block of the output array. -/
theorem flushed_eq (t : Fin cfg0.N) :
    (dats m 0 c).flushed 2 t = ((cfg0.win 2).blk t).view.read (Elt Ideal) (outG m c) := by
  rw [Value.flushed2]
  funext y
  rw [View.read_apply]
  obtain ⟨i0, i1⟩ := index2 t
  have e0 : ((((cfg0.win 2).blk t).view.emb y) 0).val = t.val * 256 + (y 0).val := by
    show win0_2.index t 0 * 256 + 1 * (y 0).val = _
    rw [i0, Nat.one_mul]
  have e1 : ((((cfg0.win 2).blk t).view.emb y) 1).val = (y 1).val := by
    show win0_2.index t 1 * 4096 + 1 * (y 1).val = _
    rw [i1, Nat.one_mul, Nat.zero_mul, Nat.zero_add]
  show out0_2 (F := Ideal) _ _ y = outG m c _
  refine (congrArg _ (eq_ix2 y)).trans ?_
  exact block_of src (argX m c) (argG m c) _ _ (y 0) (y 1) _ (Fin.ext e1.symm) (fun k => blk0 m c t _ k _ e0) (blk1 m c t _)

/-- THE OUTPUT ARRAY at the end of the grid. -/
theorem final : (dats m 0 c).arrAt 2 cfg0.N = outG m c :=
  (dats m 0 c).arrAt_eq_of_cover 2 (outG m c) (fun t _ => flushed_eq m c t) fun i => by
    have h0 : (i 0).val < 16384 := (i 0).isLt
    have ht : (i 0).val / 256 < 64 := by omega
    refine ⟨⟨_, ht⟩, flush0_2 _, ?_⟩
    show i ∈ ((View.whole main_v1).slice (win0_2.rect ⟨_, ht⟩)).set
    rw [View.set_slice_whole, Rect.mem_set_unit]
    have h := mem_block i _ _ (index2 ⟨_, ht⟩).1 (index2 ⟨_, ht⟩).2
    intro a
    match a with
    | ⟨0, _⟩ => exact h.1
    | ⟨1, _⟩ => exact h.2

open Cert.Reference8Ideal.Read in
/-- The reference's sequences without their unused rows, read at an entry. -/
theorem ref_rows (X : FVec Ideal S33280x4096 .f32) (i : Cert.Reference8Ideal.S2x8208x4096.Idx) (r : Fin 33280)
    (hr : r.val = 16640 + 8224 * (i 0).val + 16 + (i 1).val) : val_main_v2 (F := Ideal) X i = X (ix2 r (i 2)) := by
  have h0 : (i 0).val < 2 := (i 0).isLt
  have h1 : (i 1).val < 8208 := (i 1).isLt
  have h2 : (i 2).val < 4096 := (i 2).isLt
  rw [val_main_v2_apply, val_main_v1_apply, val_main_v0_apply]
  refine congrArg X ((eq_ix2 _).trans (congrArg₂ ix2 (Fin.ext ?_) (Fin.ext ?_)))
  · show 16640 + (((i 0).val * 8224 + (16 + (i 1).val)) * 4096 + (i 2).val) / 4096 = r.val
    omega
  · show (((i 0).val * 8224 + (16 + (i 1).val)) * 4096 + (i 2).val) % 4096 = (i 2).val
    omega

/-- The reference's output as a function of its two arguments. -/
abbrev refOut (X : FVec Ideal S33280x4096 .f32) (G : FVec Ideal S4096 .f32) : FVec Ideal S16384x4096 .f32 :=
  Cert.Reference8Ideal.Read.val_main_v17 (F := Ideal) X G

open Cert.Reference8Ideal.Read in
/-- The reference's output, read at an entry. -/
theorem ref_at (X : FVec Ideal S33280x4096 .f32) (G : FVec Ideal S4096 .f32) (i : S16384x4096.Idx) :
    refOut X G i = normArr src X G i := by
  have h0 : (i 0).val < 16384 := (i 0).isLt
  have h1 : (i 1).val < 4096 := (i 1).isLt
  have e1 : ((i 0).val * 4096 + (i 1).val) % 4096 = (i 1).val := by omega
  have er : ∀ k : Fin 4096, val_main_v2 (F := Ideal) X (idx_main_v4 (idx_main_v5 (idx_main_v11 (idx_main_v16 (idx_main_v17 i)))) k)
      = X (ix2 (src (i 0)) k) := fun k => ref_rows X _ _ (by
    show 16672 + 8224 * ((i 0).val / 8192) + (i 0).val % 8192
      = 16640 + 8224 * (((i 0).val * 4096 + (i 1).val) / 33554432) + 16 + (16 + ((i 0).val * 4096 + (i 1).val) / 4096 % 8192)
    omega)
  have ex : val_main_v2 (F := Ideal) X (idx_main_v16 (idx_main_v17 i)) = X (ix2 (src (i 0)) (i 1)) :=
    (congrArg _ (funext fun a => Fin.ext (match a with
      | ⟨0, _⟩ => rfl
      | ⟨1, _⟩ => rfl
      | ⟨2, _⟩ => e1))).trans (er (i 1))
  have eg : val_main_v14 (F := Ideal) G (idx_main_v16 (idx_main_v17 i)) = G (ix1 (i 1)) := by
    rw [val_main_v14_apply, val_main_v13_apply]
    exact congrArg G (funext fun a => Fin.ext (match a with | ⟨0, _⟩ => e1))
  unfold refOut
  rw [val_main_v17_apply, val_main_v16_apply, val_main_v15_apply, val_main_v12_apply, eg, ex, val_main_v11_apply,
    val_main_v10_apply, val_main_v9_apply, val_main_v8_apply, val_main_cst_1_apply, val_main_v7_apply, val_main_v6_apply,
    val_main_cst_0_apply, val_main_v5_apply, val_main_v4_apply, val_main_cst_apply]
  simp only [val_main_v3_apply, er]
  exact norm_eq (fun k => X (ix2 (src (i 0)) k)) (G (ix1 (i 1))) (i 1)

/-- The kernel's output array is the reference's. -/
theorem ker_out : outG m c = refOut (m (c.tc.loc main_arg0)) (m (c.tc.loc main_arg1)) :=
  funext fun i => (ref_at _ _ i).symm

/-- The kernel's frame. -/
theorem frame_p : Cert.quiescent_Kernel8 := fun m g _ => Cert.Kernel8.Gen.frame m g

/-- The ideal kernel's frame. -/
theorem frame_pi : Cert.quiescent_Kernel8Ideal := fun m g _ => Cert.Kernel8Ideal.Gen.frame m g

/-- The reference's frame. -/
theorem frame_ri : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

/-- THE VALUE: kernel and reference compute the same function of the arguments. -/
theorem algebraic : Cert.algebraic_Kernel8Ideal_Reference8Ideal := by
  intro m g m' g' _ hagree
  refine ⟨fun c => refOut (m (c.tc.loc main_arg0)) (m (c.tc.loc main_arg1)), ?_, ?_⟩
  · exact (θ_run Cert.Kernel8Ideal.defs _ _).mono
      (fun _ h c => ⟨((h c).1.trans (final m c)).trans (ker_out m c), (h c).2.1, (h c).2.2⟩)
      (Value.run_blocks m g)
  · refine (θ_run Cert.Reference8Ideal.defs _ _).mono (fun _ h c => ⟨(h c).1.trans ?_, (h c).2⟩)
      (Cert.Reference8Ideal.Value.run (F := Ideal) m' g')
    rw [Cert.Reference8Ideal.Read.val_main_v17_eq]
    obtain ⟨a0, a1⟩ := hagree c
    rw [a0, a1]

end Cert.NormSample

end
-- ==== Proof.NormValid.lean ====
/-
  The mask of the norm before a product: which rows of the packed hidden states hold a token.
-/
module

public import proofs.«01_k».proof.Proof.Gen.Kernel9Ideal.Frame
public import Idealize.ShloMosaic.Lib.Pointwise

@[expose] public section

noncomputable section

namespace Cert.NormRows

open Idealize.ShloMosaic Idealize.ShloMosaic.Pipeline Idealize.SL.Sem Cert.Kernel9Ideal Cert.Kernel9Ideal.Gen

/-- Row `r` holds a token: it is past the unused rows of its sequence of the prompt or of the sample. -/
def HasTok (r : ℕ) : Prop := r < 16640 ∧ 16 ≤ r % 2080 ∨ 16640 ≤ r ∧ r < 33088 ∧ 16 ≤ (r - 16640) % 8224

instance (r : ℕ) : Decidable (HasTok r) := inferInstanceAs (Decidable (_ ∨ _))

/-- The host code's remainder of a number by a positive one, as it is computed. -/
def remB (x d : BitVec 32) : BitVec 32 :=
  let e := Scalar.select (IntOp.cmpi .eq d 0#32) 1#32 d
  let q := IntOp.remsi .host x e
  Scalar.select (IntOp.andi (IntOp.cmpi .ne (IntOp.cmpi .slt q 0#32) (IntOp.cmpi .slt e 0#32)) (IntOp.cmpi .ne q 0#32))
    (IntOp.addi q e) q

/-- The host code's bit of a row, as it is computed. -/
def tokB (x : BitVec 32) : BitVec 1 :=
  IntOp.ori (IntOp.ori 0#1 (IntOp.andi (IntOp.andi (IntOp.cmpi .sge x 0#32) (IntOp.cmpi .slt x 16640#32))
      (IntOp.cmpi .sge (remB (IntOp.subi x 0#32) 2080#32) 16#32)))
    (IntOp.andi (IntOp.andi (IntOp.cmpi .sge x 16640#32) (IntOp.cmpi .slt x 33088#32))
      (IntOp.cmpi .sge (remB (IntOp.subi x 16640#32) 8224#32) 16#32))

/-- The host code's bit of a row says whether it holds a token. -/
theorem tokB_eq : ∀ a : Fin 16, ∀ b : Fin 2080,
    tokB (BitVec.ofNat 32 (2080 * a.val + b.val)) = if HasTok (2080 * a.val + b.val) then 1#1 else 0#1 := by
  decide +kernel

/-- The same, of a row counted from the first. -/
theorem tokB_row (r : Fin 33280) : tokB (BitVec.ofNat 32 r.val) = if HasTok r.val then 1#1 else 0#1 := by
  have h := tokB_eq ⟨r.val / 2080, by omega⟩ ⟨r.val % 2080, by omega⟩
  have e : 2080 * (r.val / 2080) + r.val % 2080 = r.val := by omega
  simp only [e] at h
  exact h

variable (m : (ℓ : Loc nD τ sig) → Buf (Elt Ideal) ℓ) (c : Dev nD)

/-- The mask that the host code leaves for the kernel. -/
def maskV : S33280x128.Idx → EReal := V m c main_v28

/-- The mask at an entry: the row's bit as a number. -/
theorem maskV_at (r : Fin 33280) (l : Fin 128) : maskV m c (ix2 r l) = FloatOps.uitofp (F := Ideal) .f32 (tokB (BitVec.ofNat 32 r.val)) := by
  unfold maskV V
  simp only [List.flatten_cons, List.flatten_nil, List.append_nil, List.cons_append, List.nil_append]
  after_results
  rfl

/-- The mask is positive on the rows that hold a token. -/
theorem maskV_pos (r : Fin 33280) (l : Fin 128) : 0 < maskV m c (ix2 r l) ↔ HasTok r.val := by
  rw [maskV_at, tokB_row]
  by_cases h : HasTok r.val
  · rw [if_pos h]
    refine iff_of_true ?_ h
    show (0 : EReal) < (((1#1 : BitVec 1).toNat : ℝ) : EReal)
    simp
  · rw [if_neg h]
    refine iff_of_false ?_ h
    show ¬(0 : EReal) < (((0#1 : BitVec 1).toNat : ℝ) : EReal)
    simp

end Cert.NormRows

end
-- ==== Proof.NormRowsRef.lean ====
/-
  The reference of the norm before a product, read at an entry.
-/
module

public import proofs.«01_k».proof.Proof.Norm
public import proofs.«01_k».proof.Proof.NormValid
public import proofs.«01_k».proof.Proof.Gen.Reference9Ideal.Read
public import Idealize.ShloMosaic.Lib.KernelVsHost
public import Idealize.ShloMosaic.Lib.Pipeline.Value

@[expose] public section

noncomputable section

open scoped BigOperators

namespace Cert.NormRows

open Idealize.ShloMosaic Cert.Reference9Ideal Cert.Reference9Ideal.Read
open Cert.Norm (normAt norm_eq)

/-- The output array: the norm of the row where it holds a token, zero elsewhere. -/
def rowsOut (X : S33280x4096.Idx → EReal) (G : S4096.Idx → EReal) : S33280x4096.Idx → EReal :=
  fun i => if HasTok (i 0).val then normAt (fun k => X (ix2 (i 0) k)) (G (ix1 (i 1))) (i 1) else 0

variable (X : FVec Ideal S33280x4096 .f32) (G : FVec Ideal S4096 .f32)

/-- The prompt's sequences without their unused rows, read at an entry. -/
theorem rows_p (i : S8x2064x4096.Idx) (r : Fin 33280) (hr : r.val = 2080 * (i 0).val + 16 + (i 1).val) :
    val_main_v2 (F := Ideal) X i = X (ix2 r (i 2)) := by
  have h0 : (i 0).val < 8 := (i 0).isLt
  have h1 : (i 1).val < 2064 := (i 1).isLt
  have h2 : (i 2).val < 4096 := (i 2).isLt
  rw [val_main_v2_apply, val_main_v1_apply, val_main_v0_apply]
  refine congrArg X ((eq_ix2 _).trans (congrArg₂ ix2 (Fin.ext ?_) (Fin.ext ?_)))
  · show (((i 0).val * 2080 + (16 + (i 1).val)) * 4096 + (i 2).val) / 4096 = r.val
    omega
  · show (((i 0).val * 2080 + (16 + (i 1).val)) * 4096 + (i 2).val) % 4096 = (i 2).val
    omega

/-- The sample's sequences without their unused rows, read at an entry. -/
theorem rows_s (i : S2x8208x4096.Idx) (r : Fin 33280) (hr : r.val = 16640 + 8224 * (i 0).val + 16 + (i 1).val) :
    val_main_v20 (F := Ideal) X i = X (ix2 r (i 2)) := by
  have h0 : (i 0).val < 2 := (i 0).isLt
  have h1 : (i 1).val < 8208 := (i 1).isLt
  have h2 : (i 2).val < 4096 := (i 2).isLt
  rw [val_main_v20_apply, val_main_v19_apply, val_main_v18_apply]
  refine congrArg X ((eq_ix2 _).trans (congrArg₂ ix2 (Fin.ext ?_) (Fin.ext ?_)))
  · show 16640 + (((i 0).val * 8224 + (16 + (i 1).val)) * 4096 + (i 2).val) / 4096 = r.val
    omega
  · show (((i 0).val * 8224 + (16 + (i 1).val)) * 4096 + (i 2).val) % 4096 = (i 2).val
    omega

/-- The prompt's norm, read at an entry. -/
theorem norm_p (i : S8x2064x4096.Idx) (r : Fin 33280) (hr : r.val = 2080 * (i 0).val + 16 + (i 1).val) :
    val_main_v15 (F := Ideal) X G i = normAt (fun k => X (ix2 r k)) (G (ix1 (i 2))) (i 2) := by
  have er : ∀ k : Fin 4096, val_main_v2 (F := Ideal) X (idx_main_v4 (idx_main_v5 (idx_main_v11 i)) k) = X (ix2 r k) := fun k =>
    rows_p X _ r hr
  have eg : val_main_v14 (F := Ideal) G i = G (ix1 (i 2)) := by
    rw [val_main_v14_apply, val_main_v13_apply]
    exact congrArg G (funext fun a => Fin.ext (match a with | ⟨0, _⟩ => rfl))
  rw [val_main_v15_apply, val_main_v12_apply, eg, rows_p X i r hr, val_main_v11_apply, val_main_v10_apply, val_main_v9_apply,
    val_main_v8_apply, val_main_cst_1_apply, val_main_v7_apply, val_main_v6_apply, val_main_cst_0_apply, val_main_v5_apply,
    val_main_v4_apply, val_main_cst_apply]
  simp only [val_main_v3_apply, er]
  exact norm_eq (fun k => X (ix2 r k)) (G (ix1 (i 2))) (i 2)

/-- The sample's norm, read at an entry. -/
theorem norm_s (i : S2x8208x4096.Idx) (r : Fin 33280) (hr : r.val = 16640 + 8224 * (i 0).val + 16 + (i 1).val) :
    val_main_v33 (F := Ideal) X G i = normAt (fun k => X (ix2 r k)) (G (ix1 (i 2))) (i 2) := by
  have er : ∀ k : Fin 4096, val_main_v20 (F := Ideal) X (idx_main_v22 (idx_main_v23 (idx_main_v29 i)) k) = X (ix2 r k) := fun k =>
    rows_s X _ r hr
  have eg : val_main_v32 (F := Ideal) G i = G (ix1 (i 2)) := by
    rw [val_main_v32_apply, val_main_v31_apply]
    exact congrArg G (funext fun a => Fin.ext (match a with | ⟨0, _⟩ => rfl))
  rw [val_main_v33_apply, val_main_v30_apply, eg, rows_s X i r hr, val_main_v29_apply, val_main_v28_apply, val_main_v27_apply,
    val_main_v26_apply, val_main_cst_4_apply, val_main_v25_apply, val_main_v24_apply, val_main_cst_3_apply, val_main_v23_apply,
    val_main_v22_apply, val_main_cst_2_apply]
  simp only [val_main_v21_apply, er]
  exact norm_eq (fun k => X (ix2 r k)) (G (ix1 (i 2))) (i 2)

/-- The value that pads the rows before a sequence: zero. -/
theorem pad_p (j : S_.Idx) : (val_main_call0_v0 (F := Ideal) : S_.Idx → EReal) j = 0 := by
  show (((0#32 : BitVec 32).toInt : ℝ) : EReal) = 0
  simp

/-- The same, of the sample. -/
theorem pad_s (j : S_.Idx) : (val_main_call1_v0 (F := Ideal) : S_.Idx → EReal) j = 0 := by
  show (((0#32 : BitVec 32).toInt : ℝ) : EReal) = 0
  simp

/-- A piece of three below one another, read at an entry: the first. -/
theorem piece0 (i : S33280x4096.Idx) (h : (i 0).val < 16640) :
    val_main_v37 (F := Ideal) X G i = val_main_v17 (F := Ideal) X G (ix2 ⟨(i 0).val, h⟩ (i 1)) := by
  unfold val_main_v37
  exact concatenate_apply_piece 0 _ _ i 0 (by show 0 < 3; decide) S16640x4096 _ rfl rfl 0 rfl _ (fun b hb => match b with
    | ⟨0, _⟩ => absurd rfl hb
    | ⟨1, _⟩ => rfl) (Nat.zero_add _)

/-- The second. -/
theorem piece1 (i : S33280x4096.Idx) (h1 : 16640 ≤ (i 0).val) (h2 : (i 0).val < 33088) :
    val_main_v37 (F := Ideal) X G i = val_main_v35 (F := Ideal) X G (ix2 ⟨(i 0).val - 16640, by omega⟩ (i 1)) := by
  unfold val_main_v37
  exact concatenate_apply_piece 0 _ _ i 1 (by show 1 < 3; decide) S16448x4096 _ rfl rfl 16640 rfl _ (fun b hb => match b with
    | ⟨0, _⟩ => absurd rfl hb
    | ⟨1, _⟩ => rfl) (by show 16640 + ((i 0).val - 16640) = (i 0).val; omega)

/-- The third. -/
theorem piece2 (i : S33280x4096.Idx) (h : 33088 ≤ (i 0).val) :
    val_main_v37 (F := Ideal) X G i
      = val_main_v36 (F := Ideal) (ix2 ⟨(i 0).val - 33088, by have : (i 0).val < 33280 := (i 0).isLt; omega⟩ (i 1)) := by
  unfold val_main_v37
  exact concatenate_apply_piece 0 _ _ i 2 (by show 2 < 3; decide) S192x4096 _ rfl rfl 33088 rfl _ (fun b hb => match b with
    | ⟨0, _⟩ => absurd rfl hb
    | ⟨1, _⟩ => rfl) (by show 33088 + ((i 0).val - 33088) = (i 0).val; omega)

/-- The prompt's part of the output, read at an entry. -/
theorem part_p (a : Fin 16640) (b : Fin 4096) : val_main_v17 (F := Ideal) X G (ix2 a b)
    = if 16 ≤ a.val % 2080 then normAt (fun k => X (ix2 ⟨a.val, by omega⟩ k)) (G (ix1 b)) b else 0 := by
  have ha := a.isLt
  have hb := b.isLt
  rw [val_main_v17_apply]
  unfold val_main_v16
  have j1 : (a.val * 4096 + b.val) / 4096 % 2080 = a.val % 2080 := by omega
  by_cases h : 16 ≤ a.val % 2080
  · rw [if_pos h]
    refine (pad_apply_of_inside _ _ _ _ _ _ _ _ (ix3 ⟨a.val / 2080, by omega⟩ ⟨a.val % 2080 - 16, by omega⟩ b) (fun d => match d with
      | ⟨0, _⟩ => by show (a.val * 4096 + b.val) / 8519680 = 0 + a.val / 2080 * (0 + 1); omega
      | ⟨1, _⟩ => by show (a.val * 4096 + b.val) / 4096 % 2080 = 16 + (a.val % 2080 - 16) * (0 + 1); omega
      | ⟨2, _⟩ => by show (a.val * 4096 + b.val) % 4096 = 0 + b.val * (0 + 1); omega)).trans ?_
    exact norm_p X G _ ⟨a.val, by omega⟩ (by show a.val = 2080 * (a.val / 2080) + 16 + (a.val % 2080 - 16); omega)
  · rw [if_neg h]
    refine (pad_apply_of_not_inside _ _ _ _ _ _ _ _ 1 ?_).trans (pad_p _)
    rintro ⟨h1, -⟩
    exact h (j1 ▸ h1)

/-- The sample's part of the output, read at an entry. -/
theorem part_s (a : Fin 16448) (b : Fin 4096) : val_main_v35 (F := Ideal) X G (ix2 a b)
    = if 16 ≤ a.val % 8224 then normAt (fun k => X (ix2 ⟨16640 + a.val, by omega⟩ k)) (G (ix1 b)) b else 0 := by
  have ha := a.isLt
  have hb := b.isLt
  rw [val_main_v35_apply]
  unfold val_main_v34
  have j1 : (a.val * 4096 + b.val) / 4096 % 8224 = a.val % 8224 := by omega
  by_cases h : 16 ≤ a.val % 8224
  · rw [if_pos h]
    refine (pad_apply_of_inside _ _ _ _ _ _ _ _ (ix3 ⟨a.val / 8224, by omega⟩ ⟨a.val % 8224 - 16, by omega⟩ b) (fun d => match d with
      | ⟨0, _⟩ => by show (a.val * 4096 + b.val) / 33685504 = 0 + a.val / 8224 * (0 + 1); omega
      | ⟨1, _⟩ => by show (a.val * 4096 + b.val) / 4096 % 8224 = 16 + (a.val % 8224 - 16) * (0 + 1); omega
      | ⟨2, _⟩ => by show (a.val * 4096 + b.val) % 4096 = 0 + b.val * (0 + 1); omega)).trans ?_
    exact norm_s X G _ ⟨16640 + a.val, by omega⟩ (by
      show 16640 + a.val = 16640 + 8224 * (a.val / 8224) + 16 + (a.val % 8224 - 16); omega)
  · rw [if_neg h]
    refine (pad_apply_of_not_inside _ _ _ _ _ _ _ _ 1 ?_).trans (pad_s _)
    rintro ⟨h1, -⟩
    exact h (j1 ▸ h1)

/-- The reference's output as a function of its two arguments. -/
abbrev refOut : FVec Ideal S33280x4096 .bf16 := val_main_v38 (F := Ideal) X G

/-- The reference's output, read at an entry. -/
theorem ref_at (i : S33280x4096.Idx) : refOut X G i = rowsOut X G i := by
  have h0 : (i 0).val < 33280 := (i 0).isLt
  unfold rowsOut
  refine (val_main_v38_apply (F := Ideal) X G i).trans ?_
  show val_main_v37 (F := Ideal) X G i = _
  by_cases h1 : (i 0).val < 16640
  · have hc : HasTok (i 0).val ↔ 16 ≤ (i 0).val % 2080 := by unfold HasTok; omega
    refine (piece0 X G i h1).trans ((part_p X G _ _).trans ?_)
    exact (if_congr hc rfl rfl).symm
  by_cases h2 : (i 0).val < 33088
  · have hc : HasTok (i 0).val ↔ 16 ≤ ((i 0).val - 16640) % 8224 := by unfold HasTok; omega
    have er : (⟨16640 + ((i 0).val - 16640), by omega⟩ : Fin 33280) = i 0 := Fin.ext (by
      show 16640 + ((i 0).val - 16640) = (i 0).val; omega)
    refine (piece1 X G i (by omega) h2).trans ((part_s X G _ _).trans ?_)
    refine (if_congr hc ?_ rfl).symm
    exact congrArg (fun r : Fin 33280 => normAt (fun k => X (ix2 r k)) (G (ix1 (i 1))) (i 1)) er.symm
  · have hc : ¬HasTok (i 0).val := by unfold HasTok; omega
    rw [piece2 X G i (by omega), if_neg hc, val_main_v36_apply, val_main_cst_6_apply]
    exact Ideal.ofBits_zero .f32

end Cert.NormRows

end
-- ==== Proof.NormRows.lean ====
/-
  The norm before a product: the kernel's output array is, entry by entry, the reference's, the norm on the rows that hold a
  token and zero on the others.
-/
module

public import proofs.«01_k».proof.Defs
public import proofs.«01_k».proof.Proof.Norm
public import proofs.«01_k».proof.Proof.NormValid
public import proofs.«01_k».proof.Proof.NormRowsRef
public import proofs.«01_k».proof.Proof.Gen.Kernel9.Frame
public import proofs.«01_k».proof.Proof.Gen.Kernel9Ideal.Value
public import proofs.«01_k».proof.Proof.Gen.Reference9Ideal.Run
public import Idealize.ShloMosaic.Adequacy
public import Idealize.ShloMosaic.Init

@[expose] public section

noncomputable section

namespace Cert.NormRows

open Idealize.ShloMosaic Idealize.ShloMosaic.Pipeline Idealize.SL.Sem Cert.Kernel9Ideal Cert.Kernel9Ideal.Gen
open Cert.Norm (normAt weights_row)

/-- The input's block at a grid point: 256 rows, every column. -/
theorem index0 : ∀ t : Fin cfg0.N, win0_0.index t 0 = t.val ∧ win0_0.index t 1 = 0 := by decide +kernel

/-- The mask's block at a grid point. -/
theorem index1 : ∀ t : Fin cfg0.N, win0_1.index t 0 = t.val ∧ win0_1.index t 1 = 0 := by decide +kernel

/-- The weights' block at a grid point: all of them. -/
theorem index2 : ∀ t : Fin cfg0.N, win0_2.index t 0 = 0 ∧ win0_2.index t 1 = 0 := by decide +kernel

/-- The output's block at a grid point. -/
theorem index3 : ∀ t : Fin cfg0.N, win0_3.index t 0 = t.val ∧ win0_3.index t 1 = 0 := by decide +kernel

/-- The block a grid point stores, read at an entry: the norm of the row where the mask is positive, zero elsewhere. -/
theorem out_at (x0 : Vec Ideal S256x4096 .f32) (x1 : Vec Ideal S256x128 .f32) (x2 : Vec Ideal S1x4096 .f32) (a : Fin 256)
    (b : Fin 4096) : out0_3 (F := Ideal) x0 x1 x2 (ix2 a b)
      = if 0 < x1 (ix2 a 0) then normAt (fun k => x0 (ix2 a k)) (x2 (ix2 0 b)) b else 0 := by
  unfold out0_3
  rw [View.canon_cons_unit_lit _ _ _ (by decide), View.ld_unit_lit _ _ (by decide), View.ld_unit_lit _ _ (by decide),
    View.ld_unit_lit _ _ (by decide)]
  unfold normAt
  pointwise [k0_pay1]

/-- A block computed from the arrays' entries holds the output array's entry. -/
theorem block_of (X : S33280x4096.Idx → EReal) (G : S4096.Idx → EReal) (x0 : Vec Ideal S256x4096 .f32)
    (x1 : Vec Ideal S256x128 .f32) (x2 : Vec Ideal S1x4096 .f32) (a : Fin 256) (b : Fin 4096) (i : S33280x4096.Idx)
    (hb : b = i 1) (h0 : ∀ k : Fin 4096, x0 (ix2 a k) = X (ix2 (i 0) k)) (h1 : 0 < x1 (ix2 a 0) ↔ HasTok (i 0).val)
    (h2 : x2 (ix2 0 b) = G (ix1 b)) : out0_3 (F := Ideal) x0 x1 x2 (ix2 a b) = rowsOut X G i := by
  rw [out_at, h2, funext h0, hb]
  unfold rowsOut
  by_cases h : HasTok (i 0).val
  · rw [if_pos (h1.2 h), if_pos h]
  · rw [if_neg (fun e => h (h1.1 e)), if_neg h]

variable (m : (ℓ : Loc nD τ sig) → Buf (Elt Ideal) ℓ) (c : Dev nD)

/-- The hidden states a device is launched with. -/
def argX : S33280x4096.Idx → EReal := m (c.tc.loc main_arg0)

/-- The weights it is launched with. -/
def argG : S4096.Idx → EReal := m (c.tc.loc main_arg1)

/-- The host code's row of weights is the weights. -/
theorem V_main_v29 (b : Fin 4096) : (V m c main_v29 : S1x4096.Idx → EReal) (ix2 0 b) = argG m c (ix1 b) := by
  unfold V
  simp only [List.flatten_cons, List.flatten_nil, List.append_nil, List.cons_append, List.nil_append]
  after_results
  exact weights_row (argG m c) b

/-- Window 0's block, read off the hidden states. -/
theorem blk0 (t : Fin cfg0.N) (a : Fin 256) (k : Fin 4096) (r : Fin 33280) (hr : r.val = t.val * 256 + a.val) :
    (iblk m c 0 t : S256x4096.Idx → EReal) (ix2 a k) = argX m c (ix2 r k) := by
  unfold iblk
  rw [View.read_apply]
  show V m c main_arg0 _ = _
  rw [V_main_arg0]
  refine congrArg (argX m c) ((eq_ix2 _).trans (congrArg₂ ix2 (Fin.ext ?_) (Fin.ext ?_)))
  · show win0_0.index t 0 * 256 + 1 * a.val = _
    rw [(index0 t).1, Nat.one_mul, hr]
  · show win0_0.index t 1 * 4096 + 1 * k.val = _
    rw [(index0 t).2, Nat.one_mul, Nat.zero_mul, Nat.zero_add]

/-- Window 1's block, read off the mask. -/
theorem blk1 (t : Fin cfg0.N) (a : Fin 256) (r : Fin 33280) (hr : r.val = t.val * 256 + a.val) :
    (iblk m c 1 t : S256x128.Idx → EReal) (ix2 a 0) = maskV m c (ix2 r 0) := by
  unfold iblk
  rw [View.read_apply]
  refine congrArg (maskV m c) ((eq_ix2 _).trans (congrArg₂ ix2 (Fin.ext ?_) (Fin.ext ?_)))
  · show win0_1.index t 0 * 256 + 1 * a.val = _
    rw [(index1 t).1, Nat.one_mul, hr]
  · show win0_1.index t 1 * 128 + 1 * 0 = _
    rw [(index1 t).2]
    rfl

/-- Window 2's block, read off the weights. -/
theorem blk2 (t : Fin cfg0.N) (b : Fin 4096) : (iblk m c 2 t : S1x4096.Idx → EReal) (ix2 0 b) = argG m c (ix1 b) := by
  unfold iblk
  rw [View.read_apply, ← V_main_v29]
  refine congrArg (V m c main_v29 : S1x4096.Idx → EReal) ((eq_ix2 _).trans (congrArg₂ ix2 (Fin.ext ?_) (Fin.ext ?_)))
  · show win0_2.index t 0 * 1 + 1 * 0 = _
    rw [(index2 t).1]
    rfl
  · show win0_2.index t 1 * 4096 + 1 * b.val = _
    rw [(index2 t).2, Nat.one_mul, Nat.zero_mul, Nat.zero_add]

/-- The output array. -/
def outG : S33280x4096.Idx → EReal := rowsOut (argX m c) (argG m c)

/-- What a grid point writes back is its block of the output array. -/
theorem flushed_eq (t : Fin cfg0.N) :
    (dats m 0 c).flushed 3 t = ((cfg0.win 3).blk t).view.read (Elt Ideal) (outG m c) := by
  rw [Value.flushed3]
  funext y
  rw [View.read_apply]
  obtain ⟨i0, i1⟩ := index3 t
  have e0 : ((((cfg0.win 3).blk t).view.emb y) 0).val = t.val * 256 + (y 0).val := by
    show win0_3.index t 0 * 256 + 1 * (y 0).val = _
    rw [i0, Nat.one_mul]
  have e1 : ((((cfg0.win 3).blk t).view.emb y) 1).val = (y 1).val := by
    show win0_3.index t 1 * 4096 + 1 * (y 1).val = _
    rw [i1, Nat.one_mul, Nat.zero_mul, Nat.zero_add]
  show out0_3 (F := Ideal) _ _ _ y = outG m c _
  refine (congrArg _ (eq_ix2 y)).trans ?_
  exact block_of (argX m c) (argG m c) _ _ _ (y 0) (y 1) _ (Fin.ext e1.symm) (fun k => blk0 m c t _ k _ e0)
    ((iff_of_eq (congrArg (fun z : EReal => 0 < z) (blk1 m c t _ _ e0))).trans (maskV_pos m c _ 0)) (blk2 m c t _)

/-- THE OUTPUT ARRAY at the end of the grid. -/
theorem final : (dats m 0 c).arrAt 3 cfg0.N = outG m c :=
  (dats m 0 c).arrAt_eq_of_cover 3 (outG m c) (fun t _ => flushed_eq m c t) fun i => by
    have h0 : (i 0).val < 33280 := (i 0).isLt
    have h1 : (i 1).val < 4096 := (i 1).isLt
    have ht : (i 0).val / 256 < 130 := by omega
    refine ⟨⟨_, ht⟩, flush0_3 _, ?_⟩
    show i ∈ ((View.whole main_v30).slice (win0_3.rect ⟨_, ht⟩)).set
    rw [View.set_slice_whole, Rect.mem_set_unit]
    obtain ⟨i0, i1⟩ := index3 ⟨_, ht⟩
    intro a
    match a with
    | ⟨0, _⟩ =>
      show win0_3.index ⟨_, ht⟩ 0 * 256 ≤ (i 0).val ∧ (i 0).val < win0_3.index ⟨_, ht⟩ 0 * 256 + 256
      rw [i0]
      show (i 0).val / 256 * 256 ≤ (i 0).val ∧ (i 0).val < (i 0).val / 256 * 256 + 256
      omega
    | ⟨1, _⟩ =>
      show win0_3.index ⟨_, ht⟩ 1 * 4096 ≤ (i 1).val ∧ (i 1).val < win0_3.index ⟨_, ht⟩ 1 * 4096 + 4096
      rw [i1]
      omega

/-- The kernel's output array is the reference's. -/
theorem ker_out : outG m c = refOut (m (c.tc.loc main_arg0)) (m (c.tc.loc main_arg1)) :=
  funext fun i => (ref_at _ _ i).symm

/-- The kernel's frame. -/
theorem frame_p : Cert.quiescent_Kernel9 := fun m g _ => Cert.Kernel9.Gen.frame m g

/-- The ideal kernel's frame. -/
theorem frame_pi : Cert.quiescent_Kernel9Ideal := fun m g _ => Cert.Kernel9Ideal.Gen.frame m g

/-- The reference's frame. -/
theorem frame_ri : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

/-- THE VALUE: kernel and reference compute the same function of the arguments. -/
theorem algebraic : Cert.algebraic_Kernel9Ideal_Reference9Ideal := by
  intro m g m' g' _ hagree
  refine ⟨fun c => refOut (m (c.tc.loc main_arg0)) (m (c.tc.loc main_arg1)), ?_, ?_⟩
  · exact (θ_run Cert.Kernel9Ideal.defs _ _).mono
      (fun _ h c => ⟨((h c).1.trans (final m c)).trans (ker_out m c), (h c).2.1, (h c).2.2⟩)
      (Value.run_blocks m g)
  · refine (θ_run Cert.Reference9Ideal.defs _ _).mono (fun _ h c => ⟨(h c).1.trans ?_, (h c).2⟩)
      (Cert.Reference9Ideal.Value.run (F := Ideal) m' g')
    rw [Cert.Reference9Ideal.Read.val_main_v38_eq]
    obtain ⟨a0, a1⟩ := hagree c
    rw [a0, a1]

end Cert.NormRows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.AttnClaims
public import proofs.«01_k».proof.Proof.Down
public import proofs.«01_k».proof.Proof.Qkv
public import proofs.«01_k».proof.Proof.Out
public import proofs.«01_k».proof.Proof.Up
public import proofs.«01_k».proof.Proof.UpTransfer
public import proofs.«01_k».proof.Proof.Hy
public import proofs.«01_k».proof.Proof.HyTransfer
public import proofs.«01_k».proof.Proof.NormPrompt
public import proofs.«01_k».proof.Proof.NormSample
public import proofs.«01_k».proof.Proof.NormRows
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Reference4Ideal
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Reference5Ideal.Run
public import proofs.«01_k».proof.Proof.Gen.Reference5Ideal.Read
public import proofs.«01_k».proof.Proof.Gen.On_columns_written
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_finite.Gen.facts, Cert.On_columns_written.Gen.facts,
    Attn.Claims.frame_p, Attn.Claims.frame_pi, Attn.Claims.frame_pi_finite, Attn.Claims.frame_ri, Attn.Claims.frame_ri_finite,
    Down.frame_p, Down.frame_pi, Down.frame_ri, Qkv.frame_p, Qkv.frame_pi, Qkv.frame_ri,
    Out.frame_p, Out.frame_pi, Out.frame_ri, Up.frame_p, Up.frame_pi, Up.frame_ri,
    Hy.frame_p, Hy.frame_pi, Hy.frame_ri, NormPrompt.frame_p, NormPrompt.frame_pi, NormPrompt.frame_ri,
    NormSample.frame_p, NormSample.frame_pi, NormSample.frame_ri,
    NormRows.frame_p, NormRows.frame_pi, NormRows.frame_ri,
    trivial, Attn.Claims.algebraic, trivial, Down.algebraic, trivial, Qkv.algebraic, trivial, Out.algebraic,
    trivial, Up.algebraic, trivial, Hy.algebraic, trivial, NormPrompt.algebraic, trivial, NormSample.algebraic,
    trivial, NormRows.algebraic⟩

end Cert.Proof

end
